-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "mask" .f32 0xCE6E6B28#32 ⊥

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![512, 256]⟩ ⟨2, ![512, 1024]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨4, ![2, 128, 16, 64]⟩ ⟨4, ![2, 512, 16, 64]⟩ 1 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![2, 128, 16, 64]⟩ ⟨4, ![2, 512, 16, 64]⟩ 1 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![256, 512]⟩ ⟨2, ![1024, 512]⟩ 0 4 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v38) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S2x128x512 : Shape := ⟨3, ![2, 128, 512]⟩
abbrev S512x256 : Shape := ⟨2, ![512, 256]⟩
abbrev S2x128x16x64 : Shape := ⟨4, ![2, 128, 16, 64]⟩
abbrev S256x512 : Shape := ⟨2, ![256, 512]⟩
abbrev S_ : Shape := ⟨0, ![]⟩

class Facts : Prop where
  bcast_S_S2x128x512 : S_.BroadcastsInDim S2x128x512 (![] : Fin 0 → Fin S2x128x512.rank)
  reducesTo_S2x128x512_S_d0_1_2 : S2x128x512.ReducesTo [0, 1, 2] S_
  h_S_ : 0 < S_.numel
  bcast_S_S512x256 : S_.BroadcastsInDim S512x256 (![] : Fin 0 → Fin S512x256.rank)
  reducesTo_S512x256_S_d0_1 : S512x256.ReducesTo [0, 1] S_
  bcast_S_S2x128x16x64 : S_.BroadcastsInDim S2x128x16x64 (![] : Fin 0 → Fin S2x128x16x64.rank)
  reducesTo_S2x128x16x64_S_d0_1_2_3 : S2x128x16x64.ReducesTo [0, 1, 2, 3] S_

variable [Facts]

def fn {F : FTy → Type} [FloatOps F] (main_arg0 : FVec F S2x128x512 .bf16) (main_arg1 : FVec F S512x256 .bf16) (main_arg2 : FVec F S2x128x16x64 .bf16) (main_arg3 : FVec F S2x128x16x64 .bf16) (main_arg4 : FVec F S256x512 .bf16) : IVec S_ 1 :=
  let main_v0 : FVec F S2x128x512 .bf16 := Host.absf main_arg0
  let main_cst : FVec F S_ .bf16 := constant S_ .bf16 0x7F80#16
  let main_v1 : FVec F S2x128x512 .bf16 := broadcastInDim S2x128x512 ![] bcast_S_S2x128x512 main_cst
  let main_v2 : IVec S2x128x512 1 := cmpf .olt main_v0 main_v1
  let main_c : IVec S_ 1 := constantI S_ 1 1#1
  let main_v3 : IVec S_ 1 := (fun x v => Host.reduce IntOp.andi x v reducesTo_S2x128x512_S_d0_1_2 h_S_) main_v2 main_c
  let main_v4 : FVec F S512x256 .bf16 := Host.absf main_arg1
  let main_cst_0 : FVec F S_ .bf16 := constant S_ .bf16 0x7F80#16
  let main_v5 : FVec F S512x256 .bf16 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S2x128x16x64 .bf16 := Host.absf main_arg2
  let main_cst_2 : FVec F S_ .bf16 := constant S_ .bf16 0x7F80#16
  let main_v10 : FVec F S2x128x16x64 .bf16 := broadcastInDim S2x128x16x64 ![] bcast_S_S2x128x16x64 main_cst_2
  let main_v11 : IVec S2x128x16x64 1 := cmpf .olt main_v9 main_v10
  let main_c_3 : IVec S_ 1 := constantI S_ 1 1#1
  let main_v12 : IVec S_ 1 := (fun x v => Host.reduce IntOp.andi x v reducesTo_S2x128x16x64_S_d0_1_2_3 h_S_) main_v11 main_c_3
  let main_v13 : IVec S_ 1 := andi main_v8 main_v12
  main_v13
-- ==== Pre_finite_ReferenceIdeal.lean ====
abbrev S2x128x512 : Shape := ⟨3, ![2, 128, 512]⟩
abbrev S512x1024 : Shape := ⟨2, ![512, 1024]⟩
abbrev S2x512x16x64 : Shape := ⟨4, ![2, 512, 16, 64]⟩
abbrev S1024x512 : Shape := ⟨2, ![1024, 512]⟩
abbrev S_ : Shape := ⟨0, ![]⟩

class Facts : Prop where
  bcast_S_S2x128x512 : S_.BroadcastsInDim S2x128x512 (![] : Fin 0 → Fin S2x128x512.rank)
  reducesTo_S2x128x512_S_d0_1_2 : S2x128x512.ReducesTo [0, 1, 2] S_
  h_S_ : 0 < S_.numel
  bcast_S_S512x1024 : S_.BroadcastsInDim S512x1024 (![] : Fin 0 → Fin S512x1024.rank)
  reducesTo_S512x1024_S_d0_1 : S512x1024.ReducesTo [0, 1] S_
  bcast_S_S2x512x16x64 : S_.BroadcastsInDim S2x512x16x64 (![] : Fin 0 → Fin S2x512x16x64.rank)
  reducesTo_S2x512x16x64_S_d0_1_2_3 : S2x512x16x64.ReducesTo [0, 1, 2, 3] S_

variable [Facts]

def fn {F : FTy → Type} [FloatOps F] (main_arg0 : FVec F S2x128x512 .bf16) (main_arg1 : FVec F S512x1024 .bf16) (main_arg2 : FVec F S2x512x16x64 .bf16) (main_arg3 : FVec F S2x512x16x64 .bf16) (main_arg4 : FVec F S1024x512 .bf16) : IVec S_ 1 :=
  let main_v0 : FVec F S2x128x512 .bf16 := Host.absf main_arg0
  let main_cst : FVec F S_ .bf16 := constant S_ .bf16 0x7F80#16
  let main_v1 : FVec F S2x128x512 .bf16 := broadcastInDim S2x128x512 ![] bcast_S_S2x128x512 main_cst
  let main_v2 : IVec S2x128x512 1 := cmpf .olt main_v0 main_v1
  let main_c : IVec S_ 1 := constantI S_ 1 1#1
  let main_v3 : IVec S_ 1 := (fun x v => Host.reduce IntOp.andi x v reducesTo_S2x128x512_S_d0_1_2 h_S_) main_v2 main_c
  let main_v4 : FVec F S512x1024 .bf16 := Host.absf main_arg1
  let main_cst_0 : FVec F S_ .bf16 := constant S_ .bf16 0x7F80#16
  let main_v5 : FVec F S512x1024 .bf16 := broadcastInDim S512x1024 ![] bcast_S_S512x1024 main_cst_0
  let main_v6 : IVec S512x1024 1 := cmpf .olt main_v4 main_v5
  let main_c_1 : IVec S_ 1 := constantI S_ 1 1#1
  let main_v7 : IVec S_ 1 := (fun x v => Host.reduce IntOp.andi x v reducesTo_S512x1024_S_d0_1 h_S_) main_v6 main_c_1
  let main_v8 : IVec S_ 1 := andi main_v3 main_v7
  let main_v9 : FVec F S2x512x16x64 .bf16 := Host.absf main_arg2
  let main_cst_2 : FVec F S_ .bf16 := constant S_ .bf16 0x7F80#16
  let main_v10 : FVec F S2x512x16x64 .bf16 := broadcastInDim S2x512x16x64 ![] bcast_S_S2x512x16x64 main_cst_2
  let main_v11 : IVec S2x512x16x64 1 := cmpf .olt main_v9 main_v10
  let main_c_3 : IVec S_ 1 := constantI S_ 1 1#1
  let main_v12 : IVec S_ 1 := (fun x v => Host.reduce IntOp.andi x v reducesTo_S2x512x16x64_S_d0_1_2_3 h_S_) main_v11 main_c_3
  let main_v13 : IVec S_ 1 := andi main_v8 main_v12
  main_v13
-- ==== Kernel.lean ====
abbrev S2x128x512 : Shape := ⟨3, ![2, 128, 512]⟩
abbrev S512x256 : Shape := ⟨2, ![512, 256]⟩
abbrev S2x128x16x64 : Shape := ⟨4, ![2, 128, 16, 64]⟩
abbrev S256x512 : Shape := ⟨2, ![256, 512]⟩
abbrev S2x16x128x64 : Shape := ⟨4, ![2, 16, 128, 64]⟩
abbrev S2x2x4x128x64 : Shape := ⟨5, ![2, 2, 4, 128, 64]⟩
abbrev S2x128x256 : Shape := ⟨3, ![2, 128, 256]⟩
abbrev S3x2x128x512 : Shape := ⟨4, ![3, 2, 128, 512]⟩
abbrev S6 : Shape := ⟨1, ![6]⟩
abbrev S2 : Shape := ⟨1, ![2]⟩
abbrev S_ : Shape := ⟨0, ![]⟩
abbrev S1 : Shape := ⟨1, ![1]⟩
abbrev S1x2x4x128x64 : Shape := ⟨5, ![1, 2, 4, 128, 64]⟩
abbrev S2x4x128x64 : Shape := ⟨4, ![2, 4, 128, 64]⟩
abbrev S1x128x512 : Shape := ⟨3, ![1, 128, 512]⟩
abbrev S128x512 : Shape := ⟨2, ![128, 512]⟩
abbrev S128x256 : Shape := ⟨2, ![128, 256]⟩
abbrev S128x128 : Shape := ⟨2, ![128, 128]⟩
abbrev S128x64 : Shape := ⟨2, ![128, 64]⟩
abbrev S1x1x1x128x64 : Shape := ⟨5, ![1, 1, 1, 128, 64]⟩
abbrev S128 : Shape := ⟨1, ![128]⟩
abbrev S128x1 : Shape := ⟨2, ![128, 1]⟩
abbrev S1x128x64 : Shape := ⟨3, ![1, 128, 64]⟩
abbrev S1x128x256 : Shape := ⟨3, ![1, 128, 256]⟩
abbrev S1x1x128x512 : Shape := ⟨4, ![1, 1, 128, 512]⟩

abbrev nBuf : Space → Nat
  | .hbm => 8
  | .vmem => 10
  | .smem => 0
  | _ => 0

abbrev bufTy : (tb : Table) → Fin (tcTables nBuf tb) → BufTy
  | .hbm, ⟨0, _⟩ => ⟨S2x128x512, .bf16⟩
  | .hbm, ⟨1, _⟩ => ⟨S512x256, .bf16⟩
  | .hbm, ⟨2, _⟩ => ⟨S2x128x16x64, .bf16⟩
  | .hbm, ⟨3, _⟩ => ⟨S2x128x16x64, .bf16⟩
  | .hbm, ⟨4, _⟩ => ⟨S256x512, .bf16⟩
  | .hbm, ⟨5, _⟩ => ⟨S2x16x128x64, .bf16⟩
  | .hbm, ⟨6, _⟩ => ⟨S2x16x128x64, .bf16⟩
  | .hbm, ⟨7, _⟩ => ⟨S2x128x512, .f32⟩
  | .local _ .vmem, ⟨0, _⟩ => ⟨S2x128x512, .bf16⟩
  | .local _ .vmem, ⟨1, _⟩ => ⟨S512x256, .bf16⟩
  | .local _ .vmem, ⟨2, _⟩ => ⟨S2x16x128x64, .bf16⟩
  | .local _ .vmem, ⟨3, _⟩ => ⟨S2x16x128x64, .bf16⟩
  | .local _ .vmem, ⟨4, _⟩ => ⟨S256x512, .bf16⟩
  | .local _ .vmem, ⟨5, _⟩ => ⟨S2x128x512, .f32⟩
  | .local _ .vmem, ⟨6, _⟩ => ⟨S2x2x4x128x64, .bf16⟩
  | .local _ .vmem, ⟨7, _⟩ => ⟨S2x128x256, .bf16⟩
  | .local _ .vmem, ⟨8, _⟩ => ⟨S2x128x512, .bf16⟩
  | .local _ .vmem, ⟨9, _⟩ => ⟨S3x2x128x512, .bf16⟩
  | _, _ => ⟨S2x128x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  (ofTc nBuf bufTy 1 26 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let v5 : BitVec 32 := Scalar.remsi v4 c4_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v8 : BitVec 32 := Scalar.addi v2 c2_i32
  let c4_i32_4 : BitVec 32 := 4#32
  let v9 : BitVec 32 := Scalar.remsi v8 c4_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v12 : BitVec 32 := Scalar.addi v2 c3_i32
  let c4_i32_8 : BitVec 32 := 4#32
  let v13 : BitVec 32 := Scalar.remsi v12 c4_i32_8
  let c1_i32_10 : BitVec 32 := 1#32
  let v14 : BitVec 32 := Scalar.muli v13 c1_i32_10
  let v15 : BitVec 32 := Scalar.addi c0_i32_11 v14
  v15.toNat
def k0_cond1 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_13 : BitVec 32 := 0#32
  let v16 : BitVec 1 := Scalar.cmpi .eq v2 c0_i32_13
  let v17 : BitVec 32 := Scalar.extui v16
  let c0_i32_31 : BitVec 32 := 0#32
  let v18 : BitVec 1 := Scalar.cmpi .ne v17 c0_i32_31
  v18

def k0_dev4 : Nat :=
  let c0_i32_506 : BitVec 32 := 0#32
  let c1_i32_504 : BitVec 32 := 1#32
  let c1_i32_505 : BitVec 32 := 1#32
  let v514 : BitVec 32 := Scalar.muli c1_i32_504 c1_i32_505
  let v515 : BitVec 32 := Scalar.addi c0_i32_506 v514
  v515.toNat
def k0_dev5 : Nat :=
  let c0_i32_517 : BitVec 32 := 0#32
  let c1_i32_515 : BitVec 32 := 1#32
  let c1_i32_516 : BitVec 32 := 1#32
  let v523 : BitVec 32 := Scalar.muli c1_i32_515 c1_i32_516
  let v524 : BitVec 32 := Scalar.addi c0_i32_517 v523
  v524.toNat
def k0_dev6 : Nat :=
  let c0_i32_528 : BitVec 32 := 0#32
  let c2_i32_526 : BitVec 32 := 2#32
  let c1_i32_527 : BitVec 32 := 1#32
  let v532 : BitVec 32 := Scalar.muli c2_i32_526 c1_i32_527
  let v533 : BitVec 32 := Scalar.addi c0_i32_528 v532
  v533.toNat
def k0_dev7 : Nat :=
  let c0_i32_538 : BitVec 32 := 0#32
  let c2_i32_536 : BitVec 32 := 2#32
  let c1_i32_537 : BitVec 32 := 1#32
  let v541 : BitVec 32 := Scalar.muli c2_i32_536 c1_i32_537
  let v542 : BitVec 32 := Scalar.addi c0_i32_538 v541
  v542.toNat
def k0_dev8 : Nat :=
  let c0_i32_549 : BitVec 32 := 0#32
  let c3_i32_547 : BitVec 32 := 3#32
  let c1_i32_548 : BitVec 32 := 1#32
  let v550 : BitVec 32 := Scalar.muli c3_i32_547 c1_i32_548
  let v551 : BitVec 32 := Scalar.addi c0_i32_549 v550
  v551.toNat
def k0_dev9 : Nat :=
  let c0_i32_559 : BitVec 32 := 0#32
  let c3_i32_557 : BitVec 32 := 3#32
  let c1_i32_558 : BitVec 32 := 1#32
  let v559 : BitVec 32 := Scalar.muli c3_i32_557 c1_i32_558
  let v560 : BitVec 32 := Scalar.addi c0_i32_559 v559
  v560.toNat
def k0_dev10 (d0 : Dev nD) : Nat :=
  let c0_i32_149 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_60 : BitVec 32 := 1#32
  let v87 : BitVec 32 := Scalar.addi v2 c1_i32_60
  let c4_i32_61 : BitVec 32 := 4#32
  let v88 : BitVec 32 := Scalar.remsi v87 c4_i32_61
  let c1_i32_148 : BitVec 32 := 1#32
  let v200 : BitVec 32 := Scalar.muli v88 c1_i32_148
  let v201 : BitVec 32 := Scalar.addi c0_i32_149 v200
  v201.toNat
def k0_dev11 (d0 : Dev nD) : Nat :=
  let c0_i32_160 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_62 : BitVec 32 := 2#32
  let v89 : BitVec 32 := Scalar.addi v2 c2_i32_62
  let c4_i32_63 : BitVec 32 := 4#32
  let v90 : BitVec 32 := Scalar.remsi v89 c4_i32_63
  let c1_i32_159 : BitVec 32 := 1#32
  let v210 : BitVec 32 := Scalar.muli v90 c1_i32_159
  let v211 : BitVec 32 := Scalar.addi c0_i32_160 v210
  v211.toNat
def k0_dev12 (d0 : Dev nD) : Nat :=
  let c0_i32_171 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_64 : BitVec 32 := 3#32
  let v91 : BitVec 32 := Scalar.addi v2 c3_i32_64
  let c4_i32_65 : BitVec 32 := 4#32
  let v92 : BitVec 32 := Scalar.remsi v91 c4_i32_65
  let c1_i32_170 : BitVec 32 := 1#32
  let v220 : BitVec 32 := Scalar.muli v92 c1_i32_170
  let v221 : BitVec 32 := Scalar.addi c0_i32_171 v220
  v221.toNat
def k0_dev13 (d0 : Dev nD) : Nat :=
  let c0_i32_265 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_60 : BitVec 32 := 1#32
  let v87 : BitVec 32 := Scalar.addi v2 c1_i32_60
  let c4_i32_61 : BitVec 32 := 4#32
  let v88 : BitVec 32 := Scalar.remsi v87 c4_i32_61
  let c1_i32_264 : BitVec 32 := 1#32
  let v337 : BitVec 32 := Scalar.muli v88 c1_i32_264
  let v338 : BitVec 32 := Scalar.addi c0_i32_265 v337
  v338.toNat
def k0_dev14 (d0 : Dev nD) : Nat :=
  let c0_i32_276 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_62 : BitVec 32 := 2#32
  let v89 : BitVec 32 := Scalar.addi v2 c2_i32_62
  let c4_i32_63 : BitVec 32 := 4#32
  let v90 : BitVec 32 := Scalar.remsi v89 c4_i32_63
  let c1_i32_275 : BitVec 32 := 1#32
  let v347 : BitVec 32 := Scalar.muli v90 c1_i32_275
  let v348 : BitVec 32 := Scalar.addi c0_i32_276 v347
  v348.toNat
def k0_dev15 (d0 : Dev nD) : Nat :=
  let c0_i32_287 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_64 : BitVec 32 := 3#32
  let v91 : BitVec 32 := Scalar.addi v2 c3_i32_64
  let c4_i32_65 : BitVec 32 := 4#32
  let v92 : BitVec 32 := Scalar.remsi v91 c4_i32_65
  let c1_i32_286 : BitVec 32 := 1#32
  let v357 : BitVec 32 := Scalar.muli v92 c1_i32_286
  let v358 : BitVec 32 := Scalar.addi c0_i32_287 v357
  v358.toNat
abbrev stage0_0 : Fin 1 → Memref sig .tc .vmem S2x128x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x16x128x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x16x128x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | _ => none
-- ==== ReferenceIdeal.lean ====
abbrev S2x128x512 : Shape := ⟨3, ![2, 128, 512]⟩
abbrev S512x1024 : Shape := ⟨2, ![512, 1024]⟩
abbrev S2x512x16x64 : Shape := ⟨4, ![2, 512, 16, 64]⟩
abbrev S1024x512 : Shape := ⟨2, ![1024, 512]⟩
abbrev S2x128x1024 : Shape := ⟨3, ![2, 128, 1024]⟩
abbrev S2x128x16x64 : Shape := ⟨4, ![2, 128, 16, 64]⟩
abbrev S128 : Shape := ⟨1, ![128]⟩
abbrev S_ : Shape := ⟨0, ![]⟩
abbrev S128x1 : Shape := ⟨2, ![128, 1]⟩
abbrev S512 : Shape := ⟨1, ![512]⟩
abbrev S1x512 : Shape := ⟨2, ![1, 512]⟩
abbrev S128x512 : Shape := ⟨2, ![128, 512]⟩
abbrev S2x16x128x512 : Shape := ⟨4, ![2, 16, 128, 512]⟩
abbrev S1x1x128x512 : Shape := ⟨4, ![1, 1, 128, 512]⟩
abbrev S2x16x128 : Shape := ⟨3, ![2, 16, 128]⟩
abbrev S2x16x128x1 : Shape := ⟨4, ![2, 16, 128, 1]⟩
abbrev S1x1x128x1 : Shape := ⟨4, ![1, 1, 128, 1]⟩
abbrev S2x16x64x128 : Shape := ⟨4, ![2, 16, 64, 128]⟩

abbrev nBuf : Space → Nat
  | .hbm => 94
  | .vmem => 0
  | .smem => 0
  | _ => 0

abbrev bufTy : (tb : Table) → Fin (tcTables nBuf tb) → BufTy
  | .hbm, ⟨0, _⟩ => ⟨S2x128x512, .bf16⟩
  | .hbm, ⟨1, _⟩ => ⟨S512x1024, .bf16⟩
  | .hbm, ⟨2, _⟩ => ⟨S2x512x16x64, .bf16⟩
  | .hbm, ⟨3, _⟩ => ⟨S2x512x16x64, .bf16⟩
  | .hbm, ⟨4, _⟩ => ⟨S1024x512, .bf16⟩
  | .hbm, ⟨5, _⟩ => ⟨S2x128x1024, .f32⟩
  | .hbm, ⟨6, _⟩ => ⟨S2x128x1024, .bf16⟩
  | .hbm, ⟨7, _⟩ => ⟨S2x128x16x64, .bf16⟩
  | .hbm, ⟨8, _⟩ => ⟨S128, .i32⟩
  | .hbm, ⟨9, _⟩ => ⟨S_, .i32⟩
  | .hbm, ⟨10, _⟩ => ⟨S_, .i32⟩
  | .hbm, ⟨11, _⟩ => ⟨S128, .i32⟩
  | .hbm, ⟨12, _⟩ => ⟨S128, .i32⟩
  | .hbm, ⟨13, _⟩ => ⟨S128, .i32⟩
  | .hbm, ⟨14, _⟩ => ⟨S_, .i32⟩
  | .hbm, ⟨15, _⟩ => ⟨S128, .i32⟩
  | .hbm, ⟨16, _⟩ => ⟨S128, .i1⟩
  | .hbm, ⟨17, _⟩ => ⟨S128, .i32⟩
  | .hbm, ⟨18, _⟩ => ⟨S128, .i32⟩
  | .hbm, ⟨19, _⟩ => ⟨S_, .i32⟩
  | .hbm, ⟨20, _⟩ => ⟨S128, .i32⟩
  | .hbm, ⟨21, _⟩ => ⟨S128, .i1⟩
  | .hbm, ⟨22, _⟩ => ⟨S128, .i1⟩
  | .hbm, ⟨23, _⟩ => ⟨S_, .i32⟩
  | .hbm, ⟨24, _⟩ => ⟨S128, .i32⟩
  | .hbm, ⟨25, _⟩ => ⟨S128, .i32⟩
  | .hbm, ⟨26, _⟩ => ⟨S128, .i32⟩
  | .hbm, ⟨27, _⟩ => ⟨S128x1, .i32⟩
  | .hbm, ⟨28, _⟩ => ⟨S512, .i32⟩
  | .hbm, ⟨29, _⟩ => ⟨S_, .i32⟩
  | .hbm, ⟨30, _⟩ => ⟨S_, .i32⟩
  | .hbm, ⟨31, _⟩ => ⟨S512, .i32⟩
  | .hbm, ⟨32, _⟩ => ⟨S512, .i32⟩
  | .hbm, ⟨33, _⟩ => ⟨S512, .i32⟩
  | .hbm, ⟨34, _⟩ => ⟨S_, .i32⟩
  | .hbm, ⟨35, _⟩ => ⟨S512, .i32⟩
  | .hbm, ⟨36, _⟩ => ⟨S512, .i1⟩
  | .hbm, ⟨37, _⟩ => ⟨S512, .i32⟩
  | .hbm, ⟨38, _⟩ => ⟨S512, .i32⟩
  | .hbm, ⟨39, _⟩ => ⟨S_, .i32⟩
  | .hbm, ⟨40, _⟩ => ⟨S512, .i32⟩
  | .hbm, ⟨41, _⟩ => ⟨S512, .i1⟩
  | .hbm, ⟨42, _⟩ => ⟨S512, .i1⟩
  | .hbm, ⟨43, _⟩ => ⟨S_, .i32⟩
  | .hbm, ⟨44, _⟩ => ⟨S512, .i32⟩
  | .hbm, ⟨45, _⟩ => ⟨S512, .i32⟩
  | .hbm, ⟨46, _⟩ => ⟨S512, .i32⟩
  | .hbm, ⟨47, _⟩ => ⟨S1x512, .i32⟩
  | .hbm, ⟨48, _⟩ => ⟨S128x512, .i32⟩
  | .hbm, ⟨49, _⟩ => ⟨S128x512, .i32⟩
  | .hbm, ⟨50, _⟩ => ⟨S128x512, .i1⟩
  | .hbm, ⟨51, _⟩ => ⟨S2x16x128x512, .f32⟩
  | .hbm, ⟨52, _⟩ => ⟨S2x16x128x512, .bf16⟩
  | .hbm, ⟨53, _⟩ => ⟨S2x16x128x512, .f32⟩
  | .hbm, ⟨54, _⟩ => ⟨S_, .f32⟩
  | .hbm, ⟨55, _⟩ => ⟨S2x16x128x512, .f32⟩
  | .hbm, ⟨56, _⟩ => ⟨S2x16x128x512, .f32⟩
  | .hbm, ⟨57, _⟩ => ⟨S1x1x128x512, .i1⟩
  | .hbm, ⟨58, _⟩ => ⟨S_, .f32⟩
  | .hbm, ⟨59, _⟩ => ⟨S_, .f32⟩
  | .hbm, ⟨60, _⟩ => ⟨S2x16x128x512, .i1⟩
  | .hbm, ⟨61, _⟩ => ⟨S2x16x128x512, .f32⟩
  | .hbm, ⟨62, _⟩ => ⟨S2x16x128x512, .f32⟩
  | .hbm, ⟨63, _⟩ => ⟨S_, .f32⟩
  | .hbm, ⟨64, _⟩ => ⟨S2x16x128, .f32⟩
  | .hbm, ⟨65, _⟩ => ⟨S2x16x128x1, .f32⟩
  | .hbm, ⟨66, _⟩ => ⟨S2x16x128x512, .f32⟩
  | .hbm, ⟨67, _⟩ => ⟨S2x16x128x512, .f32⟩
  | .hbm, ⟨68, _⟩ => ⟨S2x16x128x512, .f32⟩
  | .hbm, ⟨69, _⟩ => ⟨S_, .i1⟩
  | .hbm, ⟨70, _⟩ => ⟨S128, .i1⟩
  | .hbm, ⟨71, _⟩ => ⟨S1x1x128x1, .i1⟩
  | .hbm, ⟨72, _⟩ => ⟨S_, .f32⟩
  | .hbm, ⟨73, _⟩ => ⟨S2x16x128, .f32⟩
  | .hbm, ⟨74, _⟩ => ⟨S2x16x128x1, .f32⟩
  | .hbm, ⟨75, _⟩ => ⟨S_, .f32⟩
  | .hbm, ⟨76, _⟩ => ⟨S_, .f32⟩
  | .hbm, ⟨77, _⟩ => ⟨S2x16x128x1, .i1⟩
  | .hbm, ⟨78, _⟩ => ⟨S2x16x128x1, .f32⟩
  | .hbm, ⟨79, _⟩ => ⟨S2x16x128x1, .f32⟩
  | .hbm, ⟨80, _⟩ => ⟨S2x16x128x512, .f32⟩
  | .hbm, ⟨81, _⟩ => ⟨S2x16x128x512, .f32⟩
  | .hbm, ⟨82, _⟩ => ⟨S1x1x128x1, .i1⟩
  | .hbm, ⟨83, _⟩ => ⟨S_, .f32⟩
  | .hbm, ⟨84, _⟩ => ⟨S_, .f32⟩
  | .hbm, ⟨85, _⟩ => ⟨S2x16x128x512, .i1⟩
  | .hbm, ⟨86, _⟩ => ⟨S2x16x128x512, .f32⟩
  | .hbm, ⟨87, _⟩ => ⟨S2x16x128x512, .f32⟩
  | .hbm, ⟨88, _⟩ => ⟨S2x512x16x64, .f32⟩
  | .hbm, ⟨89, _⟩ => ⟨S2x16x64x128, .f32⟩
  | .hbm, ⟨90, _⟩ => ⟨S2x128x16x64, .f32⟩
  | .hbm, ⟨91, _⟩ => ⟨S2x128x1024, .f32⟩
  | .hbm, ⟨92, _⟩ => ⟨S1024x512, .f32⟩
  | .hbm, ⟨93, _⟩ => ⟨S2x128x512, .f32⟩
  | _, _ => ⟨S2x128x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_c : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_0 : Ref sig .tc := ⟨.hbm, 23, rfl⟩
abbrev main_call0_v12 : Ref sig .tc := ⟨.hbm, 24, rfl⟩
abbrev main_call0_v13 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_c_0 : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_v5 : Ref sig .tc := ⟨.hbm, 35, rfl⟩
abbrev main_call1_v6 : Ref sig .tc := ⟨.hbm, 36, rfl⟩
abbrev main_call1_v7 : Ref sig .tc := ⟨.hbm, 37, rfl⟩
abbrev main_call1_v8 : Ref sig .tc := ⟨.hbm, 38, rfl⟩
abbrev main_call1_c : Ref sig .tc := ⟨.hbm, 39, rfl⟩
abbrev main_call1_v9 : Ref sig .tc := ⟨.hbm, 40, rfl⟩
abbrev main_call1_v10 : Ref sig .tc := ⟨.hbm, 41, rfl⟩
abbrev main_call1_v11 : Ref sig .tc := ⟨.hbm, 42, rfl⟩
abbrev main_call1_c_0 : Ref sig .tc := ⟨.hbm, 43, rfl⟩
abbrev main_call1_v12 : Ref sig .tc := ⟨.hbm, 44, rfl⟩
abbrev main_call1_v13 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_v11 : Ref sig .tc := ⟨.hbm, 50, rfl⟩
abbrev main_v12 : Ref sig .tc := ⟨.hbm, 51, rfl⟩
abbrev main_v13 : Ref sig .tc := ⟨.hbm, 52, rfl⟩
abbrev main_v14 : Ref sig .tc := ⟨.hbm, 53, rfl⟩
abbrev main_cst : Ref sig .tc := ⟨.hbm, 54, rfl⟩
abbrev main_v15 : Ref sig .tc := ⟨.hbm, 55, rfl⟩
abbrev main_v16 : Ref sig .tc := ⟨.hbm, 56, rfl⟩
abbrev main_v17 : Ref sig .tc := ⟨.hbm, 57, rfl⟩
abbrev main_cst_1 : Ref sig .tc := ⟨.hbm, 58, rfl⟩
abbrev main_call2_v0 : Ref sig .tc := ⟨.hbm, 59, rfl⟩
abbrev main_call2_v1 : Ref sig .tc := ⟨.hbm, 60, rfl⟩
abbrev main_call2_v2 : Ref sig .tc := ⟨.hbm, 61, rfl⟩
abbrev main_v18 : Ref sig .tc := ⟨.hbm, 62, rfl⟩
abbrev main_cst_2 : Ref sig .tc := ⟨.hbm, 63, rfl⟩
abbrev main_v19 : Ref sig .tc := ⟨.hbm, 64, rfl⟩
abbrev main_v20 : Ref sig .tc := ⟨.hbm, 65, rfl⟩
abbrev main_v21 : Ref sig .tc := ⟨.hbm, 66, rfl⟩
abbrev main_v22 : Ref sig .tc := ⟨.hbm, 67, rfl⟩
abbrev main_v23 : Ref sig .tc := ⟨.hbm, 68, rfl⟩
abbrev main_c_3 : Ref sig .tc := ⟨.hbm, 69, rfl⟩
abbrev main_v24 : Ref sig .tc := ⟨.hbm, 70, rfl⟩
abbrev main_v25 : Ref sig .tc := ⟨.hbm, 71, rfl⟩
abbrev main_cst_4 : Ref sig .tc := ⟨.hbm, 72, rfl⟩
abbrev main_v26 : Ref sig .tc := ⟨.hbm, 73, rfl⟩
abbrev main_v27 : Ref sig .tc := ⟨.hbm, 74, rfl⟩
abbrev main_cst_5 : Ref sig .tc := ⟨.hbm, 75, rfl⟩
abbrev main_call3_v0 : Ref sig .tc := ⟨.hbm, 76, rfl⟩
abbrev main_call3_v1 : Ref sig .tc := ⟨.hbm, 77, rfl⟩
abbrev main_call3_v2 : Ref sig .tc := ⟨.hbm, 78, rfl⟩
abbrev main_v28 : Ref sig .tc := ⟨.hbm, 79, rfl⟩
abbrev main_v29 : Ref sig .tc := ⟨.hbm, 80, rfl⟩
abbrev main_v30 : Ref sig .tc := ⟨.hbm, 81, rfl⟩
abbrev main_v31 : Ref sig .tc := ⟨.hbm, 82, rfl⟩
abbrev main_cst_6 : Ref sig .tc := ⟨.hbm, 83, rfl⟩
abbrev main_call4_v0 : Ref sig .tc := ⟨.hbm, 84, rfl⟩
abbrev main_call4_v1 : Ref sig .tc := ⟨.hbm, 85, rfl⟩
abbrev main_call4_v2 : Ref sig .tc := ⟨.hbm, 86, rfl⟩
abbrev main_v32 : Ref sig .tc := ⟨.hbm, 87, rfl⟩
abbrev main_v33 : Ref sig .tc := ⟨.hbm, 88, rfl⟩
abbrev main_v34 : Ref sig .tc := ⟨.hbm, 89, rfl⟩
abbrev main_v35 : Ref sig .tc := ⟨.hbm, 90, rfl⟩
abbrev main_v36 : Ref sig .tc := ⟨.hbm, 91, rfl⟩
abbrev main_v37 : Ref sig .tc := ⟨.hbm, 92, rfl⟩
abbrev main_v38 : Ref sig .tc := ⟨.hbm, 93, rfl⟩

abbrev nD : Nat := 1
abbrev τ : Topo := Topo.v7x

variable {F : FTy → Type} [FloatOps F]
-- ==== Proof.Values.lean ====
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.Launch
public import Idealize.ShloMosaic.Lib.Pipeline.Kit
public import Idealize.ShloMosaic.Lib.Pipeline.Regions
public import Idealize.ShloMosaic.Lib.Pipeline.FrameBody
public import Idealize.ShloMosaic.Lib.Pipeline.Value
public import Idealize.ShloMosaic.Lib.Pipeline.ValueKit
public import Idealize.ShloMosaic.Lib.PointwiseCore
public import Idealize.ShloMosaic.Lib.Ring
public import Idealize.ShloMosaic.Lib.Tactic
public import Idealize.ShloMosaic.Lib.WordCmp
public import Idealize.ShloMosaic.Lib.Rounds

@[expose] public section

set_option maxRecDepth 16384

noncomputable section

/-! What each buffer of the kernel holds at each moment, as plain functions of the launch's memory, and which indices
of which buffer each memref of the kernel covers. -/

namespace Cert.KIProof

open Cert.KernelIdeal Cert.KernelIdeal.Gen
open Idealize.ShloMosaic Idealize.ShloMosaic.TcCoe
open Idealize.SL Idealize.SL.Sem
open Idealize.ShloMosaic.Pipeline (Dat Cfg Window)

variable {F : FTy → Type} [FloatOps F] [Named F]

/-! ### The peers -/

/-- The device `k + 1` after `c`. -/
def nx (k : Fin 3) (c : Dev nD) : Dev nD := ⟨(c.val + k.val + 1) % 4, Nat.mod_lt _ (by decide)⟩
/-- The device `k + 1` before `c`. -/
def fr (k : Fin 3) (c : Dev nD) : Dev nD := ⟨(c.val + 3 - k.val) % 4, Nat.mod_lt _ (by decide)⟩
/-- The distance backwards that is distance `k` forwards. -/
def rv (k : Fin 3) : Fin 3 := ⟨2 - k.val, by omega⟩

/-- Going forwards by the reversed distance is going backwards. -/
theorem nx_rv : ∀ (k : Fin 3) (c : Dev nD), nx (rv k) c = fr k c := by decide
/-- Forwards and then backwards by the same distance is nowhere. -/
theorem fr_nx : ∀ (k : Fin 3) (c : Dev nD), fr k (nx k c) = c := by decide
/-- Backwards and then forwards by the same distance is nowhere. -/
theorem nx_fr : ∀ (k : Fin 3) (c : Dev nD), nx k (fr k c) = c := by decide
/-- Reversing a distance twice changes nothing. -/
theorem rv_rv : ∀ k : Fin 3, rv (rv k) = k := by decide
/-- A peer is another device. -/
theorem nx_ne : ∀ (k : Fin 3) (c : Dev nD), nx k c ≠ c := by decide

/-! ### The memrefs of the body -/

/-- The block of activations. -/
abbrev xM : Memref sig .tc .vmem S2x128x512 .bf16 := Memref.whole cc0_stg0_0
/-- The block of the query weights. -/
abbrev wqM : Memref sig .tc .vmem S512x256 .bf16 := Memref.whole cc0_stg1_0
/-- The block of keys. -/
abbrev kM : Memref sig .tc .vmem S2x16x128x64 .bf16 := Memref.whole cc0_stg2_0
/-- The block of values. -/
abbrev vM : Memref sig .tc .vmem S2x16x128x64 .bf16 := Memref.whole cc0_stg3_0
/-- The block of the output weights. -/
abbrev woM : Memref sig .tc .vmem S256x512 .bf16 := Memref.whole cc0_stg4_0
/-- The block of the result. -/
abbrev oM : Memref sig .tc .vmem S2x128x512 .f32 := Memref.whole cc0_stg5_0
/-- The key/value buffer. -/
abbrev kvM : Memref sig .tc .vmem S2x2x4x128x64 .bf16 := Memref.whole cc0_scratch0
/-- The buffer of the heads' contexts. -/
abbrev ctM : Memref sig .tc .vmem S2x128x256 .bf16 := Memref.whole cc0_scratch1
/-- The buffer of partial results to send. -/
abbrev stM : Memref sig .tc .vmem S2x128x512 .bf16 := Memref.whole cc0_scratch2
/-- The buffer for incoming partial results. -/
abbrev arM : Memref sig .tc .vmem S3x2x128x512 .bf16 := Memref.whole cc0_scratch3

/-! ### Regions of the buffers -/

/-- Slot `(k, b)` of the buffer for incoming partial results. -/
def slotSet (k : Fin 3) (b : Fin 2) : Finset S3x2x128x512.Idx := Finset.univ.filter fun i => (i 0).val = k.val ∧ (i 1).val = b.val
/-- Row `b` of the staging buffer for outgoing partial results. -/
def rowSet (b : Fin 2) : Finset S2x128x512.Idx := Finset.univ.filter fun i => (i 0).val = b.val
/-- Slot `t` of the key/value buffer: 0 the keys, 1 the values. -/
def kvSet (t : Fin 2) : Finset S2x2x4x128x64.Idx := Finset.univ.filter fun i => (i 0).val = t.val
/-- The four heads of device `j` in a key or value window. -/
def hdSet (j : Fin 4) : Finset S2x16x128x64.Idx := Finset.univ.filter fun i => (i 1).val / 4 = j.val

/-- An index is in slot `(k, b)` when its first two coordinates are `k` and `b`. -/
theorem mem_slotSet {k : Fin 3} {b : Fin 2} {i : S3x2x128x512.Idx} : i ∈ slotSet k b ↔ (i 0).val = k.val ∧ (i 1).val = b.val := by
  simp [slotSet]
/-- An index is in row `b` when its first coordinate is `b`. -/
theorem mem_rowSet {b : Fin 2} {i : S2x128x512.Idx} : i ∈ rowSet b ↔ (i 0).val = b.val := by simp [rowSet]
/-- An index is in key/value slot `t` when its first coordinate is `t`. -/
theorem mem_kvSet {t : Fin 2} {i : S2x2x4x128x64.Idx} : i ∈ kvSet t ↔ (i 0).val = t.val := by simp [kvSet]
/-- An index is among device `j`'s heads when its head's number, divided by four, is `j`. -/
theorem mem_hdSet {j : Fin 4} {i : S2x16x128x64.Idx} : i ∈ hdSet j ↔ (i 1).val / 4 = j.val := by simp [hdSet]

/-- The indices of a unit-stride rectangle at slot `(k, b)`. -/
theorem rect_slot (k : Fin 3) (b : Fin 2) {off : Fin 4 → ℕ} (hoff : off = ![k.val, b.val, 0, 0])
    (inb : ∀ a, off a + S1x1x128x512.size a ≤ S3x2x128x512.size a) :
    (Rect.unit (s := S3x2x128x512) off S1x1x128x512.size inb).set = slotSet k b := by
  subst hoff
  ext i
  rw [Rect.mem_set_unit, mem_slotSet]
  have h0 : (i 0).val < 3 := (i 0).isLt
  have h1 : (i 1).val < 2 := (i 1).isLt
  have h2 : (i 2).val < 128 := (i 2).isLt
  have h3 : (i 3).val < 512 := (i 3).isLt
  constructor
  · intro h
    have a0 := h 0; have a1 := h 1
    simp [S1x1x128x512] at a0 a1
    omega
  · rintro ⟨e0, e1⟩ a
    match a with
    | 0 => simp [S1x1x128x512] <;> omega
    | 1 => simp [S1x1x128x512] <;> omega
    | 2 => simp [S1x1x128x512] <;> omega
    | 3 => simp [S1x1x128x512] <;> omega

/-- The indices of a unit-stride rectangle at row `b`. -/
theorem rect_row (b : Fin 2) {off : Fin 3 → ℕ} (hoff : off = ![b.val, 0, 0])
    (inb : ∀ a, off a + S1x128x512.size a ≤ S2x128x512.size a) :
    (Rect.unit (s := S2x128x512) off S1x128x512.size inb).set = rowSet b := by
  subst hoff
  ext i
  rw [Rect.mem_set_unit, mem_rowSet]
  have h0 : (i 0).val < 2 := (i 0).isLt
  have h1 : (i 1).val < 128 := (i 1).isLt
  have h2 : (i 2).val < 512 := (i 2).isLt
  constructor
  · intro h
    have a0 := h 0
    simp [S1x128x512] at a0
    omega
  · intro e0 a
    match a with
    | 0 => simp [S1x128x512] <;> omega
    | 1 => simp [S1x128x512] <;> omega
    | 2 => simp [S1x128x512] <;> omega

/-- The indices of a unit-stride rectangle at slot `t` of the key/value buffer. -/
theorem rect_kv (t : Fin 2) {off : Fin 5 → ℕ} (hoff : off = ![t.val, 0, 0, 0, 0])
    (inb : ∀ a, off a + S1x2x4x128x64.size a ≤ S2x2x4x128x64.size a) :
    (Rect.unit (s := S2x2x4x128x64) off S1x2x4x128x64.size inb).set = kvSet t := by
  subst hoff
  ext i
  rw [Rect.mem_set_unit, mem_kvSet]
  have h0 : (i 0).val < 2 := (i 0).isLt
  have h1 : (i 1).val < 2 := (i 1).isLt
  have h2 : (i 2).val < 4 := (i 2).isLt
  have h3 : (i 3).val < 128 := (i 3).isLt
  have h4 : (i 4).val < 64 := (i 4).isLt
  constructor
  · intro h
    have a0 := h 0
    simp [S1x2x4x128x64] at a0
    omega
  · intro e0 a
    match a with
    | 0 => simp [S1x2x4x128x64] <;> omega
    | 1 => simp [S1x2x4x128x64] <;> omega
    | 2 => simp [S1x2x4x128x64] <;> omega
    | 3 => simp [S1x2x4x128x64] <;> omega
    | 4 => simp [S1x2x4x128x64] <;> omega

/-- The indices of a unit-stride rectangle at the heads of device `j`. -/
theorem rect_hd (j : Fin 4) {off : Fin 4 → ℕ} (hoff : off = ![0, 4 * j.val, 0, 0])
    (inb : ∀ a, off a + S2x4x128x64.size a ≤ S2x16x128x64.size a) :
    (Rect.unit (s := S2x16x128x64) off S2x4x128x64.size inb).set = hdSet j := by
  subst hoff
  ext i
  rw [Rect.mem_set_unit, mem_hdSet]
  have h0 : (i 0).val < 2 := (i 0).isLt
  have h1 : (i 1).val < 16 := (i 1).isLt
  have h2 : (i 2).val < 128 := (i 2).isLt
  have h3 : (i 3).val < 64 := (i 3).isLt
  constructor
  · intro h
    have a0 := h 1
    simp [S2x4x128x64] at a0
    omega
  · intro e0 a
    match a with
    | 0 => simp [S2x4x128x64] <;> omega
    | 1 => simp [S2x4x128x64] <;> omega
    | 2 => simp [S2x4x128x64] <;> omega
    | 3 => simp [S2x4x128x64] <;> omega

/-- The memref of slot `(k, b)` covers the indices of that slot. -/
theorem slot_set (k : Fin 3) (b : Fin 2) {off : Fin 4 → ℕ} (hoff : off = ![k.val, b.val, 0, 0])
    (inb : ∀ a, off a + S1x1x128x512.size a ≤ S3x2x128x512.size a) (h) (hs) :
    ((arM.slice (Rect.unit (s := S3x2x128x512) off S1x1x128x512.size inb) h).squeeze S128x512 hs).view.set = slotSet k b := by
  rw [← rect_slot k b hoff inb]
  exact (View.set_reshape _ _).trans (View.set_slice_whole _ _)

/-- The memref of row `b` to send covers the indices of that row. -/
theorem row_set (b : Fin 2) {off : Fin 3 → ℕ} (hoff : off = ![b.val, 0, 0])
    (inb : ∀ a, off a + S1x128x512.size a ≤ S2x128x512.size a) (h) (hs) :
    ((stM.slice (Rect.unit (s := S2x128x512) off S1x128x512.size inb) h).squeeze S128x512 hs).view.set = rowSet b := by
  rw [← rect_row b hoff inb]
  exact (View.set_reshape _ _).trans (View.set_slice_whole _ _)

/-- The memref of key/value slot `t` covers the indices of that slot. -/
theorem kv_set (t : Fin 2) {off : Fin 5 → ℕ} (hoff : off = ![t.val, 0, 0, 0, 0])
    (inb : ∀ a, off a + S1x2x4x128x64.size a ≤ S2x2x4x128x64.size a) (h) (hs) :
    ((kvM.slice (Rect.unit (s := S2x2x4x128x64) off S1x2x4x128x64.size inb) h).squeeze S2x4x128x64 hs).view.set = kvSet t := by
  rw [← rect_kv t hoff inb]
  exact (View.set_reshape _ _).trans (View.set_slice_whole _ _)

/-- The memref of device `j`'s heads among the keys covers the indices of those heads. -/
theorem hdK_set (j : Fin 4) {off : Fin 4 → ℕ} (hoff : off = ![0, 4 * j.val, 0, 0])
    (inb : ∀ a, off a + S2x4x128x64.size a ≤ S2x16x128x64.size a) (h) :
    (kM.slice (Rect.unit (s := S2x16x128x64) off S2x4x128x64.size inb) h).view.set = hdSet j := by
  rw [← rect_hd j hoff inb]
  exact View.set_slice_whole _ _

/-- The memref of device `j`'s heads among the values covers the indices of those heads. -/
theorem hdV_set (j : Fin 4) {off : Fin 4 → ℕ} (hoff : off = ![0, 4 * j.val, 0, 0])
    (inb : ∀ a, off a + S2x4x128x64.size a ≤ S2x16x128x64.size a) (h) :
    (vM.slice (Rect.unit (s := S2x16x128x64) off S2x4x128x64.size inb) h).view.set = hdSet j := by
  rw [← rect_hd j hoff inb]
  exact View.set_slice_whole _ _

/-! ### Loads and stores at constant places -/

/-- Contents written through a view agree on its indices with contents that read the same through it. -/
theorem land {κ : Kind} {sp : Space} {s : Shape} {e : EltTy} (v : View sig κ sp s e) (f g : v.ty.Contents (Elt F)) (w : s.Idx → Elt F e)
    (h : v.read (Elt F) g = w) : ∀ i ∈ v.set, v.write (Elt F) f w Finset.univ i = g i := by
  intro i hi
  obtain ⟨x, -, rfl⟩ := Finset.mem_map.mp hi
  rw [View.write_emb_of_mem _ _ (Finset.mem_univ x), ← h, View.read_apply, cast_cast, cast_eq]

/-- What a load of slot `(k, b)` reads. -/
theorem ld_slot (k : Fin 3) (b : Fin 2) {off : Fin 4 → ℕ} (hoff : off = ![k.val, b.val, 0, 0])
    (inb : ∀ a, off a + S1x1x128x512.size a ≤ S3x2x128x512.size a) (f : S3x2x128x512.Idx → Elt F .bf16) :
    arM.view.readAt (Elt F) (Rect.unit (s := S3x2x128x512) off S1x1x128x512.size inb).toLoadRect f
      = fun x => f (ix4 k b (x 2) (x 3)) := by
  subst hoff
  funext x
  refine congrArg f (funext fun a => Fin.ext ?_)
  have h0 : (x 0).val < 1 := (x 0).isLt
  have h1 : (x 1).val < 1 := (x 1).isLt
  refine (ValueKit.rect_emb_unit_val _ _ _ _ _).trans ?_
  match a with
  | 0 => show k.val + (x 0).val = k.val; omega
  | 1 => show b.val + (x 1).val = b.val; omega
  | 2 => show 0 + (x 2).val = (x 2).val; omega
  | 3 => show 0 + (x 3).val = (x 3).val; omega

/-- Head `h` of the four of device `j`, among the sixteen. -/
def hdIx (j : Fin 4) (h : Fin 4) : Fin 16 := ⟨4 * j.val + h.val, by omega⟩

/-- What a load of row `b` to send reads. -/
theorem ld_st (b : Fin 2) {off : Fin 3 → ℕ} (hoff : off = ![b.val, 0, 0])
    (inb : ∀ a, off a + S1x128x512.size a ≤ S2x128x512.size a) (f : S2x128x512.Idx → Elt F .bf16) :
    stM.view.readAt (Elt F) (Rect.unit (s := S2x128x512) off S1x128x512.size inb).toLoadRect f
      = fun x => f (ix3 b (x 1) (x 2)) := by
  subst hoff
  funext x
  refine congrArg f (funext fun a => Fin.ext ?_)
  have h0 : (x 0).val < 1 := (x 0).isLt
  refine (ValueKit.rect_emb_unit_val _ _ _ _ _).trans ?_
  match a with
  | 0 => show b.val + (x 0).val = b.val; omega
  | 1 => show 0 + (x 1).val = (x 1).val; omega
  | 2 => show 0 + (x 2).val = (x 2).val; omega

/-- What a load of row `b` of the result reads. -/
theorem ld_out (b : Fin 2) {off : Fin 3 → ℕ} (hoff : off = ![b.val, 0, 0])
    (inb : ∀ a, off a + S1x128x512.size a ≤ S2x128x512.size a) (f : S2x128x512.Idx → Elt F .f32) :
    oM.view.readAt (Elt F) (Rect.unit (s := S2x128x512) off S1x128x512.size inb).toLoadRect f
      = fun x => f (ix3 b (x 1) (x 2)) := by
  subst hoff
  funext x
  refine congrArg f (funext fun a => Fin.ext ?_)
  have h0 : (x 0).val < 1 := (x 0).isLt
  refine (ValueKit.rect_emb_unit_val _ _ _ _ _).trans ?_
  match a with
  | 0 => show b.val + (x 0).val = b.val; omega
  | 1 => show 0 + (x 1).val = (x 1).val; omega
  | 2 => show 0 + (x 2).val = (x 2).val; omega

/-- What a load of the contexts of batch `b` reads. -/
theorem ld_ct (b : Fin 2) {off : Fin 3 → ℕ} (hoff : off = ![b.val, 0, 0])
    (inb : ∀ a, off a + S1x128x256.size a ≤ S2x128x256.size a) (f : S2x128x256.Idx → Elt F .bf16) :
    ctM.view.readAt (Elt F) (Rect.unit (s := S2x128x256) off S1x128x256.size inb).toLoadRect f
      = fun x => f (ix3 b (x 1) (x 2)) := by
  subst hoff
  funext x
  refine congrArg f (funext fun a => Fin.ext ?_)
  have h0 : (x 0).val < 1 := (x 0).isLt
  refine (ValueKit.rect_emb_unit_val _ _ _ _ _).trans ?_
  match a with
  | 0 => show b.val + (x 0).val = b.val; omega
  | 1 => show 0 + (x 1).val = (x 1).val; omega
  | 2 => show 0 + (x 2).val = (x 2).val; omega

/-- What a load of one head of the keys or values reads. -/
theorem ld_head (t b : Fin 2) (h : Fin 4) {off : Fin 5 → ℕ} (hoff : off = ![t.val, b.val, h.val, 0, 0])
    (inb : ∀ a, off a + S1x1x1x128x64.size a ≤ S2x2x4x128x64.size a) (f : S2x2x4x128x64.Idx → Elt F .bf16) :
    kvM.view.readAt (Elt F) (Rect.unit (s := S2x2x4x128x64) off S1x1x1x128x64.size inb).toLoadRect f
      = fun x => f (ix5 t b h (x 3) (x 4)) := by
  subst hoff
  funext x
  refine congrArg f (funext fun a => Fin.ext ?_)
  have h0 : (x 0).val < 1 := (x 0).isLt
  have h1 : (x 1).val < 1 := (x 1).isLt
  have h2 : (x 2).val < 1 := (x 2).isLt
  refine (ValueKit.rect_emb_unit_val _ _ _ _ _).trans ?_
  match a with
  | 0 => show t.val + (x 0).val = t.val; omega
  | 1 => show b.val + (x 1).val = b.val; omega
  | 2 => show h.val + (x 2).val = h.val; omega
  | 3 => show 0 + (x 3).val = (x 3).val; omega
  | 4 => show 0 + (x 4).val = (x 4).val; omega

/-- What a load of key/value slot `t` reads. -/
theorem ld_kv (t : Fin 2) {off : Fin 5 → ℕ} (hoff : off = ![t.val, 0, 0, 0, 0])
    (inb : ∀ a, off a + S1x2x4x128x64.size a ≤ S2x2x4x128x64.size a) (f : S2x2x4x128x64.Idx → Elt F .bf16) :
    kvM.view.readAt (Elt F) (Rect.unit (s := S2x2x4x128x64) off S1x2x4x128x64.size inb).toLoadRect f
      = fun x => f (ix5 t (x 1) (x 2) (x 3) (x 4)) := by
  subst hoff
  funext x
  refine congrArg f (funext fun a => Fin.ext ?_)
  have h0 : (x 0).val < 1 := (x 0).isLt
  refine (ValueKit.rect_emb_unit_val _ _ _ _ _).trans ?_
  match a with
  | 0 => show t.val + (x 0).val = t.val; omega
  | 1 => show 0 + (x 1).val = (x 1).val; omega
  | 2 => show 0 + (x 2).val = (x 2).val; omega
  | 3 => show 0 + (x 3).val = (x 3).val; omega
  | 4 => show 0 + (x 4).val = (x 4).val; omega

/-- What a load of device `j`'s heads of the keys reads. -/
theorem ld_hdK (j : Fin 4) {off : Fin 4 → ℕ} (hoff : off = ![0, 4 * j.val, 0, 0])
    (inb : ∀ a, off a + S2x4x128x64.size a ≤ S2x16x128x64.size a) (f : S2x16x128x64.Idx → Elt F .bf16) :
    kM.view.readAt (Elt F) (Rect.unit (s := S2x16x128x64) off S2x4x128x64.size inb).toLoadRect f
      = fun x => f (ix4 (x 0) (hdIx j (x 1)) (x 2) (x 3)) := by
  subst hoff
  funext x
  refine congrArg f (funext fun a => Fin.ext ?_)

  refine (ValueKit.rect_emb_unit_val _ _ _ _ _).trans ?_
  match a with
  | 0 => show 0 + (x 0).val = (x 0).val; omega
  | 1 => show 4 * j.val + (x 1).val = 4 * j.val + (x 1).val; omega
  | 2 => show 0 + (x 2).val = (x 2).val; omega
  | 3 => show 0 + (x 3).val = (x 3).val; omega

/-- What a load of device `j`'s heads of the values reads. -/
theorem ld_hdV (j : Fin 4) {off : Fin 4 → ℕ} (hoff : off = ![0, 4 * j.val, 0, 0])
    (inb : ∀ a, off a + S2x4x128x64.size a ≤ S2x16x128x64.size a) (f : S2x16x128x64.Idx → Elt F .bf16) :
    vM.view.readAt (Elt F) (Rect.unit (s := S2x16x128x64) off S2x4x128x64.size inb).toLoadRect f
      = fun x => f (ix4 (x 0) (hdIx j (x 1)) (x 2) (x 3)) := by
  subst hoff
  funext x
  refine congrArg f (funext fun a => Fin.ext ?_)

  refine (ValueKit.rect_emb_unit_val _ _ _ _ _).trans ?_
  match a with
  | 0 => show 0 + (x 0).val = (x 0).val; omega
  | 1 => show 4 * j.val + (x 1).val = 4 * j.val + (x 1).val; omega
  | 2 => show 0 + (x 2).val = (x 2).val; omega
  | 3 => show 0 + (x 3).val = (x 3).val; omega

/-- What slot `(k, b)` holds, through its memref. -/
theorem rd_slot (k : Fin 3) (b : Fin 2) {off : Fin 4 → ℕ} (hoff : off = ![k.val, b.val, 0, 0])
    (inb : ∀ a, off a + S1x1x128x512.size a ≤ S3x2x128x512.size a) (h) (hs) (f : S3x2x128x512.Idx → Elt F .bf16) :
    ((arM.slice (Rect.unit (s := S3x2x128x512) off S1x1x128x512.size inb) h).squeeze S128x512 hs).view.read (Elt F) f
      = fun x => f (ix4 k b (x 0) (x 1)) := by
  have hc : S1x1x128x512.ShapeCasts S128x512 := shapeCasts_S1x1x128x512_S128x512
  refine (Memref.read_squeeze_slice arM _ h hs hc f).trans ?_
  rw [ld_slot k b hoff inb f]
  funext x
  refine (shapeCast_apply _ hc x (ix4 0 0 (x 0) (x 1)) ?_).trans rfl
  simp only [rowMajor_val4, rowMajor_val2]
  simp

/-- What row `b` to send holds, through its memref. -/
theorem rd_row (b : Fin 2) {off : Fin 3 → ℕ} (hoff : off = ![b.val, 0, 0])
    (inb : ∀ a, off a + S1x128x512.size a ≤ S2x128x512.size a) (h) (hs) (f : S2x128x512.Idx → Elt F .bf16) :
    ((stM.slice (Rect.unit (s := S2x128x512) off S1x128x512.size inb) h).squeeze S128x512 hs).view.read (Elt F) f
      = fun x => f (ix3 b (x 0) (x 1)) := by
  have hc : S1x128x512.ShapeCasts S128x512 := shapeCasts_S1x128x512_S128x512
  refine (Memref.read_squeeze_slice stM _ h hs hc f).trans ?_
  rw [ld_st b hoff inb f]
  funext x
  refine (shapeCast_apply _ hc x (ix3 0 (x 0) (x 1)) ?_).trans rfl
  simp only [rowMajor_val3, rowMajor_val2]
  simp

/-- What key/value slot `t` holds, through its memref. -/
theorem rd_kv (t : Fin 2) {off : Fin 5 → ℕ} (hoff : off = ![t.val, 0, 0, 0, 0])
    (inb : ∀ a, off a + S1x2x4x128x64.size a ≤ S2x2x4x128x64.size a) (h) (hs) (f : S2x2x4x128x64.Idx → Elt F .bf16) :
    ((kvM.slice (Rect.unit (s := S2x2x4x128x64) off S1x2x4x128x64.size inb) h).squeeze S2x4x128x64 hs).view.read (Elt F) f
      = fun x => f (ix5 t (x 0) (x 1) (x 2) (x 3)) := by
  have hc : S1x2x4x128x64.ShapeCasts S2x4x128x64 := shapeCasts_S1x2x4x128x64_S2x4x128x64
  refine (Memref.read_squeeze_slice kvM _ h hs hc f).trans ?_
  rw [ld_kv t hoff inb f]
  funext x
  refine (shapeCast_apply _ hc x (ix5 0 (x 0) (x 1) (x 2) (x 3)) ?_).trans rfl
  simp only [rowMajor_val5, rowMajor_val4]
  simp

/-- What the keys of device `j`'s heads are, through their memref. -/
theorem rd_hdK (j : Fin 4) {off : Fin 4 → ℕ} (hoff : off = ![0, 4 * j.val, 0, 0])
    (inb : ∀ a, off a + S2x4x128x64.size a ≤ S2x16x128x64.size a) (h) (f : S2x16x128x64.Idx → Elt F .bf16) :
    (kM.slice (Rect.unit (s := S2x16x128x64) off S2x4x128x64.size inb) h).view.read (Elt F) f
      = fun x => f (ix4 (x 0) (hdIx j (x 1)) (x 2) (x 3)) :=
  ld_hdK j hoff inb f

/-- What the values of device `j`'s heads are, through their memref. -/
theorem rd_hdV (j : Fin 4) {off : Fin 4 → ℕ} (hoff : off = ![0, 4 * j.val, 0, 0])
    (inb : ∀ a, off a + S2x4x128x64.size a ≤ S2x16x128x64.size a) (h) (f : S2x16x128x64.Idx → Elt F .bf16) :
    (vM.slice (Rect.unit (s := S2x16x128x64) off S2x4x128x64.size inb) h).view.read (Elt F) f
      = fun x => f (ix4 (x 0) (hdIx j (x 1)) (x 2) (x 3)) :=
  ld_hdV j hoff inb f

/-! ### Stores -/

/-- Row 0 and row 1 side by side. -/
def mk2 {α : Type} (r0 r1 : S1x128x512.Idx → α) : S2x128x512.Idx → α := fun i =>
  if (i 0).val = 0 then r0 (ix3 0 (i 1) (i 2)) else r1 (ix3 0 (i 1) (i 2))

/-- A store of row `b` replaces exactly that row. -/
theorem st_row {e : EltTy} (b : Fin 2) {off : Fin 3 → ℕ} (hoff : off = ![b.val, 0, 0]) (hs)
    (f : S2x128x512.Idx → Elt F e) (w : S1x128x512.Idx → Elt F e) :
    updateSlice (s := S2x128x512) (u := S1x128x512) f w off hs = fun i => if (i 0).val = b.val then w (ix3 0 (i 1) (i 2)) else f i := by
  subst hoff
  funext i
  unfold updateSlice
  have h1 : (i 1).val < 128 := (i 1).isLt
  have h2 : (i 2).val < 512 := (i 2).isLt
  by_cases hb : (i 0).val = b.val
  · rw [if_pos hb, dif_pos]
    · refine congrArg w (funext fun a => Fin.ext ?_)
      match a with
      | 0 => show (i 0).val - b.val = 0; omega
      | 1 => show (i 1).val - 0 = (i 1).val; omega
      | 2 => show (i 2).val - 0 = (i 2).val; omega
    · intro a
      match a with
      | 0 => show b.val ≤ (i 0).val ∧ (i 0).val < b.val + 1; omega
      | 1 => show 0 ≤ (i 1).val ∧ (i 1).val < 0 + 128; omega
      | 2 => show 0 ≤ (i 2).val ∧ (i 2).val < 0 + 512; omega
  · rw [if_neg hb, dif_neg]
    intro h
    have a0 : b.val ≤ (i 0).val ∧ (i 0).val < b.val + 1 := h 0
    omega

/-- A store of row `b` to send replaces exactly that row. -/
theorem st_stage (b : Fin 2) {off : Fin 3 → ℕ} (hoff : off = ![b.val, 0, 0])
    (inb : ∀ a, off a + S1x128x512.size a ≤ S2x128x512.size a) (f : S2x128x512.Idx → Elt F .bf16) (w : S1x128x512.Idx → Elt F .bf16) :
    (stM.access (Rect.unit (s := S2x128x512) off S1x128x512.size inb)).write (Elt F) f w Finset.univ
      = fun i => if (i 0).val = b.val then w (ix3 0 (i 1) (i 2)) else f i :=
  (View.write_whole_slice_unit _ _ _ _ _ _).trans (st_row b hoff _ f w)

/-- A store of row `b` of the result replaces exactly that row. -/
theorem st_out (b : Fin 2) {off : Fin 3 → ℕ} (hoff : off = ![b.val, 0, 0])
    (inb : ∀ a, off a + S1x128x512.size a ≤ S2x128x512.size a) (f : S2x128x512.Idx → Elt F .f32) (w : S1x128x512.Idx → Elt F .f32) :
    (oM.access (Rect.unit (s := S2x128x512) off S1x128x512.size inb)).write (Elt F) f w Finset.univ
      = fun i => if (i 0).val = b.val then w (ix3 0 (i 1) (i 2)) else f i :=
  (View.write_whole_slice_unit _ _ _ _ _ _).trans (st_row b hoff _ f w)

/-- A one-row array is determined by its two other coordinates. -/
theorem ix3_0_eta {α : Type} (w : S1x128x512.Idx → α) (i : S1x128x512.Idx) : w (ix3 0 (i 1) (i 2)) = w i := by
  refine congrArg w (funext fun a => Fin.ext ?_)
  have h0 : (i 0).val < 1 := (i 0).isLt
  match a with
  | 0 => show 0 = (i 0).val; omega
  | 1 => rfl
  | 2 => rfl

/-- The first store of both rows of the result. -/
theorem out_init {o0 o1 : Fin 3 → ℕ} (h0 : o0 = ![0, 0, 0]) (h1 : o1 = ![1, 0, 0]) (i0) (i1)
    (f : S2x128x512.Idx → Elt F .f32) (w0 w1 : S1x128x512.Idx → Elt F .f32) :
    (oM.access (Rect.unit (s := S2x128x512) o1 S1x128x512.size i1)).write (Elt F)
      ((oM.access (Rect.unit (s := S2x128x512) o0 S1x128x512.size i0)).write (Elt F) f w0 Finset.univ) w1 Finset.univ = mk2 w0 w1 := by
  rw [st_out 0 h0, st_out 1 h1]
  funext i
  have hi : (i 0).val < 2 := (i 0).isLt
  simp only [mk2, Fin.val_zero, Fin.val_one]
  split_ifs <;> first | rfl | omega

/-- A store of row 0 of the result. -/
theorem out_set0 {o0 : Fin 3 → ℕ} (h0 : o0 = ![0, 0, 0]) (i0) (a w0 w1 : S1x128x512.Idx → Elt F .f32) :
    (oM.access (Rect.unit (s := S2x128x512) o0 S1x128x512.size i0)).write (Elt F) (mk2 a w1) w0 Finset.univ = mk2 w0 w1 := by
  rw [st_out 0 h0]
  funext i
  simp only [mk2, Fin.val_zero]
  split_ifs <;> rfl

/-- A store of row 1 of the result. -/
theorem out_set1 {o1 : Fin 3 → ℕ} (h1 : o1 = ![1, 0, 0]) (i1) (a w0 w1 : S1x128x512.Idx → Elt F .f32) :
    (oM.access (Rect.unit (s := S2x128x512) o1 S1x128x512.size i1)).write (Elt F) (mk2 w0 a) w1 Finset.univ = mk2 w0 w1 := by
  rw [st_out 1 h1]
  funext i
  have hi : (i 0).val < 2 := (i 0).isLt
  simp only [mk2, Fin.val_one]
  split_ifs <;> first | rfl | omega

/-- A load of row 0 of the result. -/
theorem out_get0 {o0 : Fin 3 → ℕ} (h0 : o0 = ![0, 0, 0]) (i0) (w0 w1 : S1x128x512.Idx → Elt F .f32) :
    oM.view.readAt (Elt F) (Rect.unit (s := S2x128x512) o0 S1x128x512.size i0).toLoadRect (mk2 w0 w1) = w0 := by
  rw [ld_out 0 h0]
  funext i
  exact ix3_0_eta w0 i

/-- A load of row 1 of the result. -/
theorem out_get1 {o1 : Fin 3 → ℕ} (h1 : o1 = ![1, 0, 0]) (i1) (w0 w1 : S1x128x512.Idx → Elt F .f32) :
    oM.view.readAt (Elt F) (Rect.unit (s := S2x128x512) o1 S1x128x512.size i1).toLoadRect (mk2 w0 w1) = w1 := by
  rw [ld_out 1 h1]
  funext i
  exact ix3_0_eta w1 i

/-- A store of 64 columns of row `b` of the context replaces exactly those. -/
theorem st_ct (b : Fin 2) (h : Fin 4) {off : Fin 3 → ℕ} (hoff : off = ![b.val, 0, 64 * h.val])
    (inb : ∀ a, off a + S1x128x64.size a ≤ S2x128x256.size a) (f : S2x128x256.Idx → Elt F .bf16) (w : S1x128x64.Idx → Elt F .bf16) :
    (ctM.access (Rect.unit (s := S2x128x256) off S1x128x64.size inb)).write (Elt F) f w Finset.univ
      = fun i => if (i 0).val = b.val ∧ (i 2).val / 64 = h.val then w (ix3 0 (i 1) ⟨(i 2).val % 64, Nat.mod_lt _ (by decide)⟩) else f i := by
  subst hoff
  refine (View.write_whole_slice_unit _ _ _ _ _ _).trans ?_
  funext i
  unfold updateSlice
  have h1 : (i 1).val < 128 := (i 1).isLt
  have h2 : (i 2).val < 256 := (i 2).isLt
  by_cases hb : (i 0).val = b.val ∧ (i 2).val / 64 = h.val
  · rw [if_pos hb, dif_pos]
    · refine congrArg w (funext fun a => Fin.ext ?_)
      match a with
      | 0 => show (i 0).val - b.val = 0; omega
      | 1 => show (i 1).val - 0 = (i 1).val; omega
      | 2 => show (i 2).val - 64 * h.val = (i 2).val % 64; omega
    · intro a
      match a with
      | 0 => show b.val ≤ (i 0).val ∧ (i 0).val < b.val + 1; omega
      | 1 => show 0 ≤ (i 1).val ∧ (i 1).val < 0 + 128; omega
      | 2 => show 64 * h.val ≤ (i 2).val ∧ (i 2).val < 64 * h.val + 64; omega
  · rw [if_neg hb, dif_neg]
    intro hh
    have a0 : b.val ≤ (i 0).val ∧ (i 0).val < b.val + 1 := hh 0
    have a2 : 64 * h.val ≤ (i 2).val ∧ (i 2).val < 64 * h.val + 64 := hh 2
    omega

/-- Four heads' columns side by side. -/
def cat4 {α : Type} (w : Fin 4 → S1x128x64.Idx → α) : S1x128x256.Idx → α := fun i =>
  w ⟨(i 2).val / 64, by have : (i 2).val < 256 := (i 2).isLt; omega⟩ (ix3 0 (i 1) ⟨(i 2).val % 64, Nat.mod_lt _ (by decide)⟩)

/-- After the four heads' stores, row `b` reads as the four side by side. -/
theorem ct_row (b : Fin 2) {oc o0 o1 o2 o3 : Fin 3 → ℕ} (hc : oc = ![b.val, 0, 0]) (h0 : o0 = ![b.val, 0, 0]) (h1 : o1 = ![b.val, 0, 64])
    (h2 : o2 = ![b.val, 0, 128]) (h3 : o3 = ![b.val, 0, 192]) (ic) (i0) (i1) (i2) (i3)
    (f : S2x128x256.Idx → Elt F .bf16) (w : Fin 4 → S1x128x64.Idx → Elt F .bf16) :
    ctM.view.readAt (Elt F) (Rect.unit (s := S2x128x256) oc S1x128x256.size ic).toLoadRect
      ((ctM.access (Rect.unit (s := S2x128x256) o3 S1x128x64.size i3)).write (Elt F)
        ((ctM.access (Rect.unit (s := S2x128x256) o2 S1x128x64.size i2)).write (Elt F)
          ((ctM.access (Rect.unit (s := S2x128x256) o1 S1x128x64.size i1)).write (Elt F)
            ((ctM.access (Rect.unit (s := S2x128x256) o0 S1x128x64.size i0)).write (Elt F) f (w 0) Finset.univ)
            (w 1) Finset.univ) (w 2) Finset.univ) (w 3) Finset.univ) = cat4 w := by
  rw [ld_ct b hc, st_ct b 0 h0, st_ct b 1 h1, st_ct b 2 h2, st_ct b 3 h3]
  funext x
  have hx : (x 2).val < 256 := (x 2).isLt
  have key : ∀ h : Fin 4, (x 2).val / 64 = h.val →
      cat4 w x = w h (ix3 0 (x 1) ⟨(x 2).val % 64, Nat.mod_lt _ (by decide)⟩) := by
    intro h hh
    have : (⟨(x 2).val / 64, by omega⟩ : Fin 4) = h := Fin.ext hh
    unfold cat4; rw [this]
  have hcases : (x 2).val / 64 = 0 ∨ (x 2).val / 64 = 1 ∨ (x 2).val / 64 = 2 ∨ (x 2).val / 64 = 3 := by omega
  rcases hcases with hq | hq | hq | hq
  · rw [key 0 hq]; simp [ix3_0, ix3_1, ix3_2, hq]
  · rw [key 1 hq]; simp [ix3_0, ix3_1, ix3_2, hq]
  · rw [key 2 hq]; simp [ix3_0, ix3_1, ix3_2, hq]
  · rw [key 3 hq]; simp [ix3_0, ix3_1, ix3_2, hq]

/-- A store of a whole slot of the key/value buffer replaces exactly that slot. -/
theorem st_kv (t : Fin 2) {off : Fin 5 → ℕ} (hoff : off = ![t.val, 0, 0, 0, 0])
    (inb : ∀ a, off a + S1x2x4x128x64.size a ≤ S2x2x4x128x64.size a) (f : S2x2x4x128x64.Idx → Elt F .bf16) (w : S1x2x4x128x64.Idx → Elt F .bf16) :
    (kvM.access (Rect.unit (s := S2x2x4x128x64) off S1x2x4x128x64.size inb)).write (Elt F) f w Finset.univ
      = fun i => if (i 0).val = t.val then w (ix5 0 (i 1) (i 2) (i 3) (i 4)) else f i := by
  subst hoff
  refine (View.write_whole_slice_unit _ _ _ _ _ _).trans ?_
  funext i
  unfold updateSlice
  have h1 : (i 1).val < 2 := (i 1).isLt
  have h2 : (i 2).val < 4 := (i 2).isLt
  have h3 : (i 3).val < 128 := (i 3).isLt
  have h4 : (i 4).val < 64 := (i 4).isLt
  by_cases hb : (i 0).val = t.val
  · rw [if_pos hb, dif_pos]
    · refine congrArg w (funext fun a => Fin.ext ?_)
      match a with
      | 0 => show (i 0).val - t.val = 0; omega
      | 1 => show (i 1).val - 0 = (i 1).val; omega
      | 2 => show (i 2).val - 0 = (i 2).val; omega
      | 3 => show (i 3).val - 0 = (i 3).val; omega
      | 4 => show (i 4).val - 0 = (i 4).val; omega
    · intro a
      match a with
      | 0 => show t.val ≤ (i 0).val ∧ (i 0).val < t.val + 1; omega
      | 1 => show 0 ≤ (i 1).val ∧ (i 1).val < 0 + 2; omega
      | 2 => show 0 ≤ (i 2).val ∧ (i 2).val < 0 + 4; omega
      | 3 => show 0 ≤ (i 3).val ∧ (i 3).val < 0 + 128; omega
      | 4 => show 0 ≤ (i 4).val ∧ (i 4).val < 0 + 64; omega
  · rw [if_neg hb, dif_neg]
    intro h
    have a0 : t.val ≤ (i 0).val ∧ (i 0).val < t.val + 1 := h 0
    omega

/-! ### What the devices hold -/

variable (m : (ℓ : Loc nD τ sig) → Buf (Elt F) ℓ)

/-- Device `c`'s blocks of the five operands. -/
abbrev xC (c : Dev nD) : S2x128x512.Idx → Elt F .bf16 := iblk m c 0 t0_0
/-- Device `c`'s block of the query weights. -/
abbrev wqC (c : Dev nD) : S512x256.Idx → Elt F .bf16 := iblk m c 1 t0_0
/-- Device `c`'s block of the keys. -/
abbrev kC (c : Dev nD) : S2x16x128x64.Idx → Elt F .bf16 := iblk m c 2 t0_0
/-- Device `c`'s block of the values. -/
abbrev vC (c : Dev nD) : S2x16x128x64.Idx → Elt F .bf16 := iblk m c 3 t0_0
/-- Device `c`'s block of the output weights. -/
abbrev woC (c : Dev nD) : S256x512.Idx → Elt F .bf16 := iblk m c 4 t0_0

/-- What device `c`'s key/value buffer holds once filled: device 0's keys and values of the heads of `c`. -/
def KV (c : Dev nD) : S2x2x4x128x64.Idx → Elt F .bf16 := fun i =>
  if (i 0).val = 0 then kC m 0 (ix4 (i 1) (hdIx c (i 2)) (i 3) (i 4)) else vC m 0 (ix4 (i 1) (hdIx c (i 2)) (i 3) (i 4))

/-- The keys of one head and batch, as a load reads them. -/
def kt (c : Dev nD) (b : Fin 2) (h : Fin 4) : S1x1x1x128x64.Idx → Elt F .bf16 := fun x => KV m c (ix5 0 b h (x 3) (x 4))
/-- The values of one head and batch, as a load reads them. -/
def vt (c : Dev nD) (b : Fin 2) (h : Fin 4) : S1x1x1x128x64.Idx → Elt F .bf16 := fun x => KV m c (ix5 1 b h (x 3) (x 4))

/-- The block-causal mask of the kernel. -/
def msk : IVec S128x128 1 := k0_pay11 (iota .tc S128x128 32 [0] iota_S128x128_d0_w32) 64#32 k0_pay8 k0_pay9 k0_pay10

/-- The projected queries of batch 0 and of batch 1. -/
abbrev q0 (c : Dev nD) : FVec F S128x256 .bf16 := k0_pay6 (xC m c) (wqC m c)
/-- The projected queries of batch 1. -/
abbrev q1 (c : Dev nD) : FVec F S128x256 .bf16 := k0_pay7 (xC m c) (wqC m c)
/-- The output weights, as the kernel uses them. -/
abbrev wo (c : Dev nD) : FVec F S256x512 .bf16 := k0_pay5 (woC m c)

/-- The four heads of batch 0, as the kernel writes them. -/
def hd0 (c : Dev nD) : Fin 4 → S1x128x64.Idx → Elt F .bf16
  | 0 => k0_pay13 msk (k0_pay12 (q0 m c)) (kt m c 0 0) (vt m c 0 0)
  | 1 => k0_pay17 msk (k0_pay14 (vt m c 0 1)) (k0_pay15 (q0 m c) (kt m c 0 1)) (k0_pay16 (F := F))
  | 2 => k0_pay20 (k0_pay18 (vt m c 0 2)) (k0_pay19 (q0 m c) msk (kt m c 0 2))
  | 3 => k0_pay21 (q0 m c) msk (kt m c 0 3) (vt m c 0 3)

/-- The four heads of batch 1, as the kernel writes them. -/
def hd1 (c : Dev nD) : Fin 4 → S1x128x64.Idx → Elt F .bf16
  | 0 => k0_pay25 (k0_pay24 (q1 m c) msk (kt m c 1 0) (vt m c 1 0))
  | 1 => k0_pay26 (q1 m c) msk (kt m c 1 1) (vt m c 1 1)
  | 2 => k0_pay29 msk (k0_pay27 (q1 m c)) (k0_pay28 (kt m c 1 2)) (vt m c 1 2)
  | 3 => k0_pay32 (k0_pay30 (vt m c 1 3)) (k0_pay31 (q1 m c) msk (kt m c 1 3))

/-- Device `c`'s partial result of batch 0, unrounded and rounded for sending. -/
def p0 (c : Dev nD) : FVec F S128x512 .f32 := k0_pay22 (wo m c) (cat4 (hd0 m c))
/-- The same rounded, as it is sent. -/
def s0 (c : Dev nD) : S1x128x512.Idx → Elt F .bf16 := k0_pay23 (wo m c) (cat4 (hd0 m c))
/-- Device `c`'s partial result of batch 1, unrounded and rounded for sending. -/
def p1 (c : Dev nD) : FVec F S128x512 .f32 := k0_pay33 (wo m c) (cat4 (hd1 m c))
/-- The same rounded, as it is sent. -/
def s1 (c : Dev nD) : S1x128x512.Idx → Elt F .bf16 := k0_pay34 (wo m c) (cat4 (hd1 m c))

/-- What device `c` sends. -/
def STG (c : Dev nD) : S2x128x512.Idx → Elt F .bf16 := mk2 (s0 m c) (s1 m c)

/-- What device `c`'s buffer for incoming partial results holds once filled: at slot `k` what the device `k + 1` before
    it sent. -/
def AR (c : Dev nD) : S3x2x128x512.Idx → Elt F .bf16 := fun i => STG m (fr (i 0) c) (ix3 (i 1) (i 2) (i 3))

/-- Slot `(k, b)` of it, as a load reads it. -/
def ar (c : Dev nD) (k : Fin 3) (b : Fin 2) : S1x1x128x512.Idx → Elt F .bf16 := fun x => AR m c (ix4 k b (x 2) (x 3))

/-- The running sums of row 0 of the result, after 0, 1, 2 and 3 partial results of the peers. -/
def r00 (c : Dev nD) : S1x128x512.Idx → Elt F .f32 := k0_pay35 (p0 m c)
/-- With one peer's partial result added, -/
def r01 (c : Dev nD) : S1x128x512.Idx → Elt F .f32 := k0_pay37 (r00 m c) (ar m c 0 0)
/-- with two, -/
def r02 (c : Dev nD) : S1x128x512.Idx → Elt F .f32 := k0_pay39 (k0_pay38 (r01 m c)) (ar m c 1 0)
/-- and with all three. -/
def r03 (c : Dev nD) : S1x128x512.Idx → Elt F .f32 := k0_pay40 (r02 m c) (ar m c 2 0)
/-- The running sums of row 1. -/
def r10 (c : Dev nD) : S1x128x512.Idx → Elt F .f32 := k0_pay36 (p1 m c)
/-- With one peer's partial result added, -/
def r11 (c : Dev nD) : S1x128x512.Idx → Elt F .f32 := k0_pay41 (r10 m c) (ar m c 0 1)
/-- with two, -/
def r12 (c : Dev nD) : S1x128x512.Idx → Elt F .f32 := k0_pay43 (k0_pay42 (r11 m c)) (ar m c 1 1)
/-- and with all three. -/
def r13 (c : Dev nD) : S1x128x512.Idx → Elt F .f32 := k0_pay44 (r12 m c) (ar m c 2 1)

/-- The result. -/
def OUT (c : Dev nD) : S2x128x512.Idx → Elt F .f32 := mk2 (r03 m c) (r13 m c)

/-! ### The landings -/

/-- A row that device `c` sends lands at its peer as the contents that the peer waits for. -/
theorem land_ar (c : Dev nD) (k : Fin 3) (b : Fin 2) {offS : Fin 3 → ℕ} (hoffS : offS = ![b.val, 0, 0])
    {offD : Fin 4 → ℕ} (hoffD : offD = ![k.val, b.val, 0, 0]) (iS hS hsS iD hD hsD) (fd : S3x2x128x512.Idx → Elt F .bf16) :
    ∀ i ∈ slotSet k b,
      ((arM.slice (Rect.unit (s := S3x2x128x512) offD S1x1x128x512.size iD) hD).squeeze S128x512 hsD).view.write (Elt F) fd
        (((stM.slice (Rect.unit (s := S2x128x512) offS S1x128x512.size iS) hS).squeeze S128x512 hsS).view.read (Elt F) (STG m c))
        Finset.univ i = AR m (nx k c) i := by
  rw [← slot_set k b hoffD iD hD hsD]
  refine land (F := F) ((arM.slice (Rect.unit (s := S3x2x128x512) offD S1x1x128x512.size iD) hD).squeeze S128x512 hsD).view fd (AR m (nx k c)) _ ?_
  rw [rd_slot k b hoffD, rd_row b hoffS]
  funext x
  show STG m (fr k (nx k c)) _ = _
  rw [fr_nx]
  rfl

/-- The keys that device 0 sends land at device `c` as the contents that it waits for; -/
theorem land_k (c : Dev nD) {offS : Fin 4 → ℕ} (hoffS : offS = ![0, 4 * c.val, 0, 0])
    {offD : Fin 5 → ℕ} (hoffD : offD = ![0, 0, 0, 0, 0]) (iS hS iD hD hsD) (fd : S2x2x4x128x64.Idx → Elt F .bf16) :
    ∀ i ∈ kvSet 0,
      ((kvM.slice (Rect.unit (s := S2x2x4x128x64) offD S1x2x4x128x64.size iD) hD).squeeze S2x4x128x64 hsD).view.write (Elt F) fd
        ((kM.slice (Rect.unit (s := S2x16x128x64) offS S2x4x128x64.size iS) hS).view.read (Elt F) (kC m 0))
        Finset.univ i = KV m c i := by
  rw [← kv_set 0 hoffD iD hD hsD]
  refine land (F := F) ((kvM.slice (Rect.unit (s := S2x2x4x128x64) offD S1x2x4x128x64.size iD) hD).squeeze S2x4x128x64 hsD).view fd (KV m c) _ ?_
  rw [rd_kv (F := F) 0 hoffD, rd_hdK (F := F) c hoffS]
  rfl

/-- and the values. -/
theorem land_v (c : Dev nD) {offS : Fin 4 → ℕ} (hoffS : offS = ![0, 4 * c.val, 0, 0])
    {offD : Fin 5 → ℕ} (hoffD : offD = ![1, 0, 0, 0, 0]) (iS hS iD hD hsD) (fd : S2x2x4x128x64.Idx → Elt F .bf16) :
    ∀ i ∈ kvSet 1,
      ((kvM.slice (Rect.unit (s := S2x2x4x128x64) offD S1x2x4x128x64.size iD) hD).squeeze S2x4x128x64 hsD).view.write (Elt F) fd
        ((vM.slice (Rect.unit (s := S2x16x128x64) offS S2x4x128x64.size iS) hS).view.read (Elt F) (vC m 0))
        Finset.univ i = KV m c i := by
  rw [← kv_set 1 hoffD iD hD hsD]
  refine land (F := F) ((kvM.slice (Rect.unit (s := S2x2x4x128x64) offD S1x2x4x128x64.size iD) hD).squeeze S2x4x128x64 hsD).view fd (KV m c) _ ?_
  rw [rd_kv (F := F) 1 hoffD, rd_hdV (F := F) c hoffS]
  rfl

/-- Device 0's own copy of its first four heads. -/
theorem own_kv {o0 o1 : Fin 4 → ℕ} (h0 : o0 = ![0, 0, 0, 0]) (h1 : o1 = ![0, 0, 0, 0]) {d0 d1 : Fin 5 → ℕ} (e0 : d0 = ![0, 0, 0, 0, 0]) (e1 : d1 = ![1, 0, 0, 0, 0])
    (i0 i1 j0 j1) (f : S2x2x4x128x64.Idx → Elt F .bf16) :
    (kvM.access (Rect.unit (s := S2x2x4x128x64) d1 S1x2x4x128x64.size j1)).write (Elt F)
      ((kvM.access (Rect.unit (s := S2x2x4x128x64) d0 S1x2x4x128x64.size j0)).write (Elt F) f
        (k0_pay1 (kM.view.readAt (Elt F) (Rect.unit (s := S2x16x128x64) o0 S2x4x128x64.size i0).toLoadRect (kC m 0))) Finset.univ)
      (k0_pay2 (vM.view.readAt (Elt F) (Rect.unit (s := S2x16x128x64) o1 S2x4x128x64.size i1).toLoadRect (vC m 0))) Finset.univ
      = KV m 0 := by
  rw [ld_hdK 0 h0, ld_hdV 0 h1, st_kv 0 e0, st_kv 1 e1]
  funext i
  have hi : (i 0).val < 2 := (i 0).isLt
  have hc : S2x4x128x64.ShapeCasts S1x2x4x128x64 := shapeCasts_S2x4x128x64_S1x2x4x128x64
  have pay (w : S2x4x128x64.Idx → Elt F .bf16) (x1 : Fin 2) (x2 : Fin 4) (x3 : Fin 128) (x4 : Fin 64) :
      shapeCast S1x2x4x128x64 w hc (ix5 0 x1 x2 x3 x4) = w (ix4 x1 x2 x3 x4) := by
    refine shapeCast_apply _ hc _ _ ?_
    simp only [rowMajor_val5, rowMajor_val4]
    simp
  have self (w : S2x4x128x64.Idx → Elt F .bf16) (hh : S2x4x128x64.ShapeCasts S2x4x128x64) : shapeCast S2x4x128x64 w hh = w := shapeCast_self _ _
  simp only [k0_pay1, k0_pay2, KV]
  by_cases h : (i 0).val = 0
  · refine (if_neg (by show ¬ (i 0).val = 1; omega)).trans ((if_pos h).trans (Eq.trans ?_ (if_pos h).symm))
    exact (pay _ (i 1) (i 2) (i 3) (i 4)).trans (congrFun (self _ _) _)
  · refine (if_pos (by show (i 0).val = 1; omega)).trans (Eq.trans ?_ (if_neg h).symm)
    exact (pay _ (i 1) (i 2) (i 3) (i 4)).trans (congrFun (self _ _) _)

end Cert.KIProof
-- ==== Proof.Proto.lean ====
module

public import proofs.«01_k».proof.Proof.Values
public import Idealize.ShloMosaic.Lib.Ring.Trips

@[expose] public section

set_option maxRecDepth 16384

noncomputable section

/-! The protocol of the kernel's semaphores.

  * the barrier: every device signals each of its three peers once and waits for three. With its signal a device hands over
    the two slots of its buffer for incoming partial results that this peer fills, and to device 0 also its two key/value slots;
  * the key/value transfers: device 0 copies its keys and values of the heads of device `j + 1` to that device, on its own
    semaphore `(j, t)` and the receiver's semaphore `t`;
  * the partial results: every device copies row `b` of its staging buffer to slot `(k, b)` of the device `k + 1` after it. -/

namespace Cert.KIProof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Ring
open Idealize.ShloMosaic.Pipeline (Dat Cfg Window BodyObligation cellOf)

variable {F : FTy → Type} [FloatOps F] [Named F]
variable (m : (ℓ : Loc nD τ sig) → Buf (Elt F) ℓ)

/-- The ghost state of the kernel's own protocol. -/
abbrev UB := URounds (GSem nD τ sig) (Fin 3)
/-- The ghost state of the whole certificate: the region's and the kernel's own. -/
abbrev UU := UR sig nD τ × UB
local notation "𝕄" => MT nD τ sig Unit (Elt F) ℕ UU ℕ
/-- The region's part of it. -/
abbrev EP : Emb (UR sig nD τ) 𝕄 := embL
/-- The kernel's own part of it. -/
abbrev ER : Emb UB 𝕄 := embR

/-! ### The semaphores -/

inductive Kd where
  | kvS (j : Fin 3) (t : Fin 2)
  | kvR (t : Fin 2)
  | arS (k : Fin 3) (b : Fin 2)
  | arR (k : Fin 3) (b : Fin 2)
  | other
deriving DecidableEq

/-- Device 0's semaphore for its transfer of the keys (`t = 0`) or values to device `j + 1`. -/
def qKvS (j : Fin 3) (t : Fin 2) : DmaSem sig := ⟨6 + 2 * j.val + t.val, by have := j.isLt; have := t.isLt; show _ < 26; omega⟩
/-- The receiver's semaphore for it. -/
def qKvR (t : Fin 2) : DmaSem sig := ⟨12 + t.val, by have := t.isLt; show _ < 26; omega⟩
/-- The sender's semaphore for row `b` to the device `k + 1` after it. -/
def qArS (k : Fin 3) (b : Fin 2) : DmaSem sig := ⟨14 + 2 * k.val + b.val, by have := k.isLt; have := b.isLt; show _ < 26; omega⟩
/-- The receiver's semaphore for it. -/
def qArR (k : Fin 3) (b : Fin 2) : DmaSem sig := ⟨20 + 2 * k.val + b.val, by have := k.isLt; have := b.isLt; show _ < 26; omega⟩

/-- What a DMA semaphore is for, by its number. -/
def kindOf (q : DmaSem sig) : Kd :=
  match q.val with
  | 6 => .kvS 0 0 | 7 => .kvS 0 1 | 8 => .kvS 1 0 | 9 => .kvS 1 1 | 10 => .kvS 2 0 | 11 => .kvS 2 1
  | 12 => .kvR 0 | 13 => .kvR 1
  | 14 => .arS 0 0 | 15 => .arS 0 1 | 16 => .arS 1 0 | 17 => .arS 1 1 | 18 => .arS 2 0 | 19 => .arS 2 1
  | 20 => .arR 0 0 | 21 => .arR 0 1 | 22 => .arR 1 0 | 23 => .arR 1 1 | 24 => .arR 2 0 | 25 => .arR 2 1
  | _ => .other

/-- The sender's semaphores of the key/value transfers are of their kind. -/
theorem kind_kvS : ∀ j t, kindOf (qKvS j t) = .kvS j t := by decide
/-- The receiver's semaphores of the key/value transfers are of their kind. -/
theorem kind_kvR : ∀ t, kindOf (qKvR t) = .kvR t := by decide
/-- The sender's semaphores of the partial results are of their kind. -/
theorem kind_arS : ∀ k b, kindOf (qArS k b) = .arS k b := by decide
/-- The receiver's semaphores of the partial results are of their kind. -/
theorem kind_arR : ∀ k b, kindOf (qArR k b) = .arR k b := by decide

/-- Device `c`'s cell of a DMA semaphore. -/
abbrev dcell (c : Dev nD) (q : DmaSem sig) : GSem nD τ sig := ((c : Thread nD τ), .dma q)
/-- Device `c`'s cell of the barrier semaphore. -/
abbrev bcell (c : Dev nD) : GSem nD τ sig := ((c : Thread nD τ), .reg barrier0)

/-- The bytes' credit of one row of partial results, and of one key or value transfer. -/
abbrev NA : ℕ := ((arM.slice (Rect.unit (s := S3x2x128x512) ![0, 0, 0, 0] S1x1x128x512.size inb_S3x2x128x512_S1x1x128x512_0_0_0_0) (fun _ => rfl)).squeeze S128x512 squeezes_S1x1x128x512_S128x512).view.dmaCredit
/-- The credit of one key or value transfer. -/
abbrev NK : ℕ := ((kvM.slice (Rect.unit (s := S2x2x4x128x64) ![0, 0, 0, 0, 0] S1x2x4x128x64.size inb_S2x2x4x128x64_S1x2x4x128x64_0_0_0_0_0) (fun _ => rfl)).squeeze S2x4x128x64 squeezes_S1x2x4x128x64_S2x4x128x64).view.dmaCredit
/-- A row's credit is positive. -/
theorem NA_pos : 0 < NA := View.dmaCredit_pos _ (by decide)
/-- A key or value transfer's credit is positive. -/
theorem NK_pos : 0 < NK := View.dmaCredit_pos _ (by decide)

/-! ### The pieces of memory that change hands -/

/-- Device `c` holds its slot `(k, b)` for partial results, with contents `f`. -/
def slotPts (c : Dev nD) (k : Fin 3) (b : Fin 2) (f : S3x2x128x512.Idx → Elt F .bf16) : sProp 𝕄 :=
  ((c : Thread nD τ).loc cc0_scratch3) ↦[slotSet k b]{fullShare} f
/-- Device `c` holds a share of row `b` of its partial results to send, with contents `f`. -/
def rowPts (q : PosShare TreeShare) (c : Dev nD) (b : Fin 2) (f : S2x128x512.Idx → Elt F .bf16) : sProp 𝕄 :=
  ((c : Thread nD τ).loc cc0_scratch2) ↦[rowSet b]{q} f
/-- Device `c` holds slot `t` of its key/value buffer, with contents `f`. -/
def kvPts (c : Dev nD) (t : Fin 2) (f : S2x2x4x128x64.Idx → Elt F .bf16) : sProp 𝕄 :=
  ((c : Thread nD τ).loc cc0_scratch0) ↦[kvSet t]{fullShare} f
/-- Device 0's keys (`t = 0`) or values of the heads of device `j`. -/
def hdPts (j : Fin 4) (t : Fin 2) : sProp 𝕄 :=
  if t = 0 then (((0 : Dev nD) : Thread nD τ).loc cc0_stg2_0) ↦[hdSet j]{fullShare} kC m 0
  else (((0 : Dev nD) : Thread nD τ).loc cc0_stg3_0) ↦[hdSet j]{fullShare} vC m 0

/-- A slot for partial results may be a payload. -/
instance slotPts_storable (c k b f) : BI.Storable (upEmb : UEmb _ 𝕄) (slotPts (F := F) c k b f) := by unfold slotPts; infer_instance
/-- A share of a row to send may be a payload. -/
instance rowPts_storable (q c b f) : BI.Storable (upEmb : UEmb _ 𝕄) (rowPts (F := F) q c b f) := by unfold rowPts; infer_instance
/-- A key/value slot may be a payload. -/
instance kvPts_storable (c t f) : BI.Storable (upEmb : UEmb _ 𝕄) (kvPts (F := F) c t f) := by unfold kvPts; infer_instance
/-- Device 0's keys or values of one device's heads may be a payload. -/
instance hdPts_storable (j t) : BI.Storable (upEmb : UEmb _ 𝕄) (hdPts (F := F) m j t) := by unfold hdPts; split <;> infer_instance

/-! ### The schedule -/

/-- What the device `j + 1` after `c` hands over with its barrier signal to `c`: the two slots that `c` fills, and to
    device 0 the two key/value slots. -/
def barPay (c : Dev nD) (j : Fin 3) : sProp 𝕄 :=
  iprop(((∃ f, slotPts (nx j c) j 0 f) ∗ reached ER (dcell (nx j c) (qArR j 0)) 0)
    ∗ ((∃ f, slotPts (nx j c) j 1 f) ∗ reached ER (dcell (nx j c) (qArR j 1)) 0)
    ∗ (if c = 0 then iprop(((∃ f, kvPts (nx j c) 0 f) ∗ reached ER (dcell (nx j c) (qKvR 0)) 0)
          ∗ ((∃ f, kvPts (nx j c) 1 f) ∗ reached ER (dcell (nx j c) (qKvR 1)) 0)) else iprop(emp)))

/-- What a barrier signal hands over may be a payload. -/
instance barPay_storable (c j) : BI.Storable (upEmb : UEmb _ 𝕄) (barPay (F := F) c j) := by
  unfold barPay; split <;> infer_instance

/-- What a landing hands over. -/
def kdPay (c : Dev nD) : Kd → sProp 𝕄
  | .kvS j t => hdPts m j.succ t
  | .kvR t => kvPts c t (KV m c)
  | .arS k b => rowPts (shares3 fullShare k) c b (STG m c)
  | .arR k b => slotPts c k b (AR m c)
  | .other => iprop(emp)

/-- What a landing hands over may be a payload. -/
instance kdPay_storable (c k) : BI.Storable (upEmb : UEmb _ 𝕄) (kdPay (F := F) m c k) := by
  cases k <;> unfold kdPay <;> infer_instance

/-- The amount of one payment to a DMA cell, by its kind. -/
def kdAmt : Kd → ℕ
  | .kvS _ _ => NK
  | .kvR _ => NK
  | _ => NA

/-- The duties of a DMA cell: the key/value transfers are sent by device 0 alone and received by the others. -/
def kdDut (c : Dev nD) : Kd → Finset (Fin 3)
  | .kvS _ _ => if c = 0 then {0} else ∅
  | .kvR _ => if c = 0 then ∅ else {0}
  | .arS _ _ => {0}
  | .arR _ _ => {0}
  | .other => ∅

/-- The schedule: each cell has one round, whose duties, amounts and payloads are those above. -/
def Rd : Rounds.Schedule (GSem nD τ sig) (Fin 3) 𝕄 where
  duties g r := if r = 0 ∧ g.1.2 = .tc then (match g.2 with | .reg _ => Finset.univ | .dma q => kdDut g.1.1 (kindOf q)) else ∅
  unitless _ := False
  amount g _ _ := match g.2 with | .reg _ => 1 | .dma q => kdAmt (kindOf q)
  payload g _ d := match g.2 with | .reg _ => barPay g.1.1 d | .dma q => kdPay m g.1.1 (kindOf q)
  amount_pos g _ _ _ := by
    rcases g with ⟨t, s⟩
    cases s with
    | reg s => exact Nat.one_pos
    | dma q =>
      show 0 < kdAmt (kindOf q)
      cases kindOf q <;> first | exact NK_pos | exact NA_pos

/-- Every payload of the schedule may be stored. -/
instance Rd_storable (g : GSem nD τ sig) (r : ℕ) (d : Fin 3) : BI.Storable (upEmb : UEmb _ 𝕄) ((Rd (F := F) m).payload g r d) := by
  rcases g with ⟨t, s⟩
  cases s with
  | reg s => exact barPay_storable t.1 d
  | dma q => exact kdPay_storable m t.1 (kindOf q)

/-- The barrier's cell has three duties, one for each peer. -/
theorem duties_bar (c : Dev nD) : (Rd (F := F) m).duties (bcell c) 0 = Finset.univ := by dsimp only [Rd]; exact if_pos ⟨rfl, rfl⟩
/-- A DMA cell has the duties of its kind. -/
theorem duties_dma (c : Dev nD) (q : DmaSem sig) : (Rd (F := F) m).duties (dcell c q) 0 = kdDut c (kindOf q) := by dsimp only [Rd]; exact if_pos ⟨rfl, rfl⟩
/-- No cell has duties after its first round. -/
theorem duties_later (g : GSem nD τ sig) : ∀ r, 1 ≤ r → (Rd (F := F) m).duties g r = ∅ :=
  fun r hr => by dsimp only [Rd]; exact if_neg fun h => by omega
/-- Each barrier signal is of amount 1. -/
theorem amount_bar (c : Dev nD) (d : Fin 3) : (Rd (F := F) m).amount (bcell c) 0 d = 1 := rfl
/-- Each payment to a DMA cell is of the amount of its kind. -/
theorem amount_dma (c : Dev nD) (q : DmaSem sig) (d : Fin 3) : (Rd (F := F) m).amount (dcell c q) 0 d = kdAmt (kindOf q) := rfl
/-- The payload of a barrier signal. -/
theorem payload_bar (c : Dev nD) (d : Fin 3) : (Rd (F := F) m).payload (bcell c) 0 d = barPay c d := rfl
/-- The payload of a DMA cell. -/
theorem payload_dma (c : Dev nD) (q : DmaSem sig) (d : Fin 3) : (Rd (F := F) m).payload (dcell c q) 0 d = kdPay m c (kindOf q) := rfl

/-- The barrier's round expects 3. -/
theorem expect_bar (c : Dev nD) : (Rd (F := F) m).expect (bcell c) 0 = 3 := by
  unfold Schedule.expect Schedule.amountOf
  rw [duties_bar, Finset.sum_congr rfl fun d _ => amount_bar m c d, Finset.sum_const, Finset.card_univ, Fintype.card_fin, smul_eq_mul]
/-- A used DMA cell's round expects one payment. -/
theorem expect_dma (c : Dev nD) (q : DmaSem sig) (h : kdDut c (kindOf q) = {0}) : (Rd (F := F) m).expect (dcell c q) 0 = kdAmt (kindOf q) := by
  unfold Schedule.expect Schedule.amountOf; rw [duties_dma, h, Finset.sum_singleton, amount_dma]

/-- All the barrier's payloads together are those of its three peers. -/
theorem rest_bar (c : Dev nD) : bigSep ((Rd (F := F) m).duties (bcell c) 0 \ ∅) (fun d => (Rd (F := F) m).payload (bcell c) 0 d)
    = iprop(barPay c 0 ∗ barPay c 1 ∗ barPay c 2) := by
  rw [Finset.sdiff_empty, duties_bar, bigSep_univ_eq_bigSepL [0, 1, 2] (by decide) (by decide), bigSepL_cons_cons, bigSepL_cons_cons, bigSepL_singleton]
  rfl
/-- All the payloads of a used DMA cell together are its one. -/
theorem rest_dma (c : Dev nD) (q : DmaSem sig) (h : kdDut c (kindOf q) = {0}) :
    bigSep ((Rd (F := F) m).duties (dcell c q) 0 \ ∅) (fun d => (Rd (F := F) m).payload (dcell c q) 0 d) = kdPay m c (kindOf q) := by
  rw [Finset.sdiff_empty, duties_dma, h, bigSep_singleton, payload_dma]

/-! ### What is owed -/

/-- The tallies of a list of cells and amounts, the first paid first. -/
def osum : List (GSem nD τ sig × ℕ) → CellTallies nD τ sig Unit
  | [] => 0
  | p :: l => osum l + tallyAt p.1 () p.2

/-- A cell at which something is owed is in the list. -/
theorem osum_pos {l : List (GSem nD τ sig × ℕ)} {g : GSem nD τ sig} {u : Unit} (h : 0 < osum l g u) : ∃ p ∈ l, g = p.1 := by
  induction l with
  | nil => exact absurd h (Nat.lt_irrefl 0)
  | cons p l ih =>
    by_cases hg : g = p.1
    · exact ⟨p, List.mem_cons_self, hg⟩
    · unfold osum at h
      rw [Pi.add_apply, Finsupp.add_apply, tallyAt_apply, if_neg (fun h' => hg h'.1), Nat.add_zero] at h
      obtain ⟨p', hp', e⟩ := ih h
      exact ⟨p', List.mem_cons_of_mem _ hp', e⟩

/-- The debt for the transfer of row `b` to the device `k + 1` after. -/
abbrev arE (c : Dev nD) (k : Fin 3) (b : Fin 2) : GSem nD τ sig × ℕ := (dcell (nx k c) (qArR k b), NA)
/-- Device 0's debt for the transfer of the keys or values to device `j + 1`. -/
abbrev kvE (j : Fin 3) (t : Fin 2) : GSem nD τ sig × ℕ := (dcell (nx j 0) (qKvR t), NK)
/-- The debt for the barrier signal to the device `k + 1` after. -/
abbrev barE (c : Dev nD) (k : Fin 3) : GSem nD τ sig × ℕ := (bcell (nx k c), 1)

/-- All the debts for partial results, in the order in which they are paid. -/
abbrev arList (c : Dev nD) : List (GSem nD τ sig × ℕ) := [arE c 0 0, arE c 1 0, arE c 2 0, arE c 0 1, arE c 1 1, arE c 2 1]
/-- All of device 0's debts for keys and values, in the order in which they are paid. -/
abbrev kvList : List (GSem nD τ sig × ℕ) := [kvE 0 0, kvE 0 1, kvE 1 0, kvE 1 1, kvE 2 0, kvE 2 1]
/-- What is owed after the barrier's signals. -/
def kaList (c : Dev nD) : List (GSem nD τ sig × ℕ) := if c = 0 then kvList ++ arList c else arList c
/-- What a device owes at the launch. -/
def O₀ (c : Dev nD) : CellTallies nD τ sig Unit := osum (barE c 0 :: barE c 1 :: barE c 2 :: kaList c)

/-- The cells that have a level: those of the devices' own cores. -/
def L (g : GSem nD τ sig) : Finset Unit := if g.1.2 = .tc then {()} else ∅
/-- The level of a DMA cell, by its kind: keys and values arrive before partial results do. -/
def kdLv : Kd → ℕ
  | .kvR _ => 2
  | .arR _ _ => 3
  | _ => 0
/-- The level of a cell: the barrier comes before every transfer. -/
def lv (g : GSem nD τ sig) (_ : Unit) : ℕ := match g.2 with | .reg _ => 1 | .dma q => kdLv (kindOf q)

/-- Other cells have no level. -/
theorem L_of_ne (g : GSem nD τ sig) (h : g.1.2 ≠ .tc) : L g = ∅ := if_neg h
/-- A device's own cells have one. -/
theorem L_tc (c : Dev nD) (sm : SemLoc sig) : L ((c : Thread nD τ), sm) = {()} := if_pos rfl

/-- A device may wait on a cell of a level below all those that it owes. -/
theorem mayWait_osum (c : Dev nD) (sm : SemLoc sig) (l : List (GSem nD τ sig × ℕ)) (n : ℕ)
    (h0 : lv ((c : Thread nD τ), sm) () ≤ n) (h : ∀ p ∈ l, p.1.1.2 = .tc ∧ n < lv p.1 ()) :
    (levAts L lv : sProp 𝕄) ⊢ MayWait (c : Thread nD τ) sm () (osum l) :=
  MayOwe.of_cut (L := L) (lev := lv) n (fun p hp => by rw [Finset.mem_singleton.mp hp, L_tc]; exact Finset.mem_singleton_self _)
    (fun g u hg => by
      obtain ⟨p, hp, rfl⟩ := osum_pos hg
      show u ∈ L p.1
      unfold L; rw [if_pos (h p hp).1]; exact Finset.mem_singleton_self _)
    (fun p hp => by rw [Finset.mem_singleton.mp hp]; exact h0)
    (fun g u hg => by
      obtain ⟨p, hp, rfl⟩ := osum_pos hg
      exact (h p hp).2)

/-- The receiver's cells of partial results are at level 3. -/
theorem lv_ar : ∀ (k : Fin 3) (b : Fin 2), kdLv (kindOf (qArR k b)) = 3 := by decide
/-- The receiver's cells of keys and values are at level 2. -/
theorem lv_kv : ∀ (t : Fin 2), kdLv (kindOf (qKvR t)) = 2 := by decide

/-- A debt for a partial result is above level 2. -/
theorem lv_arE (c : Dev nD) (k : Fin 3) (b : Fin 2) : 2 < lv (arE c k b).1 () := by
  rw [show lv (arE c k b).1 () = 3 from lv_ar k b]; decide
/-- A debt for keys or values is above level 1. -/
theorem lv_kvE (j : Fin 3) (t : Fin 2) : 1 < lv (kvE j t).1 () := by
  rw [show lv (kvE j t).1 () = 2 from lv_kv t]; decide

/-- All the debts for partial results are above level 2. -/
theorem arList_lv (c : Dev nD) : ∀ p ∈ arList c, p.1.1.2 = .tc ∧ 2 < lv p.1 () := by
  intro p hp
  simp only [arList, List.mem_cons, List.not_mem_nil, or_false] at hp
  rcases hp with rfl | rfl | rfl | rfl | rfl | rfl <;> exact ⟨rfl, lv_arE c _ _⟩

/-- All that is owed after the barrier's signals is above level 1. -/
theorem kaList_lv (c : Dev nD) : ∀ p ∈ kaList c, p.1.1.2 = .tc ∧ 1 < lv p.1 () := by
  intro p hp
  unfold kaList at hp
  split at hp
  · rcases List.mem_append.mp hp with hp | hp
    · simp only [kvList, List.mem_cons, List.not_mem_nil, or_false] at hp
      rcases hp with rfl | rfl | rfl | rfl | rfl | rfl <;> exact ⟨rfl, lv_kvE _ _⟩
    · exact ⟨(arList_lv c p hp).1, lt_trans (by decide) (arList_lv c p hp).2⟩
  · exact ⟨(arList_lv c p hp).1, lt_trans (by decide) (arList_lv c p hp).2⟩

/-- All that is owed at the launch is above level 0. -/
theorem O₀_lv (c : Dev nD) : ∀ p ∈ barE c 0 :: barE c 1 :: barE c 2 :: kaList c, p.1.1.2 = .tc ∧ 0 < lv p.1 () := by
  intro p hp
  simp only [List.mem_cons] at hp
  rcases hp with rfl | rfl | rfl | hp
  · exact ⟨rfl, Nat.one_pos⟩
  · exact ⟨rfl, Nat.one_pos⟩
  · exact ⟨rfl, Nat.one_pos⟩
  · exact ⟨(kaList_lv c p hp).1, lt_trans Nat.one_pos (kaList_lv c p hp).2⟩

/-! ### The invariants -/

variable (κ : GSem nD τ sig → ℕ)

/-- The barrier's cells, and the cells of the kernel's own DMA semaphores. -/
def barEm : Dev nD ↪ GSem nD τ sig := ⟨fun c => bcell c, fun c c' h => congrArg (fun g : GSem nD τ sig => g.1.1) h⟩
/-- The kernel's own DMA semaphores, in order. -/
def oq (i : Fin 20) : DmaSem sig := ⟨6 + i.val, by have := i.isLt; show _ < 26; omega⟩
/-- The cells of the kernel's own DMA semaphores on all the devices. -/
def dmaEm : Dev nD × Fin 20 ↪ GSem nD τ sig := ⟨fun p => dcell p.1 (oq p.2), fun p p' h => by
  have h1 : p.1 = p'.1 := congrArg (fun g : GSem nD τ sig => g.1.1) h
  have h2 : oq p.2 = oq p'.2 := by injection (congrArg (fun g : GSem nD τ sig => g.2) h)
  have h3 : (oq p.2).val = (oq p'.2).val := congrArg Fin.val h2
  exact Prod.ext h1 (Fin.ext (by simp only [oq] at h3; omega))⟩
/-- All the barrier's cells. -/
def barCells : Finset (GSem nD τ sig) := Finset.univ.map barEm
/-- All the cells of the kernel's own DMA semaphores. -/
def dmaCells : Finset (GSem nD τ sig) := Finset.univ.map dmaEm

/-- The invariants of all the cells. -/
def invs : sProp 𝕄 := bigSep (barCells ∪ dmaCells) (fun g => cellInv ER (Rd m) (κ g) g)
/-- They may be used any number of times. -/
instance invs_persistent : BI.Persistent (invs m κ) := by unfold invs; infer_instance

/-- Among them is that of each barrier cell, -/
theorem inv_bar (c : Dev nD) : (invs m κ : sProp 𝕄) ⊢ cellInv ER (Rd m) (κ (bcell c)) (bcell c) :=
  bigSep_elim (Finset.mem_union_left _ (Finset.mem_map_of_mem barEm (Finset.mem_univ c)))
/-- and that of each own DMA cell. -/
theorem inv_dma (c : Dev nD) (q : DmaSem sig) (hq : 6 ≤ q.val) : (invs m κ : sProp 𝕄) ⊢ cellInv ER (Rd m) (κ (dcell c q)) (dcell c q) := by
  have hlt : q.val < 26 := q.isLt
  have e : q = oq ⟨q.val - 6, by omega⟩ := Fin.ext (by simp only [oq]; omega)
  have : dcell c q ∈ dmaCells := by
    rw [e]; exact Finset.mem_map_of_mem dmaEm (Finset.mem_univ (c, (⟨q.val - 6, by omega⟩ : Fin 20)))
  exact bigSep_elim (Finset.mem_union_right _ this)

end Cert.KIProof
-- ==== Proof.Rules.lean ====
module

public import proofs.«01_k».proof.Proof.Proto

@[expose] public section

set_option maxRecDepth 16384

noncomputable section

/-! The rules of the kernel's transfers and waits, and the cutting of its buffers into the pieces that change hands. -/

namespace Cert.KIProof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Ring
open Idealize.ShloMosaic.Pipeline (Dat Cfg Window BodyObligation cellOf)

variable {F : FTy → Type} [FloatOps F] [Named F]
variable (m : (ℓ : Loc nD τ sig) → Buf (Elt F) ℓ) (κ : GSem nD τ sig → ℕ)

local notation "𝕄" => MT nD τ sig Unit (Elt F) ℕ UU ℕ

/-- No loop needs a variant. -/
abbrev 𝒱₀ : Variants := Variants.none

/-- Device `c` owes the cells of the list `l`, whatever it has waited for. -/
def ow (c : Dev nD) (l : List (GSem nD τ sig × ℕ)) : sProp 𝕄 := iprop(∃ W, owes (c : Thread nD τ) (osum l) W)

/-- A wait on one of the own DMA cells, taking nothing: the position advances and the landing's contents come. -/
theorem wp_wait_d (c : Dev nD) (q : DmaSem sig) (K : Kd) (hK : kindOf q = K) (hq : 6 ≤ q.val) (hd : kdDut c K = {0})
    (l : List (GSem nD τ sig × ℕ)) (hl : ∀ p ∈ l, p.1.1.2 = .tc ∧ kdLv K < lv p.1 ())
    {sp sp' : Space} {s s' : Shape} {e e' : EltTy} {src : Memref sig .tc sp s e} {dst : Memref sig .tc sp' s' e'}
    {hsrc : src.view.WordExact} {hdst : dst.view.WordExact} (hN : dst.view.dmaCredit = kdAmt K)
    {α : Type} {Q : α → sProp 𝕄} {k : PUnit → Prog (TpuEff nD τ sig (Elt F) Λ₀ .tc) α} :
    iprop(invs m κ ∗ levAts L lv ∗ cred (tallyAt (dcell c q) () (kdAmt K)) ∗ ow c l ∗ atPos ER (dcell c q) 0 ∅ 0)
      ⊢ iprop(((ow c l ∗ atPos ER (dcell c q) 1 ∅ 0 ∗ kdPay m c K) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q src dst hsrc hdst) k) Q) := by
  subst hK
  unfold ow
  iintro ⟨#HI, #Hlev, Hc, ⟨%W, HO⟩, Hat⟩ Hk
  iapply (Rounds.wp_wait_rest_token 𝒱₀ ER (Rd m) (c : Thread nD τ) none (κ := κ (dcell c q))
      (wpE_waitDma2_eq 𝒱₀ (c : Thread nD τ) none Set.univ) (Set.mem_univ _) () (O := osum l) (W := W) (R := 0) (m := 0) (T := ∅)
      (by rw [Nat.zero_add, hN, expect_dma m c q hd])) $$ [Hc HO Hat]
  · isplitr; · iapply (inv_dma m κ c q hq); iexact HI
    isplitl [Hc]; · rw [hN]; iexact Hc
    isplitl [HO]; · iexact HO
    isplitr
    · iapply (mayWait_osum c (.dma q) l (kdLv (kindOf q)) le_rfl hl); iexact Hlev
    iexact Hat
  iintro ⟨HO, Hat, -, Hpay⟩
  iapply Hk
  isplitl [HO]; · iexists _; iexact HO
  isplitl [Hat]; · iexact Hat
  iapply (Entails.of_eq (rest_dma m c q hd)); iexact Hpay

/-- A transfer to another device, its source and its destination any: what the source's piece is, `kdPay` says; what lands is `kdPay`
    of the receiver's semaphore. -/
theorem wp_send_g (c c' : Dev nD) {s : Shape} {e : EltTy} (src dst : Memref sig .tc .vmem s e) (qS qR : DmaSem sig) (K₁ K₂ : Kd)
    (hK₁ : kindOf qS = K₁) (hK₂ : kindOf qR = K₂) (hq₁ : 6 ≤ qS.val) (hq₂ : 6 ≤ qR.val) (hd₁ : kdDut c K₁ = {0}) (hd₂ : kdDut c' K₂ = {0})
    (N : ℕ) (hN : dst.view.dmaCredit = N) (hA₁ : kdAmt K₁ = N) (hA₂ : kdAmt K₂ = N) (q : PosShare TreeShare)
    (fs : Buf (Elt F) (src.view.loc (c : Thread nD τ))) (Ps Pd : sProp 𝕄) (hPs : Ps = kdPay m c K₁) (hpay₁ : (src.view.loc (c : Thread nD τ) ↦[src.view.set]{q} fs : sProp 𝕄) = kdPay m c K₁)
    (fd : Buf (Elt F) (dst.view.loc (c' : Thread nD τ)))
    (hPd : Pd = (dst.view.loc (c' : Thread nD τ) ↦[dst.view.set]{fullShare} fd))
    (hpay₂ : (dst.view.loc (c' : Thread nD τ) ↦[dst.view.set]{fullShare} dst.view.write (Elt F) fd (src.view.read (Elt F) fs) Finset.univ : sProp 𝕄) ⊢ kdPay m c' K₂)
    (l : List (GSem nD τ sig × ℕ))
    {hsc : (dst : Memref sig (Dev.tc c' : Thread nD τ).2.kind .vmem s e).view.ref.isScScratch = false}
    {hsrc : src.view.WordExact} {hdst : dst.view.WordExact}
    {hsem : DmaTarget.Typed .vmem (.dma qR) (.remote (Dev.tc c' : Thread nD τ) dst (.dma qS) hsc)}
    {α : Type} {Q : α → sProp 𝕄} {kk : PUnit → Prog (TpuEff nD τ sig (Elt F) Λ₀ .tc) α} :
    iprop(invs m κ ∗ Ps ∗ Pd ∗ ow c ((dcell c' qR, N) :: l)
        ∗ dutyTok ER (dcell c qS) 0 0 ∗ reached ER (dcell c qS) 0 ∗ dutyTok ER (dcell c' qR) 0 0 ∗ reached ER (dcell c' qR) 0)
      ⊢ iprop(((cred (tallyAt (dcell c qS) () N) ∗ ow c l) -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma src (.remote (Dev.tc c' : Thread nD τ) dst (.dma qS) hsc) (.dma qR) hsrc hdst hsem) kk) Q) := by
  subst hK₁ hK₂
  unfold ow
  rw [hPs, hPd, ← hpay₁]
  iintro ⟨#HI, Hsrc, Hdst, ⟨%W, HO⟩, Ht1, #Hr1, Ht2, #Hr2⟩ Hk
  iapply (Rounds.wp_send_pointsTo 𝒱₀ ER (Rd m) (c : Thread nD τ) none (κ₁ := κ (dcell c qS)) (κ₂ := κ (dcell c' qR))
    (r₁ := 0) (r₂ := 0) (d₁ := 0) (d₂ := 0) (fd := fd) (fs := fs) (q := q)
    (by rw [duties_dma, hd₁]; exact Finset.mem_singleton_self _)
    (by rw [duties_dma, hd₂]; exact Finset.mem_singleton_self _)
    () () N (show dst.view.amount (.dma qR) = N from hN) ((amount_dma m c _ 0).trans hA₁) ((amount_dma m c' _ 0).trans hA₂) (osum l) rfl (W := W)
    (by rw [payload_dma, hpay₁]) (by rw [payload_dma]; exact hpay₂)) $$ [Hsrc Hdst HO Ht1 Ht2]
  · isplitr; · iapply (inv_dma m κ c qS hq₁); iexact HI
    isplitr; · iapply (inv_dma m κ c' qR hq₂); iexact HI
    isplitl [Hsrc]; · iexact Hsrc
    isplitl [Hdst]; · iexact Hdst
    isplitl [HO]; · iexact HO
    isplitl [Ht1]; · iexact Ht1
    isplitr; · iexact Hr1
    isplitl [Ht2]; · iexact Ht2
    iexact Hr2
  iintro ⟨Hc, HO⟩
  iapply Hk
  isplitl [Hc]; · iexact Hc
  iexists W; iexact HO

/-- The transfer of row `b` to slot `(k, b)` of the device `k + 1` after `c`. -/
theorem wp_send_ar (c n : Dev nD) (k : Fin 3) (b : Fin 2) (hn : n = nx k c) {sS sR : DmaSem sig} (hsS : sS = qArS k b) (hsR : sR = qArR k b)
    {offS : Fin 3 → ℕ} (hoffS : offS = ![b.val, 0, 0]) {offD : Fin 4 → ℕ} (hoffD : offD = ![k.val, b.val, 0, 0])
    (l : List (GSem nD τ sig × ℕ)) {iS hS qS iD hD qD}
    {hsc : ((arM.slice (Rect.unit (s := S3x2x128x512) offD S1x1x128x512.size iD) hD).squeeze S128x512 qD : Memref sig (Dev.tc n : Thread nD τ).2.kind .vmem S128x512 .bf16).view.ref.isScScratch = false}
    {hsrc : ((stM.slice (Rect.unit (s := S2x128x512) offS S1x128x512.size iS) hS).squeeze S128x512 qS).view.WordExact}
    {hdst : ((arM.slice (Rect.unit (s := S3x2x128x512) offD S1x1x128x512.size iD) hD).squeeze S128x512 qD).view.WordExact}
    {hsem : DmaTarget.Typed .vmem (.dma sR) (.remote (Dev.tc n : Thread nD τ) ((arM.slice (Rect.unit (s := S3x2x128x512) offD S1x1x128x512.size iD) hD).squeeze S128x512 qD) (.dma sS) hsc)}
    {α : Type} {Q : α → sProp 𝕄} {kk : PUnit → Prog (TpuEff nD τ sig (Elt F) Λ₀ .tc) α} :
    iprop(invs m κ ∗ rowPts (shares3 fullShare k) c b (STG m c) ∗ (∃ f, slotPts (nx k c) k b f) ∗ ow c (arE c k b :: l)
        ∗ dutyTok ER (dcell c (qArS k b)) 0 0 ∗ reached ER (dcell c (qArS k b)) 0
        ∗ dutyTok ER (dcell (nx k c) (qArR k b)) 0 0 ∗ reached ER (dcell (nx k c) (qArR k b)) 0)
      ⊢ iprop(((cred (tallyAt (dcell c (qArS k b)) () NA) ∗ ow c l) -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma ((stM.slice (Rect.unit (s := S2x128x512) offS S1x128x512.size iS) hS).squeeze S128x512 qS)
                (.remote (Dev.tc n : Thread nD τ) ((arM.slice (Rect.unit (s := S3x2x128x512) offD S1x1x128x512.size iD) hD).squeeze S128x512 qD) (.dma sS) hsc)
                (.dma sR) hsrc hdst hsem) kk) Q) := by
  subst hn hsS hsR
  iintro ⟨HI, Hsrc, ⟨%fd, Hdst⟩, H⟩
  have hset := row_set b hoffS iS hS qS
  have hset' := slot_set k b hoffD iD hD qD
  have hland := land_ar m c k b hoffS hoffD iS hS qS iD hD qD fd
  have h := wp_send_g (Q := Q) (kk := kk) m κ c (nx k c) ((stM.slice (Rect.unit (s := S2x128x512) offS S1x128x512.size iS) hS).squeeze S128x512 qS)
    ((arM.slice (Rect.unit (s := S3x2x128x512) offD S1x1x128x512.size iD) hD).squeeze S128x512 qD) (qArS k b) (qArR k b) (.arS k b) (.arR k b) (kind_arS k b) (kind_arR k b)
    (by show 6 ≤ 14 + 2 * k.val + b.val; omega) (by show 6 ≤ 20 + 2 * k.val + b.val; omega) rfl rfl NA rfl rfl rfl (shares3 fullShare k) (STG m c) _ (slotPts (nx k c) k b fd) rfl
    (by rw [hset]; rfl) fd (by rw [hset']; rfl)
    (by rw [hset']; exact Entails.of_eq (pointsTo_congr hland)) l (hsc := hsc) (hsrc := hsrc) (hdst := hdst) (hsem := hsem)
  iapply h
  isplitl [HI]; · iexact HI
  isplitl [Hsrc]; · unfold kdPay; iexact Hsrc
  isplitl [Hdst]; · iexact Hdst
  iexact H

/-- The devices after device 0, in order. -/
theorem nx_zero : ∀ j : Fin 3, nx j 0 = j.succ := by decide

/-- Device 0's transfer of the keys of the heads of device `j + 1`. -/
theorem wp_send_k (n : Dev nD) (j : Fin 3) (hn : n = nx j 0) {sS sR : DmaSem sig} (hsS : sS = qKvS j 0) (hsR : sR = qKvR 0)
    {offS : Fin 4 → ℕ} (hoffS : offS = ![0, 4 * j.succ.val, 0, 0]) {offD : Fin 5 → ℕ} (hoffD : offD = ![0, 0, 0, 0, 0])
    (l : List (GSem nD τ sig × ℕ)) {iS hS iD hD qD}
    {hsc : ((kvM.slice (Rect.unit (s := S2x2x4x128x64) offD S1x2x4x128x64.size iD) hD).squeeze S2x4x128x64 qD : Memref sig (Dev.tc n : Thread nD τ).2.kind .vmem S2x4x128x64 .bf16).view.ref.isScScratch = false}
    {hsrc : (kM.slice (Rect.unit (s := S2x16x128x64) offS S2x4x128x64.size iS) hS).view.WordExact}
    {hdst : ((kvM.slice (Rect.unit (s := S2x2x4x128x64) offD S1x2x4x128x64.size iD) hD).squeeze S2x4x128x64 qD).view.WordExact}
    {hsem : DmaTarget.Typed .vmem (.dma sR) (.remote (Dev.tc n : Thread nD τ) ((kvM.slice (Rect.unit (s := S2x2x4x128x64) offD S1x2x4x128x64.size iD) hD).squeeze S2x4x128x64 qD) (.dma sS) hsc)}
    {α : Type} {Q : α → sProp 𝕄} {kk : PUnit → Prog (TpuEff nD τ sig (Elt F) Λ₀ .tc) α} :
    iprop(invs m κ ∗ hdPts m j.succ 0 ∗ (∃ f, kvPts (nx j 0) 0 f) ∗ ow 0 (kvE j 0 :: l)
        ∗ dutyTok ER (dcell 0 (qKvS j 0)) 0 0 ∗ reached ER (dcell 0 (qKvS j 0)) 0
        ∗ dutyTok ER (dcell (nx j 0) (qKvR 0)) 0 0 ∗ reached ER (dcell (nx j 0) (qKvR 0)) 0)
      ⊢ iprop(((cred (tallyAt (dcell 0 (qKvS j 0)) () NK) ∗ ow 0 l) -∗ wp frame (wpE (defs₀ (F := F)) 𝒱₀ ((0 : Dev nD) : Thread nD τ) none) Set.univ (kk ⟨⟩) Q)
          -∗ wp frame (wpE (defs₀ (F := F)) 𝒱₀ ((0 : Dev nD) : Thread nD τ) none) Set.univ
              (.op (.enqueueDma (kM.slice (Rect.unit (s := S2x16x128x64) offS S2x4x128x64.size iS) hS)
                (.remote (Dev.tc n : Thread nD τ) ((kvM.slice (Rect.unit (s := S2x2x4x128x64) offD S1x2x4x128x64.size iD) hD).squeeze S2x4x128x64 qD) (.dma sS) hsc)
                (.dma sR) hsrc hdst hsem) kk) Q) := by
  subst hn hsS hsR
  iintro ⟨HI, Hsrc, ⟨%fd, Hdst⟩, H⟩
  have hnx : nx j 0 = j.succ := nx_zero j
  have hset := hdK_set j.succ hoffS iS hS
  have hset' := kv_set 0 hoffD iD hD qD
  have hland := land_k m (nx j 0) (hoffS.trans (by rw [hnx])) hoffD iS hS iD hD qD fd
  have h := wp_send_g (Q := Q) (kk := kk) m κ 0 (nx j 0) (kM.slice (Rect.unit (s := S2x16x128x64) offS S2x4x128x64.size iS) hS)
    ((kvM.slice (Rect.unit (s := S2x2x4x128x64) offD S1x2x4x128x64.size iD) hD).squeeze S2x4x128x64 qD) (qKvS j 0) (qKvR 0) (.kvS j 0) (.kvR 0) (kind_kvS j 0) (kind_kvR 0)
    (by show 6 ≤ 6 + 2 * j.val + _; omega) (by decide) rfl (by unfold kdDut; exact if_neg (nx_ne j 0)) NK rfl rfl rfl fullShare (kC m 0) _ (kvPts (nx j 0) 0 fd) rfl
    (by rw [hset]; unfold kdPay hdPts; exact (if_pos rfl).symm) fd (by rw [hset']; rfl)
    (by rw [hset']; exact Entails.of_eq (pointsTo_congr hland)) l (hsc := hsc) (hsrc := hsrc) (hdst := hdst) (hsem := hsem)
  iapply h
  isplitl [HI]; · iexact HI
  isplitl [Hsrc]; · unfold kdPay; iexact Hsrc
  isplitl [Hdst]; · iexact Hdst
  iexact H

/-- Device 0's transfer of the values of the heads of device `j + 1`. -/
theorem wp_send_v (n : Dev nD) (j : Fin 3) (hn : n = nx j 0) {sS sR : DmaSem sig} (hsS : sS = qKvS j 1) (hsR : sR = qKvR 1)
    {offS : Fin 4 → ℕ} (hoffS : offS = ![0, 4 * j.succ.val, 0, 0]) {offD : Fin 5 → ℕ} (hoffD : offD = ![1, 0, 0, 0, 0])
    (l : List (GSem nD τ sig × ℕ)) {iS hS iD hD qD}
    {hsc : ((kvM.slice (Rect.unit (s := S2x2x4x128x64) offD S1x2x4x128x64.size iD) hD).squeeze S2x4x128x64 qD : Memref sig (Dev.tc n : Thread nD τ).2.kind .vmem S2x4x128x64 .bf16).view.ref.isScScratch = false}
    {hsrc : (vM.slice (Rect.unit (s := S2x16x128x64) offS S2x4x128x64.size iS) hS).view.WordExact}
    {hdst : ((kvM.slice (Rect.unit (s := S2x2x4x128x64) offD S1x2x4x128x64.size iD) hD).squeeze S2x4x128x64 qD).view.WordExact}
    {hsem : DmaTarget.Typed .vmem (.dma sR) (.remote (Dev.tc n : Thread nD τ) ((kvM.slice (Rect.unit (s := S2x2x4x128x64) offD S1x2x4x128x64.size iD) hD).squeeze S2x4x128x64 qD) (.dma sS) hsc)}
    {α : Type} {Q : α → sProp 𝕄} {kk : PUnit → Prog (TpuEff nD τ sig (Elt F) Λ₀ .tc) α} :
    iprop(invs m κ ∗ hdPts m j.succ 1 ∗ (∃ f, kvPts (nx j 0) 1 f) ∗ ow 0 (kvE j 1 :: l)
        ∗ dutyTok ER (dcell 0 (qKvS j 1)) 0 0 ∗ reached ER (dcell 0 (qKvS j 1)) 0
        ∗ dutyTok ER (dcell (nx j 0) (qKvR 1)) 0 0 ∗ reached ER (dcell (nx j 0) (qKvR 1)) 0)
      ⊢ iprop(((cred (tallyAt (dcell 0 (qKvS j 1)) () NK) ∗ ow 0 l) -∗ wp frame (wpE (defs₀ (F := F)) 𝒱₀ ((0 : Dev nD) : Thread nD τ) none) Set.univ (kk ⟨⟩) Q)
          -∗ wp frame (wpE (defs₀ (F := F)) 𝒱₀ ((0 : Dev nD) : Thread nD τ) none) Set.univ
              (.op (.enqueueDma (vM.slice (Rect.unit (s := S2x16x128x64) offS S2x4x128x64.size iS) hS)
                (.remote (Dev.tc n : Thread nD τ) ((kvM.slice (Rect.unit (s := S2x2x4x128x64) offD S1x2x4x128x64.size iD) hD).squeeze S2x4x128x64 qD) (.dma sS) hsc)
                (.dma sR) hsrc hdst hsem) kk) Q) := by
  subst hn hsS hsR
  iintro ⟨HI, Hsrc, ⟨%fd, Hdst⟩, H⟩
  have hnx : nx j 0 = j.succ := nx_zero j
  have hset := hdV_set j.succ hoffS iS hS
  have hset' := kv_set 1 hoffD iD hD qD
  have hland := land_v m (nx j 0) (hoffS.trans (by rw [hnx])) hoffD iS hS iD hD qD fd
  have h := wp_send_g (Q := Q) (kk := kk) m κ 0 (nx j 0) (vM.slice (Rect.unit (s := S2x16x128x64) offS S2x4x128x64.size iS) hS)
    ((kvM.slice (Rect.unit (s := S2x2x4x128x64) offD S1x2x4x128x64.size iD) hD).squeeze S2x4x128x64 qD) (qKvS j 1) (qKvR 1) (.kvS j 1) (.kvR 1) (kind_kvS j 1) (kind_kvR 1)
    (by show 6 ≤ 6 + 2 * j.val + _; omega) (by decide) rfl (by unfold kdDut; exact if_neg (nx_ne j 0)) NK rfl rfl rfl fullShare (vC m 0) _ (kvPts (nx j 0) 1 fd) rfl
    (by rw [hset]; unfold kdPay hdPts; exact (if_neg (by decide)).symm) fd (by rw [hset']; rfl)
    (by rw [hset']; exact Entails.of_eq (pointsTo_congr hland)) l (hsc := hsc) (hsrc := hsrc) (hdst := hdst) (hsem := hsem)
  iapply h
  isplitl [HI]; · iexact HI
  isplitl [Hsrc]; · unfold kdPay; iexact Hsrc
  isplitl [Hdst]; · iexact Hdst
  iexact H

end Cert.KIProof
-- ==== Proof.Pieces.lean ====
module

public import proofs.«01_k».proof.Proof.Rules

@[expose] public section

set_option maxRecDepth 16384

noncomputable section

/-! The buffers cut into the pieces that change hands, and put together again. -/

namespace Cert.KIProof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Ring
open Idealize.ShloMosaic.Pipeline (Dat Cfg Window BodyObligation cellOf)

variable {F : FTy → Type} [FloatOps F] [Named F]
variable (m : (ℓ : Loc nD τ sig) → Buf (Elt F) ℓ) (κ : GSem nD τ sig → ℕ)

local notation "𝕄" => MT nD τ sig Unit (Elt F) ℕ UU ℕ

/-- The two key/value slots cover their buffer. -/
theorem univ_kv : (Finset.univ : Finset (Fin 2)).biUnion kvSet = Finset.univ := by
  ext i; simp only [Finset.mem_biUnion, Finset.mem_univ, true_and, iff_true]; exact ⟨i 0, mem_kvSet.mpr rfl⟩
/-- The two rows cover the buffer of partial results to send. -/
theorem univ_row : (Finset.univ : Finset (Fin 2)).biUnion rowSet = Finset.univ := by
  ext i; simp only [Finset.mem_biUnion, Finset.mem_univ, true_and, iff_true]; exact ⟨i 0, mem_rowSet.mpr rfl⟩
/-- The six slots cover the buffer for incoming partial results. -/
theorem univ_slot : (Finset.univ : Finset (Fin 3 × Fin 2)).biUnion (fun p => slotSet p.1 p.2) = Finset.univ := by
  ext i; simp only [Finset.mem_biUnion, Finset.mem_univ, true_and, iff_true]; exact ⟨(i 0, i 1), mem_slotSet.mpr ⟨rfl, rfl⟩⟩
/-- The four devices' heads are all the heads. -/
theorem univ_hd : (Finset.univ : Finset (Fin 4)).biUnion hdSet = Finset.univ := by
  ext i; simp only [Finset.mem_biUnion, Finset.mem_univ, true_and, iff_true]
  exact ⟨⟨(i 1).val / 4, by have : (i 1).val < 16 := (i 1).isLt; omega⟩, mem_hdSet.mpr rfl⟩

/-- The key/value buffer is its two slots. -/
theorem kv_cut (c : Dev nD) (f : S2x2x4x128x64.Idx → Elt F .bf16) :
    ((((c : Thread nD τ).loc cc0_scratch0) ↦{fullShare} f) : sProp 𝕄) = iprop(kvPts c 0 f ∗ kvPts c 1 f) := by
  have h := pointsTo_biUnion (Ix := Unit) (U := UU) (Lvl := ℕ) (Name := ℕ) (Val := Elt F) (ℓ := (c : Thread nD τ).loc cc0_scratch0) (q := fullShare) (f := f) Finset.univ kvSet fun t _ t' _ ne =>
    Finset.disjoint_left.mpr fun i hi hi' => ne (Fin.ext ((mem_kvSet.mp hi).symm.trans (mem_kvSet.mp hi')))
  rw [univ_kv, bigSep_univ_eq_bigSepL [0, 1] (by decide) (by decide), bigSepL_cons_cons, bigSepL_singleton] at h
  exact h

/-- The staging buffer is its two rows. -/
theorem st_cut (q : PosShare TreeShare) (c : Dev nD) (f : S2x128x512.Idx → Elt F .bf16) :
    ((((c : Thread nD τ).loc cc0_scratch2) ↦{q} f) : sProp 𝕄) = iprop(rowPts q c 0 f ∗ rowPts q c 1 f) := by
  have h := pointsTo_biUnion (Ix := Unit) (U := UU) (Lvl := ℕ) (Name := ℕ) (Val := Elt F) (ℓ := (c : Thread nD τ).loc cc0_scratch2) (q := q) (f := f) Finset.univ rowSet fun t _ t' _ ne =>
    Finset.disjoint_left.mpr fun i hi hi' => ne (Fin.ext ((mem_rowSet.mp hi).symm.trans (mem_rowSet.mp hi')))
  rw [univ_row, bigSep_univ_eq_bigSepL [0, 1] (by decide) (by decide), bigSepL_cons_cons, bigSepL_singleton] at h
  exact h

/-- The buffer for incoming partial results is its six slots. -/
theorem ar_cut (c : Dev nD) (f : S3x2x128x512.Idx → Elt F .bf16) :
    ((((c : Thread nD τ).loc cc0_scratch3) ↦{fullShare} f) : sProp 𝕄)
      = iprop(slotPts c 0 0 f ∗ slotPts c 0 1 f ∗ slotPts c 1 0 f ∗ slotPts c 1 1 f ∗ slotPts c 2 0 f ∗ slotPts c 2 1 f) := by
  have h := pointsTo_biUnion (Ix := Unit) (U := UU) (Lvl := ℕ) (Name := ℕ) (Val := Elt F) (ℓ := (c : Thread nD τ).loc cc0_scratch3) (q := fullShare) (f := f) Finset.univ
    (fun p : Fin 3 × Fin 2 => slotSet p.1 p.2) fun t _ t' _ ne =>
    Finset.disjoint_left.mpr fun i hi hi' => ne (Prod.ext (Fin.ext ((mem_slotSet.mp hi).1.symm.trans (mem_slotSet.mp hi').1))
      (Fin.ext ((mem_slotSet.mp hi).2.symm.trans (mem_slotSet.mp hi').2)))
  rw [univ_slot, bigSep_univ_eq_bigSepL [(0, 0), (0, 1), (1, 0), (1, 1), (2, 0), (2, 1)] (by decide) (by decide),
    bigSepL_cons_cons, bigSepL_cons_cons, bigSepL_cons_cons, bigSepL_cons_cons, bigSepL_cons_cons, bigSepL_singleton] at h
  exact h

/-- Device 0's keys (`t = 0`) and values are the heads of the four devices. -/
theorem hdk_cut : (((((0 : Dev nD) : Thread nD τ).loc cc0_stg2_0) ↦{fullShare} kC m 0) : sProp 𝕄)
      = iprop(hdPts m 0 0 ∗ hdPts m 1 0 ∗ hdPts m 2 0 ∗ hdPts m 3 0) := by
  have h := pointsTo_biUnion (Ix := Unit) (U := UU) (Lvl := ℕ) (Name := ℕ) (Val := Elt F) (ℓ := ((0 : Dev nD) : Thread nD τ).loc cc0_stg2_0) (q := fullShare) (f := kC m 0) Finset.univ
    hdSet fun t _ t' _ ne =>
    Finset.disjoint_left.mpr fun i hi hi' => ne (Fin.ext ((mem_hdSet.mp hi).symm.trans (mem_hdSet.mp hi')))
  rw [univ_hd, bigSep_univ_eq_bigSepL [0, 1, 2, 3] (by decide) (by decide),
    bigSepL_cons_cons, bigSepL_cons_cons, bigSepL_cons_cons, bigSepL_singleton] at h
  unfold hdPts
  simp only [if_pos]
  exact h
/-- Device 0's values are those of the four devices' heads. -/
theorem hdv_cut : (((((0 : Dev nD) : Thread nD τ).loc cc0_stg3_0) ↦{fullShare} vC m 0) : sProp 𝕄)
      = iprop(hdPts m 0 1 ∗ hdPts m 1 1 ∗ hdPts m 2 1 ∗ hdPts m 3 1) := by
  have h := pointsTo_biUnion (Ix := Unit) (U := UU) (Lvl := ℕ) (Name := ℕ) (Val := Elt F) (ℓ := ((0 : Dev nD) : Thread nD τ).loc cc0_stg3_0) (q := fullShare) (f := vC m 0) Finset.univ
    hdSet fun t _ t' _ ne =>
    Finset.disjoint_left.mpr fun i hi hi' => ne (Fin.ext ((mem_hdSet.mp hi).symm.trans (mem_hdSet.mp hi')))
  rw [univ_hd, bigSep_univ_eq_bigSepL [0, 1, 2, 3] (by decide) (by decide),
    bigSepL_cons_cons, bigSepL_cons_cons, bigSepL_cons_cons, bigSepL_singleton] at h
  unfold hdPts
  simp only [if_neg (show ¬ ((1 : Fin 2) = 0) by decide)]
  exact h

/-- One row in thirds, a third for each of its three transfers. -/
theorem row_thirds (c : Dev nD) (b : Fin 2) (f : S2x128x512.Idx → Elt F .bf16) :
    (rowPts fullShare c b f : sProp 𝕄) ⊣⊢ iprop(rowPts (shares3 fullShare 0) c b f ∗ rowPts (shares3 fullShare 1) c b f ∗ rowPts (shares3 fullShare 2) c b f) :=
  pointsTo_thirds (Ix := Unit) (U := UU) (Lvl := ℕ) (Name := ℕ) (Val := Elt F) (ℓ := (c : Thread nD τ).loc cc0_scratch2) (I := rowSet b) fullShare f

/-! ### Where loads and stores stay inside a piece -/

/-- A store of row `b` to send touches only that row. -/
theorem st_sub (b : Fin 2) {off : Fin 3 → ℕ} (hoff : off = ![b.val, 0, 0]) (inb : ∀ a, off a + S1x128x512.size a ≤ S2x128x512.size a) :
    (stM.access (Rect.unit (s := S2x128x512) off S1x128x512.size inb)).setOn Finset.univ ⊆ rowSet b := by
  rw [← rect_row b hoff inb]; exact (View.set_slice_whole _ _).subset
/-- A load of row `b` to send touches only that row. -/
theorem st_ldsub (b : Fin 2) {off : Fin 3 → ℕ} (hoff : off = ![b.val, 0, 0]) (inb : ∀ a, off a + S1x128x512.size a ≤ S2x128x512.size a) :
    stM.view.setOn (Rect.unit (s := S2x128x512) off S1x128x512.size inb).toLoadRect.set ⊆ rowSet b :=
  Memref.setOn_subset_of_access_subset (c := ((0 : Dev nD) : Thread nD τ)) (st_sub b hoff inb)
/-- A load of slot `(k, b)` touches only that slot. -/
theorem ar_ldsub (k : Fin 3) (b : Fin 2) {off : Fin 4 → ℕ} (hoff : off = ![k.val, b.val, 0, 0]) (inb : ∀ a, off a + S1x1x128x512.size a ≤ S3x2x128x512.size a) :
    arM.view.setOn (Rect.unit (s := S3x2x128x512) off S1x1x128x512.size inb).toLoadRect.set ⊆ slotSet k b :=
  Memref.setOn_subset_of_access_subset (c := ((0 : Dev nD) : Thread nD τ)) (by rw [← rect_slot k b hoff inb]; exact (View.set_slice_whole _ _).subset)
/-- A load of device `j`'s heads of the keys touches only those. -/
theorem hdK_ldsub (j : Fin 4) {off : Fin 4 → ℕ} (hoff : off = ![0, 4 * j.val, 0, 0]) (inb : ∀ a, off a + S2x4x128x64.size a ≤ S2x16x128x64.size a) :
    kM.view.setOn (Rect.unit (s := S2x16x128x64) off S2x4x128x64.size inb).toLoadRect.set ⊆ hdSet j :=
  Memref.setOn_subset_of_access_subset (c := ((0 : Dev nD) : Thread nD τ)) (by rw [← rect_hd j hoff inb]; exact (View.set_slice_whole _ _).subset)
/-- A load of device `j`'s heads of the values touches only those. -/
theorem hdV_ldsub (j : Fin 4) {off : Fin 4 → ℕ} (hoff : off = ![0, 4 * j.val, 0, 0]) (inb : ∀ a, off a + S2x4x128x64.size a ≤ S2x16x128x64.size a) :
    vM.view.setOn (Rect.unit (s := S2x16x128x64) off S2x4x128x64.size inb).toLoadRect.set ⊆ hdSet j :=
  Memref.setOn_subset_of_access_subset (c := ((0 : Dev nD) : Thread nD τ)) (by rw [← rect_hd j hoff inb]; exact (View.set_slice_whole _ _).subset)

/-- The store of row 0 leaves what is sent in row 0, and that of row 1 in row 1. -/
theorem st_row0 (c : Dev nD) {off : Fin 3 → ℕ} (hoff : off = ![0, 0, 0]) (inb) (f : S2x128x512.Idx → Elt F .bf16) :
    (rowPts fullShare c 0 ((stM.access (Rect.unit (s := S2x128x512) off S1x128x512.size inb)).write (Elt F) f (s0 m c) Finset.univ) : sProp 𝕄)
      = rowPts fullShare c 0 (STG m c) := by
  unfold rowPts
  refine pointsTo_congr fun i hi => ?_
  have hi' : (i 0).val = 0 := mem_rowSet.mp hi
  rw [st_stage 0 hoff]
  unfold STG mk2
  exact (if_pos hi').trans (if_pos hi').symm
/-- After its store, row 1 to send holds the second row of what the device sends. -/
theorem st_row1 (c : Dev nD) {off : Fin 3 → ℕ} (hoff : off = ![1, 0, 0]) (inb) (f : S2x128x512.Idx → Elt F .bf16) :
    (rowPts fullShare c 1 ((stM.access (Rect.unit (s := S2x128x512) off S1x128x512.size inb)).write (Elt F) f (s1 m c) Finset.univ) : sProp 𝕄)
      = rowPts fullShare c 1 (STG m c) := by
  unfold rowPts
  refine pointsTo_congr fun i hi => ?_
  have hi' : (i 0).val = 1 := mem_rowSet.mp hi
  rw [st_stage 1 hoff]
  unfold STG mk2
  exact (if_pos hi').trans (if_neg (by rw [hi']; decide)).symm

/-! ### The semaphores of the arrays -/

/-- Entry 0 of the sender's key/value semaphores. -/
theorem sem_4_0 : (((cc0_scratch4 : DmaSems sig S6).slice (Rect.unit (s := S6) ![0] S1.size inb_S6_S1_0)).squeeze S_ squeezes_S1_S_).sem = qKvS 0 0 := rfl
/-- Entry 1 of the sender's key/value semaphores. -/
theorem sem_4_1 : (((cc0_scratch4 : DmaSems sig S6).slice (Rect.unit (s := S6) ![1] S1.size inb_S6_S1_1)).squeeze S_ squeezes_S1_S_).sem = qKvS 0 1 := rfl
/-- Entry 2 of the sender's key/value semaphores. -/
theorem sem_4_2 : (((cc0_scratch4 : DmaSems sig S6).slice (Rect.unit (s := S6) ![2] S1.size inb_S6_S1_2)).squeeze S_ squeezes_S1_S_).sem = qKvS 1 0 := rfl
/-- Entry 3 of the sender's key/value semaphores. -/
theorem sem_4_3 : (((cc0_scratch4 : DmaSems sig S6).slice (Rect.unit (s := S6) ![3] S1.size inb_S6_S1_3)).squeeze S_ squeezes_S1_S_).sem = qKvS 1 1 := rfl
/-- Entry 4 of the sender's key/value semaphores. -/
theorem sem_4_4 : (((cc0_scratch4 : DmaSems sig S6).slice (Rect.unit (s := S6) ![4] S1.size inb_S6_S1_4)).squeeze S_ squeezes_S1_S_).sem = qKvS 2 0 := rfl
/-- Entry 5 of the sender's key/value semaphores. -/
theorem sem_4_5 : (((cc0_scratch4 : DmaSems sig S6).slice (Rect.unit (s := S6) ![5] S1.size inb_S6_S1_5)).squeeze S_ squeezes_S1_S_).sem = qKvS 2 1 := rfl
/-- Entry 0 of the sender's semaphores of partial results. -/
theorem sem_6_0 : (((cc0_scratch6 : DmaSems sig S6).slice (Rect.unit (s := S6) ![0] S1.size inb_S6_S1_0)).squeeze S_ squeezes_S1_S_).sem = qArS 0 0 := rfl
/-- Entry 1 of the sender's semaphores of partial results. -/
theorem sem_6_1 : (((cc0_scratch6 : DmaSems sig S6).slice (Rect.unit (s := S6) ![1] S1.size inb_S6_S1_1)).squeeze S_ squeezes_S1_S_).sem = qArS 0 1 := rfl
/-- Entry 2 of the sender's semaphores of partial results. -/
theorem sem_6_2 : (((cc0_scratch6 : DmaSems sig S6).slice (Rect.unit (s := S6) ![2] S1.size inb_S6_S1_2)).squeeze S_ squeezes_S1_S_).sem = qArS 1 0 := rfl
/-- Entry 3 of the sender's semaphores of partial results. -/
theorem sem_6_3 : (((cc0_scratch6 : DmaSems sig S6).slice (Rect.unit (s := S6) ![3] S1.size inb_S6_S1_3)).squeeze S_ squeezes_S1_S_).sem = qArS 1 1 := rfl
/-- Entry 4 of the sender's semaphores of partial results. -/
theorem sem_6_4 : (((cc0_scratch6 : DmaSems sig S6).slice (Rect.unit (s := S6) ![4] S1.size inb_S6_S1_4)).squeeze S_ squeezes_S1_S_).sem = qArS 2 0 := rfl
/-- Entry 5 of the sender's semaphores of partial results. -/
theorem sem_6_5 : (((cc0_scratch6 : DmaSems sig S6).slice (Rect.unit (s := S6) ![5] S1.size inb_S6_S1_5)).squeeze S_ squeezes_S1_S_).sem = qArS 2 1 := rfl
/-- Entry 0 of the receiver's semaphores of partial results. -/
theorem sem_7_0 : (((cc0_scratch7 : DmaSems sig S6).slice (Rect.unit (s := S6) ![0] S1.size inb_S6_S1_0)).squeeze S_ squeezes_S1_S_).sem = qArR 0 0 := rfl
/-- Entry 1 of the receiver's semaphores of partial results. -/
theorem sem_7_1 : (((cc0_scratch7 : DmaSems sig S6).slice (Rect.unit (s := S6) ![1] S1.size inb_S6_S1_1)).squeeze S_ squeezes_S1_S_).sem = qArR 0 1 := rfl
/-- Entry 2 of the receiver's semaphores of partial results. -/
theorem sem_7_2 : (((cc0_scratch7 : DmaSems sig S6).slice (Rect.unit (s := S6) ![2] S1.size inb_S6_S1_2)).squeeze S_ squeezes_S1_S_).sem = qArR 1 0 := rfl
/-- Entry 3 of the receiver's semaphores of partial results. -/
theorem sem_7_3 : (((cc0_scratch7 : DmaSems sig S6).slice (Rect.unit (s := S6) ![3] S1.size inb_S6_S1_3)).squeeze S_ squeezes_S1_S_).sem = qArR 1 1 := rfl
/-- Entry 4 of the receiver's semaphores of partial results. -/
theorem sem_7_4 : (((cc0_scratch7 : DmaSems sig S6).slice (Rect.unit (s := S6) ![4] S1.size inb_S6_S1_4)).squeeze S_ squeezes_S1_S_).sem = qArR 2 0 := rfl
/-- Entry 5 of the receiver's semaphores of partial results. -/
theorem sem_7_5 : (((cc0_scratch7 : DmaSems sig S6).slice (Rect.unit (s := S6) ![5] S1.size inb_S6_S1_5)).squeeze S_ squeezes_S1_S_).sem = qArR 2 1 := rfl
/-- Entry 0 of the receiver's key/value semaphores. -/
theorem sem_5_0 : (((cc0_scratch5 : DmaSems sig S2).slice (Rect.unit (s := S2) ![0] S1.size inb_S2_S1_0)).squeeze S_ squeezes_S1_S_).sem = qKvR 0 := rfl
/-- Entry 1 of the receiver's key/value semaphores. -/
theorem sem_5_1 : (((cc0_scratch5 : DmaSems sig S2).slice (Rect.unit (s := S2) ![1] S1.size inb_S2_S1_1)).squeeze S_ squeezes_S1_S_).sem = qKvR 1 := rfl

/-! ### What the devices hold between the steps -/

/-- What every device knows throughout. -/
def Pers (c : Dev nD) : sProp 𝕄 :=
  iprop(invs m κ ∗ levAts L lv ∗ bigSep Finset.univ (fun d : Dev nD => reached ER (bcell d) 0) ∗ bigSep Finset.univ (fun i : Fin 20 => reached ER (dcell c (oq i)) 0))
/-- What a device may use any number of times may be used so. -/
instance Pers_persistent (c) : BI.Persistent (Pers (F := F) m κ c) := by unfold Pers; infer_instance

/-- In it are the invariants, -/
theorem Pers_invs (c : Dev nD) : Pers m κ c ⊢ invs m κ := by unfold Pers; iintro ⟨H, -⟩; iexact H
/-- the levels, -/
theorem Pers_lev (c : Dev nD) : Pers m κ c ⊢ levAts L lv := by unfold Pers; iintro ⟨-, H, -⟩; iexact H
/-- the start of every barrier cell's round, -/
theorem Pers_bar (c d : Dev nD) : Pers m κ c ⊢ reached ER (bcell d) 0 := by
  have h : (bigSep Finset.univ (fun d : Dev nD => reached ER (bcell d) 0) : sProp 𝕄) ⊢ reached ER (bcell d) 0 := bigSep_elim (Finset.mem_univ d)
  unfold Pers; iintro ⟨-, -, H, -⟩; iapply h; iexact H
/-- and the start of the round of each own DMA cell of the device. -/
theorem Pers_dma (c : Dev nD) (q : DmaSem sig) (hq : 6 ≤ q.val) : Pers m κ c ⊢ reached ER (dcell c q) 0 := by
  have hlt : q.val < 26 := q.isLt
  have e : q = oq ⟨q.val - 6, by omega⟩ := Fin.ext (by simp only [oq]; omega)
  have h : (bigSep Finset.univ (fun i : Fin 20 => reached ER (dcell c (oq i)) 0) : sProp 𝕄) ⊢ reached ER (dcell c (oq ⟨q.val - 6, by omega⟩)) 0 :=
    bigSep_elim (Φ := fun i : Fin 20 => reached ER (dcell c (oq i)) 0) (Finset.mem_univ (⟨q.val - 6, by omega⟩ : Fin 20))
  rw [← e] at h
  unfold Pers; iintro ⟨-, -, -, H⟩; iapply h; iexact H

/-- What a device needs for its transfer of row `b` to the device `k + 1` after it, but for the row itself and what it owes. -/
def arGo (c : Dev nD) (k : Fin 3) (b : Fin 2) : sProp 𝕄 :=
  iprop((∃ f, slotPts (nx k c) k b f) ∗ reached ER (dcell (nx k c) (qArR k b)) 0
    ∗ dutyTok ER (dcell c (qArS k b)) 0 0 ∗ dutyTok ER (dcell (nx k c) (qArR k b)) 0 0)
/-- The credit of a transfer of its own. -/
def arC (c : Dev nD) (k : Fin 3) (b : Fin 2) : sProp 𝕄 := cred (tallyAt (dcell c (qArS k b)) () NA)
/-- The credit of a transfer to it. -/
def arI (c : Dev nD) (k : Fin 3) (b : Fin 2) : sProp 𝕄 := cred (tallyAt (dcell c (qArR k b)) () NA)
/-- Its position at a DMA cell, before (`0`) and after (`1`) the wait. -/
def at_ (c : Dev nD) (q : DmaSem sig) (r : ℕ) : sProp 𝕄 := atPos ER (dcell c q) r ∅ 0

/-- The transfer of row `b` to the device `k + 1` after. -/
theorem wp_ar (c n : Dev nD) (k : Fin 3) (b : Fin 2) (hn : n = nx k c) {offS : Fin 3 → ℕ} (hoffS : offS = ![b.val, 0, 0])
    {offD : Fin 4 → ℕ} (hoffD : offD = ![k.val, b.val, 0, 0]) (l : List (GSem nD τ sig × ℕ)) {iS hS qS iD hD qD}
    {hsc : ((arM.slice (Rect.unit (s := S3x2x128x512) offD S1x1x128x512.size iD) hD).squeeze S128x512 qD : Memref sig (Dev.tc n : Thread nD τ).2.kind .vmem S128x512 .bf16).view.ref.isScScratch = false}
    {hsrc : ((stM.slice (Rect.unit (s := S2x128x512) offS S1x128x512.size iS) hS).squeeze S128x512 qS).view.WordExact}
    {hdst : ((arM.slice (Rect.unit (s := S3x2x128x512) offD S1x1x128x512.size iD) hD).squeeze S128x512 qD).view.WordExact}
    {hsem : DmaTarget.Typed .vmem (.dma (qArR k b)) (.remote (Dev.tc n : Thread nD τ) ((arM.slice (Rect.unit (s := S3x2x128x512) offD S1x1x128x512.size iD) hD).squeeze S128x512 qD) (.dma (qArS k b)) hsc)}
    {α : Type} {Q : α → sProp 𝕄} {kk : PUnit → Prog (TpuEff nD τ sig (Elt F) Λ₀ .tc) α} :
    iprop(Pers m κ c ∗ rowPts (shares3 fullShare k) c b (STG m c) ∗ arGo c k b ∗ ow c (arE c k b :: l))
      ⊢ iprop(((arC c k b ∗ ow c l) -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma ((stM.slice (Rect.unit (s := S2x128x512) offS S1x128x512.size iS) hS).squeeze S128x512 qS)
                (.remote (Dev.tc n : Thread nD τ) ((arM.slice (Rect.unit (s := S3x2x128x512) offD S1x1x128x512.size iD) hD).squeeze S128x512 qD) (.dma (qArS k b)) hsc)
                (.dma (qArR k b)) hsrc hdst hsem) kk) Q) := by
  unfold arGo arC
  iintro ⟨#HP, Hrow, ⟨Hd, #Hr, Ht1, Ht2⟩, HO⟩ Hk
  iapply (wp_send_ar m κ c n k b hn rfl rfl hoffS hoffD l) $$ [Hrow Hd HO Ht1 Ht2]
  · isplitr; · iapply (Pers_invs m κ c); iexact HP
    isplitl [Hrow]; · iexact Hrow
    isplitl [Hd]; · iexact Hd
    isplitl [HO]; · iexact HO
    isplitl [Ht1]; · iexact Ht1
    isplitr; · iapply (Pers_dma m κ c (qArS k b) (by show 6 ≤ 14 + 2 * k.val + b.val; omega)); iexact HP
    isplitl [Ht2]; · iexact Ht2
    iexact Hr
  iexact Hk

/-- A wait at a used DMA cell: it takes the credit and gives the cell's payload. -/
theorem wp_wait (c : Dev nD) (q : DmaSem sig) (K : Kd) (hK : kindOf q = K) (hq : 6 ≤ q.val) (hd : kdDut c K = {0})
    (l : List (GSem nD τ sig × ℕ)) (hl : ∀ p ∈ l, p.1.1.2 = .tc ∧ kdLv K < lv p.1 ())
    {sp sp' : Space} {s s' : Shape} {e e' : EltTy} {src : Memref sig .tc sp s e} {dst : Memref sig .tc sp' s' e'}
    {hsrc : src.view.WordExact} {hdst : dst.view.WordExact} (hN : dst.view.dmaCredit = kdAmt K) (N : ℕ) (hA : kdAmt K = N) (X : sProp 𝕄) (hX : kdPay m c K = X)
    {α : Type} {Q : α → sProp 𝕄} {k : PUnit → Prog (TpuEff nD τ sig (Elt F) Λ₀ .tc) α} :
    iprop(Pers m κ c ∗ cred (tallyAt (dcell c q) () N) ∗ ow c l ∗ at_ c q 0)
      ⊢ iprop(((ow c l ∗ at_ c q 1 ∗ X) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q src dst hsrc hdst) k) Q) := by
  subst hA hX
  unfold at_
  iintro ⟨#HP, Hc, HO, Hat⟩ Hk
  iapply (wp_wait_d m κ c q K hK hq hd l hl hN) $$ [Hc HO Hat]
  · isplitr; · iapply (Pers_invs m κ c); iexact HP
    isplitr; · iapply (Pers_lev m κ c); iexact HP
    isplitl [Hc]; · iexact Hc
    isplitl [HO]; · iexact HO
    iexact Hat
  iexact Hk

/-- The wait for the partial result of slot `(k, b)`, and the wait for an own transfer's end. -/
theorem wp_in (c : Dev nD) (k : Fin 3) (b : Fin 2)
    {sp sp' : Space} {s s' : Shape} {e e' : EltTy} {src : Memref sig .tc sp s e} {dst : Memref sig .tc sp' s' e'}
    {hsrc : src.view.WordExact} {hdst : dst.view.WordExact} (hN : dst.view.dmaCredit = NA)
    {α : Type} {Q : α → sProp 𝕄} {kk : PUnit → Prog (TpuEff nD τ sig (Elt F) Λ₀ .tc) α} :
    iprop(Pers m κ c ∗ arI c k b ∗ ow c [] ∗ at_ c (qArR k b) 0)
      ⊢ iprop(((ow c [] ∗ at_ c (qArR k b) 1 ∗ slotPts c k b (AR m c)) -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 (qArR k b) src dst hsrc hdst) kk) Q) :=
  wp_wait m κ c (qArR k b) (.arR k b) (kind_arR k b) (by show 6 ≤ 20 + 2 * k.val + b.val; omega) rfl [] (fun _ h => absurd h List.not_mem_nil) hN NA rfl _ rfl
/-- The wait for the end of an own transfer: it gives the share of the row back. -/
theorem wp_out (c : Dev nD) (k : Fin 3) (b : Fin 2)
    {sp sp' : Space} {s s' : Shape} {e e' : EltTy} {src : Memref sig .tc sp s e} {dst : Memref sig .tc sp' s' e'}
    {hsrc : src.view.WordExact} {hdst : dst.view.WordExact} (hN : dst.view.dmaCredit = NA)
    {α : Type} {Q : α → sProp 𝕄} {kk : PUnit → Prog (TpuEff nD τ sig (Elt F) Λ₀ .tc) α} :
    iprop(Pers m κ c ∗ arC c k b ∗ ow c [] ∗ at_ c (qArS k b) 0)
      ⊢ iprop(((ow c [] ∗ at_ c (qArS k b) 1 ∗ rowPts (shares3 fullShare k) c b (STG m c)) -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 (qArS k b) src dst hsrc hdst) kk) Q) :=
  wp_wait m κ c (qArS k b) (.arS k b) (kind_arS k b) (by show 6 ≤ 14 + 2 * k.val + b.val; omega) rfl [] (fun _ h => absurd h List.not_mem_nil) hN NA rfl _ rfl

end Cert.KIProof
-- ==== Proof.Heads.lean ====
module

public import proofs.«01_k».proof.Proof.Pieces

@[expose] public section

set_option maxRecDepth 16384

noncomputable section

/-! The kernel's steps that compute the heads and send the partial results. -/

namespace Cert.KIProof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Ring
open Idealize.ShloMosaic.Pipeline (Dat Cfg Window BodyObligation cellOf)

variable {F : FTy → Type} [FloatOps F] [Named F]
variable (m : (ℓ : Loc nD τ sig) → Buf (Elt F) ℓ) (κ : GSem nD τ sig → ℕ)

local notation "𝕄" => MT nD τ sig Unit (Elt F) ℕ UU ℕ

variable (κ : GSem nD τ sig → ℕ)

/-- The context buffer at contents `f`, and the key/value buffer filled. -/
abbrev ctP (c : Dev nD) (f : S2x128x256.Idx → Elt F .bf16) : sProp 𝕄 := ((c : Thread nD τ).loc cc0_scratch1) ↦{fullShare} f
/-- The key/value buffer, filled. -/
abbrev kvP (c : Dev nD) : sProp 𝕄 := ((c : Thread nD τ).loc cc0_scratch0) ↦{fullShare} KV m c

/-- A load of one head's keys, and of its values. -/
theorem wp_kt (c : Dev nD) (b : Fin 2) (h : Fin 4) (off : Fin 5 → ℕ) (hoff : off = ![0, b.val, h.val, 0, 0]) {inb hl}
    {α : Type} {Q : α → sProp 𝕄} {k : _ → Prog (TpuEff nD τ sig (Elt F) Λ₀ .tc) α} :
    kvP m c ⊢ iprop((kvP m c -∗ wp frame (wpE (defs₀ (F := F)) 𝒱₀ (c : Thread nD τ) none) Set.univ (k (kt m c b h)) Q)
      -∗ wp frame (wpE (defs₀ (F := F)) 𝒱₀ (c : Thread nD τ) none) Set.univ (.op (.load kvM (Rect.unit (s := S2x2x4x128x64) off S1x1x1x128x64.size inb).toLoadRect hl) k) Q) := by
  rw [← show _ = kt m c b h from ld_head 0 b h hoff inb (KV m c)]
  exact wp_load 𝒱₀ (c : Thread nD τ) none Set.univ (m := kvM) (Finset.subset_univ _)
/-- The load of one head's values. -/
theorem wp_vt (c : Dev nD) (b : Fin 2) (h : Fin 4) (off : Fin 5 → ℕ) (hoff : off = ![1, b.val, h.val, 0, 0]) {inb hl}
    {α : Type} {Q : α → sProp 𝕄} {k : _ → Prog (TpuEff nD τ sig (Elt F) Λ₀ .tc) α} :
    kvP m c ⊢ iprop((kvP m c -∗ wp frame (wpE (defs₀ (F := F)) 𝒱₀ (c : Thread nD τ) none) Set.univ (k (vt m c b h)) Q)
      -∗ wp frame (wpE (defs₀ (F := F)) 𝒱₀ (c : Thread nD τ) none) Set.univ (.op (.load kvM (Rect.unit (s := S2x2x4x128x64) off S1x1x1x128x64.size inb).toLoadRect hl) k) Q) := by
  rw [← show _ = vt m c b h from ld_head 1 b h hoff inb (KV m c)]
  exact wp_load 𝒱₀ (c : Thread nD τ) none Set.univ (m := kvM) (Finset.subset_univ _)

/-- The context buffer after one head's store. -/
abbrev cwr (off : Fin 3 → ℕ) (inb : ∀ a, off a + S1x128x64.size a ≤ S2x128x256.size a) (f : S2x128x256.Idx → Elt F .bf16) (w : S1x128x64.Idx → Elt F .bf16) :
    S2x128x256.Idx → Elt F .bf16 := (ctM.access (Rect.unit (s := S2x128x256) off S1x128x64.size inb)).write (Elt F) f w Finset.univ

/-- One head's store. -/
theorem wp_ct (c : Dev nD) (off : Fin 3 → ℕ) {inb f w hx hm}
    {α : Type} {Q : α → sProp 𝕄} {k : _ → Prog (TpuEff nD τ sig (Elt F) Λ₀ .tc) α} :
    ctP c f ⊢ iprop((ctP c (cwr off inb f w) -∗ wp frame (wpE (defs₀ (F := F)) 𝒱₀ (c : Thread nD τ) none) Set.univ (k ⟨⟩) Q)
      -∗ wp frame (wpE (defs₀ (F := F)) 𝒱₀ (c : Thread nD τ) none) Set.univ (.op (.store ctM (Rect.unit (s := S2x128x256) off S1x128x64.size inb) w Finset.univ hx hm) k) Q) :=
  wp_store 𝒱₀ (c : Thread nD τ) none Set.univ (m := ctM) (r := Rect.unit (s := S2x128x256) off S1x128x64.size inb) (Mk := Finset.univ) (S := Finset.univ) (f := f) (Finset.subset_univ _)

/-- Head 0 of batch 0, -/
theorem hd0_0 (c : Dev nD) : hd0 m c 0 = k0_pay13 msk (k0_pay12 (q0 m c)) (kt m c 0 0) (vt m c 0 0) := rfl
/-- head 1, -/
theorem hd0_1 (c : Dev nD) : hd0 m c 1 = k0_pay17 msk (k0_pay14 (vt m c 0 1)) (k0_pay15 (q0 m c) (kt m c 0 1)) (k0_pay16 (F := F)) := rfl
/-- head 2 -/
theorem hd0_2 (c : Dev nD) : hd0 m c 2 = k0_pay20 (k0_pay18 (vt m c 0 2)) (k0_pay19 (q0 m c) msk (kt m c 0 2)) := rfl
/-- and head 3, as the kernel computes them. -/
theorem hd0_3 (c : Dev nD) : hd0 m c 3 = k0_pay21 (q0 m c) msk (kt m c 0 3) (vt m c 0 3) := rfl
/-- Head 0 of batch 1, -/
theorem hd1_0 (c : Dev nD) : hd1 m c 0 = k0_pay25 (k0_pay24 (q1 m c) msk (kt m c 1 0) (vt m c 1 0)) := rfl
/-- head 1, -/
theorem hd1_1 (c : Dev nD) : hd1 m c 1 = k0_pay26 (q1 m c) msk (kt m c 1 1) (vt m c 1 1) := rfl
/-- head 2 -/
theorem hd1_2 (c : Dev nD) : hd1 m c 2 = k0_pay29 msk (k0_pay27 (q1 m c)) (k0_pay28 (kt m c 1 2)) (vt m c 1 2) := rfl
/-- and head 3, as the kernel computes them. -/
theorem hd1_3 (c : Dev nD) : hd1 m c 3 = k0_pay32 (k0_pay30 (vt m c 1 3)) (k0_pay31 (q1 m c) msk (kt m c 1 3)) := rfl

/-- The context buffer once the four heads of a row are stored in it, over the contents `f`. -/
abbrev row0f (c : Dev nD) (f : S2x128x256.Idx → Elt F .bf16) : S2x128x256.Idx → Elt F .bf16 :=
  (cwr ![0, 0, 192] inb_S2x128x256_S1x128x64_0_0_192 (cwr ![0, 0, 128] inb_S2x128x256_S1x128x64_0_0_128 (cwr ![0, 0, 64] inb_S2x128x256_S1x128x64_0_0_64 (cwr ![0, 0, 0] inb_S2x128x256_S1x128x64_0_0_0 f (hd0 m c 0)) (hd0 m c 1)) (hd0 m c 2)) (hd0 m c 3))

/-- Part 7: head 0 of batch 0 is stored; the keys and values of head 1 are read. -/
theorem wp_part7 (c : Dev nD) (f : S2x128x256.Idx → Elt F .bf16) {Q : _ → sProp 𝕄} :
    iprop(kvP m c ∗ ctP c f)
      ⊢ iprop(((kvP m c ∗ ctP c (cwr ![0, 0, 0] inb_S2x128x256_S1x128x64_0_0_0 f (hd0 m c 0)))
          -∗ Q ⟨k0_pay14 (vt m c 0 1), k0_pay15 (q0 m c) (kt m c 0 1), k0_pay16 (F := F)⟩)
        -∗ wp frame (wpE (defs₀ (F := F)) 𝒱₀ (c : Thread nD τ) none) Set.univ (k0_part7 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 (q0 m c) msk (k0_pay12 (q0 m c))) Q) := by
  rw [hd0_0]
  simp only [k0_part7_eq_skeleton]; unfold k0_part7_skel
  simp only [Prog.lift, Prog.bind_op, Prog.bind_ret, Prog.pure_eq_ret, Prog.bind_assoc]
  iintro ⟨Hkv, Hct⟩ Hk
  iapply (wp_kt m c 0 0 ![0, 0, 0, 0, 0] rfl) $$ Hkv; iintro Hkv
  iapply (wp_vt m c 0 0 ![1, 0, 0, 0, 0] rfl) $$ Hkv; iintro Hkv
  iapply (wp_load 𝒱₀ (c : Thread nD τ) none Set.univ (m := ctM) (Finset.subset_univ _)) $$ Hct; iintro Hct
  iapply (wp_ct c ![0, 0, 0]) $$ Hct; iintro Hct
  iapply (wp_kt m c 0 1 ![0, 0, 1, 0, 0] rfl) $$ Hkv; iintro Hkv
  iapply (wp_vt m c 0 1 ![1, 0, 1, 0, 0] rfl) $$ Hkv; iintro Hkv
  rw [wp_ret]
  imodintro
  iapply Hk
  isplitl [Hkv]; · iexact Hkv
  iexact Hct

/-- Part 8: head 1 of batch 0 is stored; the keys and values of head 2 are read. -/
theorem wp_part8 (c : Dev nD) (f : S2x128x256.Idx → Elt F .bf16) {Q : _ → sProp 𝕄} :
    iprop(kvP m c ∗ ctP c f)
      ⊢ iprop(((kvP m c ∗ ctP c (cwr ![0, 0, 64] inb_S2x128x256_S1x128x64_0_0_64 f (hd0 m c 1)))
          -∗ Q ⟨k0_pay18 (vt m c 0 2), k0_pay19 (q0 m c) msk (kt m c 0 2)⟩)
        -∗ wp frame (wpE (defs₀ (F := F)) 𝒱₀ (c : Thread nD τ) none) Set.univ (k0_part8 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 (q0 m c) msk (k0_pay14 (vt m c 0 1)) (k0_pay15 (q0 m c) (kt m c 0 1)) (k0_pay16 (F := F))) Q) := by
  rw [hd0_1]
  simp only [k0_part8_eq_skeleton]; unfold k0_part8_skel
  simp only [Prog.lift, Prog.bind_op, Prog.bind_ret, Prog.pure_eq_ret, Prog.bind_assoc]
  iintro ⟨Hkv, Hct⟩ Hk
  iapply (wp_load 𝒱₀ (c : Thread nD τ) none Set.univ (m := ctM) (Finset.subset_univ _)) $$ Hct; iintro Hct
  iapply (wp_ct c ![0, 0, 64]) $$ Hct; iintro Hct
  iapply (wp_kt m c 0 2 ![0, 0, 2, 0, 0] rfl) $$ Hkv; iintro Hkv
  iapply (wp_vt m c 0 2 ![1, 0, 2, 0, 0] rfl) $$ Hkv; iintro Hkv
  rw [wp_ret]
  imodintro
  iapply Hk
  isplitl [Hkv]; · iexact Hkv
  iexact Hct

/-- Part 9: heads 2 and 3 of batch 0 are stored and the row is read: the four heads side by side. -/
theorem wp_part9 (c : Dev nD) (f : S2x128x256.Idx → Elt F .bf16) {Q : _ → sProp 𝕄} :
    iprop(kvP m c ∗ ctP c (cwr ![0, 0, 64] inb_S2x128x256_S1x128x64_0_0_64 (cwr ![0, 0, 0] inb_S2x128x256_S1x128x64_0_0_0 f (hd0 m c 0)) (hd0 m c 1)))
      ⊢ iprop(((kvP m c ∗ ctP c (row0f m c f))
          -∗ Q (cat4 (hd0 m c)))
        -∗ wp frame (wpE (defs₀ (F := F)) 𝒱₀ (c : Thread nD τ) none) Set.univ (k0_part9 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 (q0 m c) msk (k0_pay18 (vt m c 0 2)) (k0_pay19 (q0 m c) msk (kt m c 0 2))) Q) := by
  have e2 := hd0_2 m c
  have e3 := hd0_3 m c
  simp only [k0_part9_eq_skeleton]; unfold k0_part9_skel
  simp only [Prog.lift, Prog.bind_op, Prog.bind_ret, Prog.pure_eq_ret, Prog.bind_assoc]
  iintro ⟨Hkv, Hct⟩ Hk
  iapply (wp_load 𝒱₀ (c : Thread nD τ) none Set.univ (m := ctM) (Finset.subset_univ _)) $$ Hct; iintro Hct
  iapply (wp_ct c ![0, 0, 128]) $$ Hct; iintro Hct
  rw [← e2]
  iapply (wp_kt m c 0 3 ![0, 0, 3, 0, 0] rfl) $$ Hkv; iintro Hkv
  iapply (wp_vt m c 0 3 ![1, 0, 3, 0, 0] rfl) $$ Hkv; iintro Hkv
  iapply (wp_load 𝒱₀ (c : Thread nD τ) none Set.univ (m := ctM) (Finset.subset_univ _)) $$ Hct; iintro Hct
  iapply (wp_ct c ![0, 0, 192]) $$ Hct; iintro Hct
  rw [← e3]
  iapply (wp_load 𝒱₀ (c : Thread nD τ) none Set.univ (m := ctM) (Finset.subset_univ _)) $$ Hct; iintro Hct
  rw [show _ = cat4 (hd0 m c) from ct_row 0 (oc := ![0, 0, 0]) (o0 := ![0, 0, 0]) (o1 := ![0, 0, 64]) (o2 := ![0, 0, 128]) (o3 := ![0, 0, 192]) rfl rfl rfl rfl rfl inb_S2x128x256_S1x128x256_0_0_0 inb_S2x128x256_S1x128x64_0_0_0 inb_S2x128x256_S1x128x64_0_0_64 inb_S2x128x256_S1x128x64_0_0_128 inb_S2x128x256_S1x128x64_0_0_192 f (hd0 m c)]
  rw [wp_ret]
  imodintro
  iapply Hk
  isplitl [Hkv]; · iexact Hkv
  iexact Hct

/-- The load of a row of the outgoing buffer, whose contents are not used, and the store of its partial result. -/
theorem wp_st0 (c : Dev nD) {f inb hx hm}
    {α : Type} {Q : α → sProp 𝕄} {k : _ → Prog (TpuEff nD τ sig (Elt F) Λ₀ .tc) α} :
    rowPts fullShare c 0 f ⊢ iprop((rowPts fullShare c 0 (STG m c) -∗ wp frame (wpE (defs₀ (F := F)) 𝒱₀ (c : Thread nD τ) none) Set.univ (k ⟨⟩) Q)
      -∗ wp frame (wpE (defs₀ (F := F)) 𝒱₀ (c : Thread nD τ) none) Set.univ (.op (.store stM (Rect.unit (s := S2x128x512) ![0, 0, 0] S1x128x512.size inb) (s0 m c) Finset.univ hx hm) k) Q) := by
  rw [← st_row0 m c rfl inb f]
  exact wp_store 𝒱₀ (c : Thread nD τ) none Set.univ (m := stM) (r := Rect.unit (s := S2x128x512) ![0, 0, 0] S1x128x512.size inb) (Mk := Finset.univ) (S := rowSet 0) (f := f) (st_sub 0 rfl inb)
/-- The store of row 1 to send. -/
theorem wp_st1 (c : Dev nD) {f inb hx hm}
    {α : Type} {Q : α → sProp 𝕄} {k : _ → Prog (TpuEff nD τ sig (Elt F) Λ₀ .tc) α} :
    rowPts fullShare c 1 f ⊢ iprop((rowPts fullShare c 1 (STG m c) -∗ wp frame (wpE (defs₀ (F := F)) 𝒱₀ (c : Thread nD τ) none) Set.univ (k ⟨⟩) Q)
      -∗ wp frame (wpE (defs₀ (F := F)) 𝒱₀ (c : Thread nD τ) none) Set.univ (.op (.store stM (Rect.unit (s := S2x128x512) ![1, 0, 0] S1x128x512.size inb) (s1 m c) Finset.univ hx hm) k) Q) := by
  rw [← st_row1 m c rfl inb f]
  exact wp_store 𝒱₀ (c : Thread nD τ) none Set.univ (m := stM) (r := Rect.unit (s := S2x128x512) ![1, 0, 0] S1x128x512.size inb) (Mk := Finset.univ) (S := rowSet 1) (f := f) (st_sub 1 rfl inb)
/-- The load of a row to send. -/
theorem wp_stld (c : Dev nD) (b : Fin 2) (off : Fin 3 → ℕ) (hoff : off = ![b.val, 0, 0]) {f inb hl}
    {α : Type} {Q : α → sProp 𝕄} {k : _ → Prog (TpuEff nD τ sig (Elt F) Λ₀ .tc) α} :
    rowPts fullShare c b f ⊢ iprop((rowPts fullShare c b f -∗ wp frame (wpE (defs₀ (F := F)) 𝒱₀ (c : Thread nD τ) none) Set.univ (k (stM.view.readAt (Elt F) (Rect.unit (s := S2x128x512) off S1x128x512.size inb).toLoadRect f)) Q)
      -∗ wp frame (wpE (defs₀ (F := F)) 𝒱₀ (c : Thread nD τ) none) Set.univ (.op (.load stM (Rect.unit (s := S2x128x512) off S1x128x512.size inb).toLoadRect hl) k) Q) :=
  wp_load 𝒱₀ (c : Thread nD τ) none Set.univ (m := stM) (S := rowSet b) (f := f) (st_ldsub b hoff inb)

/-- Part 10: the partial result of batch 0 is stored and sent to the next device and the one after it. -/
theorem wp_part10 (c : Dev nD) (v88 v90 : BitVec 32) (l : List (GSem nD τ sig × ℕ)) {Q : _ → sProp 𝕄} :
    iprop(Pers m κ c ∗ (∃ f, rowPts fullShare c 0 f) ∗ arGo c 0 0 ∗ arGo c 1 0 ∗ ow c (arE c 0 0 :: arE c 1 0 :: l))
      ⊢ iprop(((rowPts (shares3 fullShare 2) c 0 (STG m c) ∗ arC c 0 0 ∗ arC c 1 0 ∗ ow c l)
          -∗ Q (p0 m c))
        -∗ wp frame (wpE (defs₀ (F := F)) 𝒱₀ (c : Thread nD τ) none) Set.univ (k0_part10 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c (wo m c) v88 v90 (cat4 (hd0 m c))) Q) := by
  rw [show p0 m c = k0_pay22 (wo m c) (cat4 (hd0 m c)) from rfl]
  simp only [k0_part10_eq_skeleton]; unfold k0_part10_skel
  simp only [Prog.lift, Prog.bind_op, Prog.bind_ret, Prog.pure_eq_ret, Prog.bind_assoc]
  iintro ⟨#HP, ⟨%f, Hr⟩, Hg0, Hg1, HO⟩ Hk
  iapply (wp_stld c 0 ![0, 0, 0] rfl) $$ Hr; iintro Hr
  iapply (wp_st0 m c) $$ Hr; iintro Hr
  ihave Hr := (row_thirds c 0 (STG m c)).1 $$ Hr
  icases Hr with ⟨Hr0, Hr1, Hr2⟩
  iapply (wp_ar m κ c ⟨k0_dev10 c, k0_dev10_lt c⟩ 0 0 (Fin.ext (k0_dev10_eq c)) (offS := ![0, 0, 0]) rfl (offD := ![0, 0, 0, 0]) rfl _) $$ [Hr0 Hg0 HO]
  · isplitr; · iexact HP
    isplitl [Hr0]; · iexact Hr0
    isplitl [Hg0]; · iexact Hg0
    iexact HO
  iintro ⟨Hc0, HO⟩
  iapply (wp_ar m κ c ⟨k0_dev11 c, k0_dev11_lt c⟩ 1 0 (Fin.ext (k0_dev11_eq c)) (offS := ![0, 0, 0]) rfl (offD := ![1, 0, 0, 0]) rfl _) $$ [Hr1 Hg1 HO]
  · isplitr; · iexact HP
    isplitl [Hr1]; · iexact Hr1
    isplitl [Hg1]; · iexact Hg1
    iexact HO
  iintro ⟨Hc1, HO⟩
  rw [wp_ret]
  imodintro
  iapply Hk
  isplitl [Hr2]; · iexact Hr2
  isplitl [Hc0]; · iexact Hc0
  isplitl [Hc1]; · iexact Hc1
  iexact HO

/-- Part 11: the partial result of batch 0 is sent to the third device after; head 0 of batch 1 is computed. -/
theorem wp_part11 (c : Dev nD) (f : S2x128x256.Idx → Elt F .bf16) (v92 : BitVec 32) (l : List (GSem nD τ sig × ℕ)) {Q : _ → sProp 𝕄} :
    iprop(Pers m κ c ∗ rowPts (shares3 fullShare 2) c 0 (STG m c) ∗ arGo c 2 0 ∗ ow c (arE c 2 0 :: l) ∗ kvP m c ∗ ctP c f)
      ⊢ iprop(((arC c 2 0 ∗ ow c l ∗ kvP m c ∗ ctP c f)
          -∗ Q (k0_pay24 (q1 m c) msk (kt m c 1 0) (vt m c 1 0)))
        -∗ wp frame (wpE (defs₀ (F := F)) 𝒱₀ (c : Thread nD τ) none) Set.univ (k0_part11 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c (q1 m c) msk v92) Q) := by
  simp only [k0_part11_eq_skeleton]; unfold k0_part11_skel
  simp only [Prog.lift, Prog.bind_op, Prog.bind_ret, Prog.pure_eq_ret, Prog.bind_assoc]
  iintro ⟨#HP, Hr, Hg2, HO, Hkv, Hct⟩ Hk
  iapply (wp_ar m κ c ⟨k0_dev12 c, k0_dev12_lt c⟩ 2 0 (Fin.ext (k0_dev12_eq c)) (offS := ![0, 0, 0]) rfl (offD := ![2, 0, 0, 0]) rfl _) $$ [Hr Hg2 HO]
  · isplitr; · iexact HP
    isplitl [Hr]; · iexact Hr
    isplitl [Hg2]; · iexact Hg2
    iexact HO
  iintro ⟨Hc2, HO⟩
  iapply (wp_kt m c 1 0 ![0, 1, 0, 0, 0] rfl) $$ Hkv; iintro Hkv
  iapply (wp_vt m c 1 0 ![1, 1, 0, 0, 0] rfl) $$ Hkv; iintro Hkv
  iapply (wp_load 𝒱₀ (c : Thread nD τ) none Set.univ (m := ctM) (Finset.subset_univ _)) $$ Hct; iintro Hct
  rw [wp_ret]
  imodintro
  iapply Hk
  isplitl [Hc2]; · iexact Hc2
  isplitl [HO]; · iexact HO
  isplitl [Hkv]; · iexact Hkv
  iexact Hct

/-- Part 12: heads 0 and 1 of batch 1 are stored; the keys of head 2 are read. -/
theorem wp_part12 (c : Dev nD) (f : S2x128x256.Idx → Elt F .bf16) {Q : _ → sProp 𝕄} :
    iprop(kvP m c ∗ ctP c f)
      ⊢ iprop(((kvP m c ∗ ctP c (cwr ![1, 0, 64] inb_S2x128x256_S1x128x64_1_0_64 (cwr ![1, 0, 0] inb_S2x128x256_S1x128x64_1_0_0 f (hd1 m c 0)) (hd1 m c 1)))
          -∗ Q ⟨k0_pay27 (q1 m c), k0_pay28 (kt m c 1 2)⟩)
        -∗ wp frame (wpE (defs₀ (F := F)) 𝒱₀ (c : Thread nD τ) none) Set.univ (k0_part12 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 (q1 m c) msk (k0_pay24 (q1 m c) msk (kt m c 1 0) (vt m c 1 0))) Q) := by
  rw [hd1_0, hd1_1]
  simp only [k0_part12_eq_skeleton]; unfold k0_part12_skel
  simp only [Prog.lift, Prog.bind_op, Prog.bind_ret, Prog.pure_eq_ret, Prog.bind_assoc]
  iintro ⟨Hkv, Hct⟩ Hk
  iapply (wp_ct c ![1, 0, 0]) $$ Hct; iintro Hct
  iapply (wp_kt m c 1 1 ![0, 1, 1, 0, 0] rfl) $$ Hkv; iintro Hkv
  iapply (wp_vt m c 1 1 ![1, 1, 1, 0, 0] rfl) $$ Hkv; iintro Hkv
  iapply (wp_load 𝒱₀ (c : Thread nD τ) none Set.univ (m := ctM) (Finset.subset_univ _)) $$ Hct; iintro Hct
  iapply (wp_ct c ![1, 0, 64]) $$ Hct; iintro Hct
  iapply (wp_kt m c 1 2 ![0, 1, 2, 0, 0] rfl) $$ Hkv; iintro Hkv
  rw [wp_ret]
  imodintro
  iapply Hk
  isplitl [Hkv]; · iexact Hkv
  iexact Hct

/-- Part 13: head 2 of batch 1 is stored; the keys and values of head 3 are read. -/
theorem wp_part13 (c : Dev nD) (f : S2x128x256.Idx → Elt F .bf16) {Q : _ → sProp 𝕄} :
    iprop(kvP m c ∗ ctP c f)
      ⊢ iprop(((kvP m c ∗ ctP c (cwr ![1, 0, 128] inb_S2x128x256_S1x128x64_1_0_128 f (hd1 m c 2)))
          -∗ Q ⟨k0_pay30 (vt m c 1 3), k0_pay31 (q1 m c) msk (kt m c 1 3)⟩)
        -∗ wp frame (wpE (defs₀ (F := F)) 𝒱₀ (c : Thread nD τ) none) Set.univ (k0_part13 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 (q1 m c) msk (k0_pay27 (q1 m c)) (k0_pay28 (kt m c 1 2))) Q) := by
  rw [hd1_2]
  simp only [k0_part13_eq_skeleton]; unfold k0_part13_skel
  simp only [Prog.lift, Prog.bind_op, Prog.bind_ret, Prog.pure_eq_ret, Prog.bind_assoc]
  iintro ⟨Hkv, Hct⟩ Hk
  iapply (wp_vt m c 1 2 ![1, 1, 2, 0, 0] rfl) $$ Hkv; iintro Hkv
  iapply (wp_load 𝒱₀ (c : Thread nD τ) none Set.univ (m := ctM) (Finset.subset_univ _)) $$ Hct; iintro Hct
  iapply (wp_ct c ![1, 0, 128]) $$ Hct; iintro Hct
  iapply (wp_kt m c 1 3 ![0, 1, 3, 0, 0] rfl) $$ Hkv; iintro Hkv
  iapply (wp_vt m c 1 3 ![1, 1, 3, 0, 0] rfl) $$ Hkv; iintro Hkv
  rw [wp_ret]
  imodintro
  iapply Hk
  isplitl [Hkv]; · iexact Hkv
  iexact Hct

/-- The context buffer once the four heads of batch 1 are stored in it, over the contents `f`. -/
abbrev row1f (c : Dev nD) (f : S2x128x256.Idx → Elt F .bf16) : S2x128x256.Idx → Elt F .bf16 :=
  (cwr ![1, 0, 192] inb_S2x128x256_S1x128x64_1_0_192 (cwr ![1, 0, 128] inb_S2x128x256_S1x128x64_1_0_128 (cwr ![1, 0, 64] inb_S2x128x256_S1x128x64_1_0_64 (cwr ![1, 0, 0] inb_S2x128x256_S1x128x64_1_0_0 f (hd1 m c 0)) (hd1 m c 1)) (hd1 m c 2)) (hd1 m c 3))

/-- Part 14: the last head of batch 1 is stored, the row is read, and the partial result of batch 1 is stored and sent to the next device. -/
theorem wp_part14 (c : Dev nD) (f : S2x128x256.Idx → Elt F .bf16) (v88 : BitVec 32) (l : List (GSem nD τ sig × ℕ)) {Q : _ → sProp 𝕄} :
    iprop(Pers m κ c ∗ ctP c (cwr ![1, 0, 128] inb_S2x128x256_S1x128x64_1_0_128 (cwr ![1, 0, 64] inb_S2x128x256_S1x128x64_1_0_64 (cwr ![1, 0, 0] inb_S2x128x256_S1x128x64_1_0_0 f (hd1 m c 0)) (hd1 m c 1)) (hd1 m c 2)) ∗ (∃ f, rowPts fullShare c 1 f) ∗ arGo c 0 1 ∗ ow c (arE c 0 1 :: l))
      ⊢ iprop(((ctP c (row1f m c f) ∗ rowPts (shares3 fullShare 1) c 1 (STG m c) ∗ rowPts (shares3 fullShare 2) c 1 (STG m c) ∗ arC c 0 1 ∗ ow c l)
          -∗ Q ⟨p1 m c, 1#32⟩)
        -∗ wp frame (wpE (defs₀ (F := F)) 𝒱₀ (c : Thread nD τ) none) Set.univ (k0_part14 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c (wo m c) v88 (k0_pay30 (vt m c 1 3)) (k0_pay31 (q1 m c) msk (kt m c 1 3))) Q) := by
  have e3 := hd1_3 m c
  rw [show p1 m c = k0_pay33 (wo m c) (cat4 (hd1 m c)) from rfl]
  simp only [k0_part14_eq_skeleton]; unfold k0_part14_skel
  simp only [Prog.lift, Prog.bind_op, Prog.bind_ret, Prog.pure_eq_ret, Prog.bind_assoc]
  iintro ⟨#HP, Hct, ⟨%g, Hr⟩, Hg0, HO⟩ Hk
  iapply (wp_load 𝒱₀ (c : Thread nD τ) none Set.univ (m := ctM) (Finset.subset_univ _)) $$ Hct; iintro Hct
  iapply (wp_ct c ![1, 0, 192]) $$ Hct; iintro Hct
  rw [← e3]
  iapply (wp_load 𝒱₀ (c : Thread nD τ) none Set.univ (m := ctM) (Finset.subset_univ _)) $$ Hct; iintro Hct
  rw [show _ = cat4 (hd1 m c) from ct_row 1 (oc := ![1, 0, 0]) (o0 := ![1, 0, 0]) (o1 := ![1, 0, 64]) (o2 := ![1, 0, 128]) (o3 := ![1, 0, 192]) rfl rfl rfl rfl rfl inb_S2x128x256_S1x128x256_1_0_0 inb_S2x128x256_S1x128x64_1_0_0 inb_S2x128x256_S1x128x64_1_0_64 inb_S2x128x256_S1x128x64_1_0_128 inb_S2x128x256_S1x128x64_1_0_192 f (hd1 m c)]
  iapply (wp_stld c 1 ![1, 0, 0] rfl) $$ Hr; iintro Hr
  iapply (wp_st1 m c) $$ Hr; iintro Hr
  ihave Hr := (row_thirds c 1 (STG m c)).1 $$ Hr
  icases Hr with ⟨Hr0, Hr1, Hr2⟩
  iapply (wp_ar m κ c ⟨k0_dev13 c, k0_dev13_lt c⟩ 0 1 (Fin.ext (k0_dev13_eq c)) (offS := ![1, 0, 0]) rfl (offD := ![0, 1, 0, 0]) rfl _) $$ [Hr0 Hg0 HO]
  · isplitr; · iexact HP
    isplitl [Hr0]; · iexact Hr0
    isplitl [Hg0]; · iexact Hg0
    iexact HO
  iintro ⟨Hc0, HO⟩
  rw [wp_ret]
  imodintro
  iapply Hk
  isplitl [Hct]; · iexact Hct
  isplitl [Hr1]; · iexact Hr1
  isplitl [Hr2]; · iexact Hr2
  isplitl [Hc0]; · iexact Hc0
  iexact HO

/-- The result's buffer at contents `f`. -/
abbrev outP (c : Dev nD) (f : S2x128x512.Idx → Elt F .f32) : sProp 𝕄 := ((c : Thread nD τ).loc cc0_stg5_0) ↦{fullShare} f

/-- A load of a row of the result and the store of one: rows are replaced one by one. -/
theorem wp_outst (c : Dev nD) (off : Fin 3 → ℕ) {inb f w hx hm}
    {α : Type} {Q : α → sProp 𝕄} {k : _ → Prog (TpuEff nD τ sig (Elt F) Λ₀ .tc) α} :
    outP c f ⊢ iprop((outP c ((oM.access (Rect.unit (s := S2x128x512) off S1x128x512.size inb)).write (Elt F) f w Finset.univ) -∗ wp frame (wpE (defs₀ (F := F)) 𝒱₀ (c : Thread nD τ) none) Set.univ (k ⟨⟩) Q)
      -∗ wp frame (wpE (defs₀ (F := F)) 𝒱₀ (c : Thread nD τ) none) Set.univ (.op (.store oM (Rect.unit (s := S2x128x512) off S1x128x512.size inb) w Finset.univ hx hm) k) Q) :=
  wp_store 𝒱₀ (c : Thread nD τ) none Set.univ (m := oM) (r := Rect.unit (s := S2x128x512) off S1x128x512.size inb) (Mk := Finset.univ) (S := Finset.univ) (f := f) (Finset.subset_univ _)

/-- Part 15: the partial result of batch 1 is sent to the other two devices, and the result's rows start as the own partial results. -/
theorem wp_part15 (c : Dev nD) (f : S2x128x512.Idx → Elt F .f32) (v88 v90 v92 c1 : BitVec 32) (l : List (GSem nD τ sig × ℕ)) {Q : _ → sProp 𝕄} :
    iprop(Pers m κ c ∗ rowPts (shares3 fullShare 1) c 1 (STG m c) ∗ rowPts (shares3 fullShare 2) c 1 (STG m c) ∗ arGo c 1 1 ∗ arGo c 2 1 ∗ ow c (arE c 1 1 :: arE c 2 1 :: l) ∗ outP c f)
      ⊢ iprop(((arC c 1 1 ∗ arC c 2 1 ∗ ow c l ∗ outP c (mk2 (r00 m c) (r10 m c)))
          -∗ Q ⟨Scalar.muli v88 1#32, 0#32⟩)
        -∗ wp frame (wpE (defs₀ (F := F)) 𝒱₀ (c : Thread nD τ) none) Set.univ (k0_part15 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c v88 v90 v92 (p0 m c) (p1 m c) c1) Q) := by
  simp only [k0_part15_eq_skeleton]; unfold k0_part15_skel
  simp only [Prog.lift, Prog.bind_op, Prog.bind_ret, Prog.pure_eq_ret, Prog.bind_assoc]
  iintro ⟨#HP, Hr1, Hr2, Hg1, Hg2, HO, Ho⟩ Hk
  iapply (wp_ar m κ c ⟨k0_dev14 c, k0_dev14_lt c⟩ 1 1 (Fin.ext (k0_dev14_eq c)) (offS := ![1, 0, 0]) rfl (offD := ![1, 1, 0, 0]) rfl _) $$ [Hr1 Hg1 HO]
  · isplitr; · iexact HP
    isplitl [Hr1]; · iexact Hr1
    isplitl [Hg1]; · iexact Hg1
    iexact HO
  iintro ⟨Hc1, HO⟩
  iapply (wp_ar m κ c ⟨k0_dev15 c, k0_dev15_lt c⟩ 2 1 (Fin.ext (k0_dev15_eq c)) (offS := ![1, 0, 0]) rfl (offD := ![2, 1, 0, 0]) rfl _) $$ [Hr2 Hg2 HO]
  · isplitr; · iexact HP
    isplitl [Hr2]; · iexact Hr2
    isplitl [Hg2]; · iexact Hg2
    iexact HO
  iintro ⟨Hc2, HO⟩
  iapply (wp_load 𝒱₀ (c : Thread nD τ) none Set.univ (m := oM) (Finset.subset_univ _)) $$ Ho; iintro Ho
  iapply (wp_outst c ![0, 0, 0]) $$ Ho; iintro Ho
  iapply (wp_load 𝒱₀ (c : Thread nD τ) none Set.univ (m := oM) (Finset.subset_univ _)) $$ Ho; iintro Ho
  iapply (wp_outst c ![1, 0, 0]) $$ Ho; iintro Ho
  rw [out_init rfl rfl]
  rw [wp_ret]
  imodintro
  iapply Hk
  isplitl [Hc1]; · iexact Hc1
  isplitl [Hc2]; · iexact Hc2
  isplitl [HO]; · iexact HO
  iexact Ho

end Cert.KIProof
-- ==== Proof.Sums.lean ====
module

public import proofs.«01_k».proof.Proof.Heads

@[expose] public section

set_option maxRecDepth 16384

noncomputable section

/-! The kernel's steps that add up the partial results. -/

namespace Cert.KIProof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Ring
open Idealize.ShloMosaic.Pipeline (Dat Cfg Window BodyObligation cellOf)

variable {F : FTy → Type} [FloatOps F] [Named F]
variable (m : (ℓ : Loc nD τ sig) → Buf (Elt F) ℓ) (κ : GSem nD τ sig → ℕ)

local notation "𝕄" => MT nD τ sig Unit (Elt F) ℕ UU ℕ

variable (κ : GSem nD τ sig → ℕ)

/-- A load of a slot of the incoming partial results. -/
theorem wp_slot (c : Dev nD) (k : Fin 3) (b : Fin 2) (off : Fin 4 → ℕ) (hoff : off = ![k.val, b.val, 0, 0]) {inb hl}
    {α : Type} {Q : α → sProp 𝕄} {kk : _ → Prog (TpuEff nD τ sig (Elt F) Λ₀ .tc) α} :
    slotPts c k b (AR m c) ⊢ iprop((slotPts c k b (AR m c) -∗ wp frame (wpE (defs₀ (F := F)) 𝒱₀ (c : Thread nD τ) none) Set.univ (kk (ar m c k b)) Q)
      -∗ wp frame (wpE (defs₀ (F := F)) 𝒱₀ (c : Thread nD τ) none) Set.univ (.op (.load arM (Rect.unit (s := S3x2x128x512) off S1x1x128x512.size inb).toLoadRect hl) kk) Q) := by
  rw [← show _ = ar m c k b from ld_slot k b hoff inb (AR m c)]
  exact wp_load 𝒱₀ (c : Thread nD τ) none Set.univ (m := arM) (S := slotSet k b) (f := AR m c) (ar_ldsub k b hoff inb)

/-- The two waits at the memory refs the program names. -/
theorem wp_inM (c : Dev nD) (k : Fin 3) (b : Fin 2) (offD : Fin 4 → ℕ) {iD hD qD}
    {sp : Space} {s : Shape} {e : EltTy} {src : Memref sig .tc sp s e}
    {hsrc : src.view.WordExact} {hdst : ((arM.slice (Rect.unit (s := S3x2x128x512) offD S1x1x128x512.size iD) hD).squeeze S128x512 qD).view.WordExact}
    {α : Type} {Q : α → sProp 𝕄} {kk : PUnit → Prog (TpuEff nD τ sig (Elt F) Λ₀ .tc) α} :
    iprop(Pers m κ c ∗ arI c k b ∗ ow c [] ∗ at_ c (qArR k b) 0)
      ⊢ iprop(((ow c [] ∗ at_ c (qArR k b) 1 ∗ slotPts c k b (AR m c)) -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 (qArR k b) src ((arM.slice (Rect.unit (s := S3x2x128x512) offD S1x1x128x512.size iD) hD).squeeze S128x512 qD) hsrc hdst) kk) Q) :=
  wp_in m κ c k b (dst := (arM.slice (Rect.unit (s := S3x2x128x512) offD S1x1x128x512.size iD) hD).squeeze S128x512 qD) rfl
/-- The wait for the end of an own transfer, as the kernel names it. -/
theorem wp_outM (c : Dev nD) (k : Fin 3) (b : Fin 2) (offD : Fin 3 → ℕ) {iD hD qD}
    {sp : Space} {s : Shape} {e : EltTy} {src : Memref sig .tc sp s e}
    {hsrc : src.view.WordExact} {hdst : ((stM.slice (Rect.unit (s := S2x128x512) offD S1x128x512.size iD) hD).squeeze S128x512 qD).view.WordExact}
    {α : Type} {Q : α → sProp 𝕄} {kk : PUnit → Prog (TpuEff nD τ sig (Elt F) Λ₀ .tc) α} :
    iprop(Pers m κ c ∗ arC c k b ∗ ow c [] ∗ at_ c (qArS k b) 0)
      ⊢ iprop(((ow c [] ∗ at_ c (qArS k b) 1 ∗ rowPts (shares3 fullShare k) c b (STG m c)) -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 (qArS k b) src ((stM.slice (Rect.unit (s := S2x128x512) offD S1x128x512.size iD) hD).squeeze S128x512 qD) hsrc hdst) kk) Q) :=
  wp_out m κ c k b (dst := (stM.slice (Rect.unit (s := S2x128x512) offD S1x128x512.size iD) hD).squeeze S128x512 qD) rfl

/-- What is left of a slot once it is filled: the slot and the passed position. -/
abbrev arD (c : Dev nD) (k : Fin 3) (b : Fin 2) : sProp 𝕄 := iprop(slotPts c k b (AR m c) ∗ at_ c (qArR k b) 1)
/-- What the wait for a slot takes, but for what is owed. -/
abbrev arW (c : Dev nD) (k : Fin 3) (b : Fin 2) : sProp 𝕄 := iprop(arI c k b ∗ at_ c (qArR k b) 0)
/-- What is left of a transfer once it is known to have ended. -/
abbrev arB (c : Dev nD) (k : Fin 3) (b : Fin 2) : sProp 𝕄 := iprop(rowPts (shares3 fullShare k) c b (STG m c) ∗ at_ c (qArS k b) 1)

/-- Part 6: the mask of the block-causal pattern, and the queries of head 0 of batch 0. -/
theorem wp_part6 (c : Dev nD) (v2 : BitVec 32) {Q : _ → sProp 𝕄} :
    iprop(emp)
      ⊢ iprop(((emp)
          -∗ Q ⟨msk, Scalar.remsi (Scalar.addi v2 1#32) 4#32, Scalar.remsi (Scalar.addi v2 2#32) 4#32, Scalar.remsi (Scalar.addi v2 3#32) 4#32, k0_pay12 (q0 m c)⟩)
        -∗ wp frame (wpE (defs₀ (F := F)) 𝒱₀ (c : Thread nD τ) none) Set.univ (k0_part6 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 v2 (q0 m c) (iota .tc S128x128 32 [0] iota_S128x128_d0_w32) 64#32 k0_pay8 k0_pay9 k0_pay10) Q) := by
  simp only [k0_part6_eq_skeleton]; unfold k0_part6_skel
  simp only [Prog.lift, Prog.bind_op, Prog.bind_ret, Prog.pure_eq_ret, Prog.bind_assoc]
  iintro He Hk
  unfold msk
  rw [wp_ret]
  imodintro
  iapply Hk
  iexact He

/-- Part 16: the first peer's partial result of batch 0 is added; the second one's has arrived. -/
theorem wp_part16 (c : Dev nD) (v90 v373 c0 : BitVec 32) {Q : _ → sProp 𝕄} :
    iprop(Pers m κ c ∗ ow c [] ∗ arW c 0 0 ∗ arW c 1 0 ∗ outP c (mk2 (r00 m c) (r10 m c)))
      ⊢ iprop(((ow c [] ∗ arD m c 0 0 ∗ arD m c 1 0 ∗ outP c (mk2 (r01 m c) (r10 m c)))
          -∗ Q (k0_pay38 (r01 m c)))
        -∗ wp frame (wpE (defs₀ (F := F)) 𝒱₀ (c : Thread nD τ) none) Set.univ (k0_part16 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 v90 v373 c0) Q) := by
  rw [show r01 m c = k0_pay37 (r00 m c) (ar m c 0 0) from rfl]
  simp only [k0_part16_eq_skeleton]; unfold k0_part16_skel
  simp only [Prog.lift, Prog.bind_op, Prog.bind_ret, Prog.pure_eq_ret, Prog.bind_assoc]
  iintro ⟨#HP, HO, ⟨Hi0, Ha0⟩, ⟨Hi1, Ha1⟩, Ho⟩ Hk
  iapply (wp_inM m κ c 0 0 ![0, 0, 0, 0]) $$ [Hi0 HO Ha0]
  · isplitr; · iexact HP
    isplitl [Hi0]; · iexact Hi0
    isplitl [HO]; · iexact HO
    iexact Ha0
  iintro ⟨HO, Ha0, Hs0⟩
  iapply (wp_load 𝒱₀ (c : Thread nD τ) none Set.univ (m := oM) (Finset.subset_univ _)) $$ Ho; iintro Ho
  rw [out_get0 (o0 := ![0, 0, 0]) rfl]
  iapply (wp_slot m c 0 0 ![0, 0, 0, 0] rfl) $$ Hs0; iintro Hs0
  iapply (wp_load 𝒱₀ (c : Thread nD τ) none Set.univ (m := oM) (Finset.subset_univ _)) $$ Ho; iintro Ho
  iapply (wp_outst c ![0, 0, 0]) $$ Ho; iintro Ho
  rw [out_set0 (o0 := ![0, 0, 0]) rfl]
  iapply (wp_inM m κ c 1 0 ![1, 0, 0, 0]) $$ [Hi1 HO Ha1]
  · isplitr; · iexact HP
    isplitl [Hi1]; · iexact Hi1
    isplitl [HO]; · iexact HO
    iexact Ha1
  iintro ⟨HO, Ha1, Hs1⟩
  iapply (wp_load 𝒱₀ (c : Thread nD τ) none Set.univ (m := oM) (Finset.subset_univ _)) $$ Ho; iintro Ho
  rw [out_get0 (o0 := ![0, 0, 0]) rfl]
  rw [wp_ret]
  imodintro
  iapply Hk
  isplitl [HO]; · iexact HO
  isplitl [Hs0 Ha0]
  · isplitl [Hs0]; · iexact Hs0
    iexact Ha0
  isplitl [Hs1 Ha1]
  · isplitl [Hs1]; · iexact Hs1
    iexact Ha1
  iexact Ho

/-- Part 17: the second and the third peer's partial results of batch 0 are added. -/
theorem wp_part17 (c : Dev nD) (v88 v92 : BitVec 32) {Q : _ → sProp 𝕄} :
    iprop(Pers m κ c ∗ ow c [] ∗ arD m c 1 0 ∗ arW c 2 0 ∗ outP c (mk2 (r01 m c) (r10 m c)))
      ⊢ iprop(((ow c [] ∗ arD m c 1 0 ∗ arD m c 2 0 ∗ outP c (mk2 (r03 m c) (r10 m c)))
          -∗ Q ⟨Scalar.muli v88 1#32, 0#32⟩)
        -∗ wp frame (wpE (defs₀ (F := F)) 𝒱₀ (c : Thread nD τ) none) Set.univ (k0_part17 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 v88 v92 (k0_pay38 (r01 m c))) Q) := by
  rw [show r03 m c = k0_pay40 (k0_pay39 (k0_pay38 (r01 m c)) (ar m c 1 0)) (ar m c 2 0) from rfl]
  simp only [k0_part17_eq_skeleton]; unfold k0_part17_skel
  simp only [Prog.lift, Prog.bind_op, Prog.bind_ret, Prog.pure_eq_ret, Prog.bind_assoc]
  iintro ⟨#HP, HO, ⟨Hs1, Ha1⟩, ⟨Hi2, Ha2⟩, Ho⟩ Hk
  iapply (wp_slot m c 1 0 ![1, 0, 0, 0] rfl) $$ Hs1; iintro Hs1
  iapply (wp_load 𝒱₀ (c : Thread nD τ) none Set.univ (m := oM) (Finset.subset_univ _)) $$ Ho; iintro Ho
  iapply (wp_outst c ![0, 0, 0]) $$ Ho; iintro Ho
  rw [out_set0 (o0 := ![0, 0, 0]) rfl]
  iapply (wp_inM m κ c 2 0 ![2, 0, 0, 0]) $$ [Hi2 HO Ha2]
  · isplitr; · iexact HP
    isplitl [Hi2]; · iexact Hi2
    isplitl [HO]; · iexact HO
    iexact Ha2
  iintro ⟨HO, Ha2, Hs2⟩
  iapply (wp_load 𝒱₀ (c : Thread nD τ) none Set.univ (m := oM) (Finset.subset_univ _)) $$ Ho; iintro Ho
  rw [out_get0 (o0 := ![0, 0, 0]) rfl]
  iapply (wp_slot m c 2 0 ![2, 0, 0, 0] rfl) $$ Hs2; iintro Hs2
  iapply (wp_load 𝒱₀ (c : Thread nD τ) none Set.univ (m := oM) (Finset.subset_univ _)) $$ Ho; iintro Ho
  iapply (wp_outst c ![0, 0, 0]) $$ Ho; iintro Ho
  rw [out_set0 (o0 := ![0, 0, 0]) rfl]
  rw [wp_ret]
  imodintro
  iapply Hk
  isplitl [HO]; · iexact HO
  isplitl [Hs1 Ha1]
  · isplitl [Hs1]; · iexact Hs1
    iexact Ha1
  isplitl [Hs2 Ha2]
  · isplitl [Hs2]; · iexact Hs2
    iexact Ha2
  iexact Ho

/-- Part 18: the first peer's partial result of batch 1 is added; the second one's has arrived. -/
theorem wp_part18 (c : Dev nD) (v90 v424 c0 : BitVec 32) {Q : _ → sProp 𝕄} :
    iprop(Pers m κ c ∗ ow c [] ∗ arW c 0 1 ∗ arW c 1 1 ∗ outP c (mk2 (r03 m c) (r10 m c)))
      ⊢ iprop(((ow c [] ∗ arD m c 0 1 ∗ arD m c 1 1 ∗ outP c (mk2 (r03 m c) (r11 m c)))
          -∗ Q (k0_pay42 (r11 m c)))
        -∗ wp frame (wpE (defs₀ (F := F)) 𝒱₀ (c : Thread nD τ) none) Set.univ (k0_part18 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 v90 v424 c0) Q) := by
  rw [show r11 m c = k0_pay41 (r10 m c) (ar m c 0 1) from rfl]
  simp only [k0_part18_eq_skeleton]; unfold k0_part18_skel
  simp only [Prog.lift, Prog.bind_op, Prog.bind_ret, Prog.pure_eq_ret, Prog.bind_assoc]
  iintro ⟨#HP, HO, ⟨Hi0, Ha0⟩, ⟨Hi1, Ha1⟩, Ho⟩ Hk
  iapply (wp_inM m κ c 0 1 ![0, 1, 0, 0]) $$ [Hi0 HO Ha0]
  · isplitr; · iexact HP
    isplitl [Hi0]; · iexact Hi0
    isplitl [HO]; · iexact HO
    iexact Ha0
  iintro ⟨HO, Ha0, Hs0⟩
  iapply (wp_load 𝒱₀ (c : Thread nD τ) none Set.univ (m := oM) (Finset.subset_univ _)) $$ Ho; iintro Ho
  rw [out_get1 (o1 := ![1, 0, 0]) rfl]
  iapply (wp_slot m c 0 1 ![0, 1, 0, 0] rfl) $$ Hs0; iintro Hs0
  iapply (wp_load 𝒱₀ (c : Thread nD τ) none Set.univ (m := oM) (Finset.subset_univ _)) $$ Ho; iintro Ho
  iapply (wp_outst c ![1, 0, 0]) $$ Ho; iintro Ho
  rw [out_set1 (o1 := ![1, 0, 0]) rfl]
  iapply (wp_inM m κ c 1 1 ![1, 1, 0, 0]) $$ [Hi1 HO Ha1]
  · isplitr; · iexact HP
    isplitl [Hi1]; · iexact Hi1
    isplitl [HO]; · iexact HO
    iexact Ha1
  iintro ⟨HO, Ha1, Hs1⟩
  iapply (wp_load 𝒱₀ (c : Thread nD τ) none Set.univ (m := oM) (Finset.subset_univ _)) $$ Ho; iintro Ho
  rw [out_get1 (o1 := ![1, 0, 0]) rfl]
  rw [wp_ret]
  imodintro
  iapply Hk
  isplitl [HO]; · iexact HO
  isplitl [Hs0 Ha0]
  · isplitl [Hs0]; · iexact Hs0
    iexact Ha0
  isplitl [Hs1 Ha1]
  · isplitl [Hs1]; · iexact Hs1
    iexact Ha1
  iexact Ho

/-- Part 19: the second and the third peer's partial results of batch 1 are added: the result is complete. -/
theorem wp_part19 (c : Dev nD) (v92 : BitVec 32) {Q : _ → sProp 𝕄} :
    iprop(Pers m κ c ∗ ow c [] ∗ arD m c 1 1 ∗ arW c 2 1 ∗ outP c (mk2 (r03 m c) (r11 m c)))
      ⊢ iprop(((ow c [] ∗ arD m c 1 1 ∗ arD m c 2 1 ∗ outP c (OUT m c))
          -∗ Q PUnit.unit)
        -∗ wp frame (wpE (defs₀ (F := F)) 𝒱₀ (c : Thread nD τ) none) Set.univ (k0_part19 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 v92 (k0_pay42 (r11 m c))) Q) := by
  rw [show OUT m c = mk2 (r03 m c) (k0_pay44 (k0_pay43 (k0_pay42 (r11 m c)) (ar m c 1 1)) (ar m c 2 1)) from rfl]
  simp only [k0_part19_eq_skeleton]; unfold k0_part19_skel
  simp only [Prog.lift, Prog.bind_op, Prog.bind_ret, Prog.pure_eq_ret, Prog.bind_assoc]
  iintro ⟨#HP, HO, ⟨Hs1, Ha1⟩, ⟨Hi2, Ha2⟩, Ho⟩ Hk
  iapply (wp_slot m c 1 1 ![1, 1, 0, 0] rfl) $$ Hs1; iintro Hs1
  iapply (wp_load 𝒱₀ (c : Thread nD τ) none Set.univ (m := oM) (Finset.subset_univ _)) $$ Ho; iintro Ho
  iapply (wp_outst c ![1, 0, 0]) $$ Ho; iintro Ho
  rw [out_set1 (o1 := ![1, 0, 0]) rfl]
  iapply (wp_inM m κ c 2 1 ![2, 1, 0, 0]) $$ [Hi2 HO Ha2]
  · isplitr; · iexact HP
    isplitl [Hi2]; · iexact Hi2
    isplitl [HO]; · iexact HO
    iexact Ha2
  iintro ⟨HO, Ha2, Hs2⟩
  iapply (wp_load 𝒱₀ (c : Thread nD τ) none Set.univ (m := oM) (Finset.subset_univ _)) $$ Ho; iintro Ho
  rw [out_get1 (o1 := ![1, 0, 0]) rfl]
  iapply (wp_slot m c 2 1 ![2, 1, 0, 0] rfl) $$ Hs2; iintro Hs2
  iapply (wp_load 𝒱₀ (c : Thread nD τ) none Set.univ (m := oM) (Finset.subset_univ _)) $$ Ho; iintro Ho
  iapply (wp_outst c ![1, 0, 0]) $$ Ho; iintro Ho
  rw [out_set1 (o1 := ![1, 0, 0]) rfl]
  rw [wp_ret]
  imodintro
  iapply Hk
  isplitl [HO]; · iexact HO
  isplitl [Hs1 Ha1]
  · isplitl [Hs1]; · iexact Hs1
    iexact Ha1
  isplitl [Hs2 Ha2]
  · isplitl [Hs2]; · iexact Hs2
    iexact Ha2
  iexact Ho

/-- Part 20: four of the own transfers have ended. -/
theorem wp_part20 (c : Dev nD) {Q : _ → sProp 𝕄} :
    iprop(Pers m κ c ∗ ow c [] ∗ (arC c 0 0 ∗ at_ c (qArS 0 0) 0) ∗ (arC c 1 0 ∗ at_ c (qArS 1 0) 0) ∗ (arC c 2 0 ∗ at_ c (qArS 2 0) 0) ∗ (arC c 0 1 ∗ at_ c (qArS 0 1) 0))
      ⊢ iprop(((ow c [] ∗ arB m c 0 0 ∗ arB m c 1 0 ∗ arB m c 2 0 ∗ arB m c 0 1)
          -∗ Q PUnit.unit)
        -∗ wp frame (wpE (defs₀ (F := F)) 𝒱₀ (c : Thread nD τ) none) Set.univ (k0_part20 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7) Q) := by
  simp only [k0_part20_eq_skeleton]; unfold k0_part20_skel
  simp only [Prog.lift, Prog.bind_op, Prog.bind_ret, Prog.pure_eq_ret, Prog.bind_assoc]
  iintro ⟨#HP, HO, ⟨Hc00, Ha00⟩, ⟨Hc10, Ha10⟩, ⟨Hc20, Ha20⟩, ⟨Hc01, Ha01⟩⟩ Hk
  iapply (wp_outM m κ c 0 0 ![0, 0, 0]) $$ [Hc00 HO Ha00]
  · isplitr; · iexact HP
    isplitl [Hc00]; · iexact Hc00
    isplitl [HO]; · iexact HO
    iexact Ha00
  iintro ⟨HO, Ha00, Hr00⟩
  iapply (wp_outM m κ c 1 0 ![0, 0, 0]) $$ [Hc10 HO Ha10]
  · isplitr; · iexact HP
    isplitl [Hc10]; · iexact Hc10
    isplitl [HO]; · iexact HO
    iexact Ha10
  iintro ⟨HO, Ha10, Hr10⟩
  iapply (wp_outM m κ c 2 0 ![0, 0, 0]) $$ [Hc20 HO Ha20]
  · isplitr; · iexact HP
    isplitl [Hc20]; · iexact Hc20
    isplitl [HO]; · iexact HO
    iexact Ha20
  iintro ⟨HO, Ha20, Hr20⟩
  iapply (wp_outM m κ c 0 1 ![1, 0, 0]) $$ [Hc01 HO Ha01]
  · isplitr; · iexact HP
    isplitl [Hc01]; · iexact Hc01
    isplitl [HO]; · iexact HO
    iexact Ha01
  iintro ⟨HO, Ha01, Hr01⟩
  rw [wp_ret]
  imodintro
  iapply Hk
  isplitl [HO]; · iexact HO
  isplitl [Hr00 Ha00]
  · isplitl [Hr00]; · iexact Hr00
    iexact Ha00
  isplitl [Hr10 Ha10]
  · isplitl [Hr10]; · iexact Hr10
    iexact Ha10
  isplitl [Hr20 Ha20]
  · isplitl [Hr20]; · iexact Hr20
    iexact Ha20
  isplitl [Hr01]; · iexact Hr01
  iexact Ha01

end Cert.KIProof
-- ==== Proof.Start.lean ====
module

public import proofs.«01_k».proof.Proof.Sums

@[expose] public section

set_option maxRecDepth 16384

noncomputable section

/-! The barrier. -/

namespace Cert.KIProof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Ring
open Idealize.ShloMosaic.Pipeline (Dat Cfg Window BodyObligation cellOf)

variable {F : FTy → Type} [FloatOps F] [Named F]
variable (m : (ℓ : Loc nD τ sig) → Buf (Elt F) ℓ) (κ : GSem nD τ sig → ℕ)

local notation "𝕄" => MT nD τ sig Unit (Elt F) ℕ UU ℕ

variable (κ : GSem nD τ sig → ℕ)

/-! ### The barrier -/

/-- A barrier signal to the device `k + 1` after. -/
theorem wp_sig (c n : Dev nD) (k : Fin 3) (hn : n = nx k c) (l : List (GSem nD τ sig × ℕ)) {N : ℕ} (hN : 1 = N)
    {α : Type} {Q : α → sProp 𝕄} {kk : PUnit → Prog (TpuEff nD τ sig (Elt F) Λ₀ .tc) α} :
    iprop(Pers m κ c ∗ barPay (nx k c) (rv k) ∗ dutyTok ER (bcell (nx k c)) 0 (rv k) ∗ ow c (barE c k :: l))
      ⊢ iprop((ow c l -∗ wp frame (wpE (defs₀ (F := F)) 𝒱₀ (c : Thread nD τ) none) Set.univ (kk ⟨⟩) Q)
        -∗ wp frame (wpE (defs₀ (F := F)) 𝒱₀ (c : Thread nD τ) none) Set.univ (.op (.semSignal (n : Thread nD τ) barrier0 N) kk) Q) := by
  subst hn hN
  unfold ow
  iintro ⟨#HP, Hpay, Htok, ⟨%W, HO⟩⟩ Hk
  iapply (Rounds.wp_signal 𝒱₀ ER (Rd m) (c : Thread nD τ) none (dst := (nx k c : Thread nD τ)) (κ := κ (bcell (nx k c))) (r := 0) (d := rv k) (W := W)
    (by show rv k ∈ (Rd (F := F) m).duties (bcell (nx k c)) 0; rw [duties_bar]; exact Finset.mem_univ _) (amount_bar m (nx k c) (rv k)) () (osum l) rfl) $$ [HO Htok Hpay]
  · isplitr; · iapply (inv_bar m κ (nx k c)); iapply (Pers_invs m κ c); iexact HP
    isplitl [HO]; · iexact HO
    isplitl [Htok]; · iexact Htok
    isplitl [Hpay]; · iapply (Entails.of_eq (payload_bar m (nx k c) (rv k)).symm); iexact Hpay
    iapply (Pers_bar m κ c (nx k c)); iexact HP
  iintro HO
  iapply Hk
  iexists W; iexact HO

/-- The word that names the device. -/
abbrev vd (c : Dev nD) : BitVec 32 := Scalar.remsi (Scalar.divsi (Dev.word c) 1#32) 4#32

/-- Part 4: the barrier. A device gives every other one a signal, and waits for theirs. -/
theorem wp_part4 (c : Dev nD) {Q : _ → sProp 𝕄} :
    iprop(Pers m κ c ∗ ow c (barE c 0 :: barE c 1 :: barE c 2 :: kaList c)
        ∗ (barPay (nx 0 c) (rv 0) ∗ dutyTok ER (bcell (nx 0 c)) 0 (rv 0)) ∗ (barPay (nx 1 c) (rv 1) ∗ dutyTok ER (bcell (nx 1 c)) 0 (rv 1))
        ∗ (barPay (nx 2 c) (rv 2) ∗ dutyTok ER (bcell (nx 2 c)) 0 (rv 2))
        ∗ cred (tallyAt (bcell c) () 3) ∗ atPos ER (bcell c) 0 ∅ 0)
      ⊢ iprop(((ow c (kaList c) ∗ barPay c 0 ∗ barPay c 1 ∗ barPay c 2 ∗ atPos ER (bcell c) 1 ∅ 0)
          -∗ Q ⟨c, vd c, Scalar.extui (Scalar.cmpi .eq (vd c) 0#32)⟩)
        -∗ wp frame (wpE (defs₀ (F := F)) 𝒱₀ (c : Thread nD τ) none) Set.univ (k0_part4 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7) Q) := by
  simp only [k0_part4_eq_skeleton]; unfold k0_part4_skel
  simp only [semSignalWord, semWaitWord, Prog.lift, Prog.bind_op, Prog.bind_ret, Prog.pure_eq_ret, Prog.bind_assoc, wp_deviceId]
  iintro ⟨#HP, HO, ⟨Hp0, Ht0⟩, ⟨Hp1, Ht1⟩, ⟨Hp2, Ht2⟩, Hc, Hat⟩ Hk
  iapply (wp_sig m κ c ⟨k0_dev1 c, k0_dev1_lt c⟩ 0 (Fin.ext (k0_dev1_eq c)) (barE c 1 :: barE c 2 :: kaList c) (by decide)) $$ [Hp0 Ht0 HO]
  · isplitr; · iexact HP
    isplitl [Hp0]; · iexact Hp0
    isplitl [Ht0]; · iexact Ht0
    iexact HO
  iintro HO
  iapply (wp_sig m κ c ⟨k0_dev2 c, k0_dev2_lt c⟩ 1 (Fin.ext (k0_dev2_eq c)) (barE c 2 :: kaList c) (by decide)) $$ [Hp1 Ht1 HO]
  · isplitr; · iexact HP
    isplitl [Hp1]; · iexact Hp1
    isplitl [Ht1]; · iexact Ht1
    iexact HO
  iintro HO
  iapply (wp_sig m κ c ⟨k0_dev3 c, k0_dev3_lt c⟩ 2 (Fin.ext (k0_dev3_eq c)) (kaList c) (by decide)) $$ [Hp2 Ht2 HO]
  · isplitr; · iexact HP
    isplitl [Hp2]; · iexact Hp2
    isplitl [Ht2]; · iexact Ht2
    iexact HO
  iintro HO
  ihave HO := (Entails.of_eq (show ow c (kaList c) = iprop(∃ W, owes (c : Thread nD τ) (osum (kaList c)) W) from rfl)) $$ HO
  icases HO with ⟨%W, HO⟩
  iapply (Rounds.wp_wait_rest_token 𝒱₀ ER (Rd m) (c : Thread nD τ) none (κ := κ (bcell c))
      (wpE_semWait_eq 𝒱₀ (c : Thread nD τ) none Set.univ) (Set.mem_univ _) () (O := osum (kaList c)) (W := W) (R := 0) (m := 0) (T := ∅)
      (show 0 + (3#32).toNat = (Rd (F := F) m).expect (bcell c) 0 by rw [expect_bar]; decide)) $$ [Hc HO Hat]
  · isplitr; · iapply (inv_bar m κ c); iapply (Pers_invs m κ c); iexact HP
    isplitl [Hc]; · iexact Hc
    isplitl [HO]; · iexact HO
    isplitr
    · iapply (mayWait_osum c _ (kaList c) 1 le_rfl (kaList_lv c)); iapply (Pers_lev m κ c); iexact HP
    iexact Hat
  iintro ⟨HO, Hat, -, Hpay⟩
  ihave Hp := (Entails.of_eq (rest_bar m c)) $$ Hpay
  icases Hp with ⟨Hp0, Hp1, Hp2⟩
  rw [wp_ret]
  imodintro
  iapply Hk
  isplitl [HO]; · iapply (Entails.of_eq (show iprop(∃ W, owes (c : Thread nD τ) (osum (kaList c)) W) = ow c (kaList c) from rfl)); iexists _; iexact HO
  isplitl [Hp0]; · iexact Hp0
  isplitl [Hp1]; · iexact Hp1
  isplitl [Hp2]; · iexact Hp2
  iexact Hat

/-! ### What is given at the barrier -/

/-- Forwards and then by the reversed distance is nowhere. -/
theorem nx_back : ∀ (k : Fin 3) (c : Dev nD), nx (rv k) (nx k c) = c := by decide

/-- What device `c` hands over with its signal to the device `k + 1` after it is its own. -/
theorem barPay_mine (c : Dev nD) (k : Fin 3) : (barPay (nx k c) (rv k) : sProp 𝕄)
    = iprop(((∃ f, slotPts c (rv k) 0 f) ∗ reached ER (dcell c (qArR (rv k) 0)) 0)
    ∗ ((∃ f, slotPts c (rv k) 1 f) ∗ reached ER (dcell c (qArR (rv k) 1)) 0)
    ∗ (if nx k c = 0 then iprop(((∃ f, kvPts c 0 f) ∗ reached ER (dcell c (qKvR 0)) 0)
          ∗ ((∃ f, kvPts c 1 f) ∗ reached ER (dcell c (qKvR 1)) 0)) else iprop(emp))) := by
  unfold barPay; rw [nx_back]

/-- The key/value slots go to device 0 alone. -/
def kvGive (c : Dev nD) (k : Fin 3) : sProp 𝕄 := if nx k c = 0 then iprop((∃ f, kvPts c 0 f) ∗ (∃ f, kvPts c 1 f)) else iprop(emp)

/-- A device has what it hands over with each signal. -/
theorem give (c : Dev nD) (k : Fin 3) :
    iprop(Pers m κ c ∗ (∃ f, slotPts c (rv k) 0 f) ∗ (∃ f, slotPts c (rv k) 1 f) ∗ kvGive (F := F) c k) ⊢ barPay (nx k c) (rv k) := by
  rw [barPay_mine]
  unfold kvGive
  have e0 : Pers m κ c ⊢ reached ER (dcell c (qArR (rv k) 0)) 0 := Pers_dma m κ c _ (by show 6 ≤ 20 + 2 * (rv k).val + 0; omega)
  have e1 : Pers m κ c ⊢ reached ER (dcell c (qArR (rv k) 1)) 0 := Pers_dma m κ c _ (by show 6 ≤ 20 + 2 * (rv k).val + 1; omega)
  by_cases h : nx k c = 0
  · simp only [if_pos h]
    iintro ⟨#HP, H0, H1, Ha, Hb⟩
    isplitl [H0]
    · isplitl [H0]; · iexact H0
      iapply e0; iexact HP
    isplitl [H1]
    · isplitl [H1]; · iexact H1
      iapply e1; iexact HP
    isplitl [Ha]
    · isplitl [Ha]; · iexact Ha
      iapply (Pers_dma m κ c (qKvR 0) (by decide)); iexact HP
    isplitl [Hb]; · iexact Hb
    iapply (Pers_dma m κ c (qKvR 1) (by decide)); iexact HP
  · simp only [if_neg h]
    iintro ⟨#HP, H0, H1, He⟩
    isplitl [H0]
    · isplitl [H0]; · iexact H0
      iapply e0; iexact HP
    isplitl [H1]
    · isplitl [H1]; · iexact H1
      iapply e1; iexact HP
    iexact He

/-- The key/value buffer at any contents. -/
abbrev kvAny (c : Dev nD) : sProp 𝕄 := iprop(∃ f, ((c : Thread nD τ).loc cc0_scratch0) ↦{fullShare} (f : S2x2x4x128x64.Idx → Elt F .bf16))

/-- Its key/value buffer goes to device 0 with one of its signals; device 0 keeps its own. -/
theorem kv_give (c : Dev nD) : kvAny (F := F) c ⊢ iprop(kvGive c 0 ∗ kvGive c 1 ∗ kvGive c 2 ∗ (if c = 0 then kvAny c else iprop(emp))) := by
  have hc : ∀ c : Dev nD, c = 0 ∨ c = 1 ∨ c = 2 ∨ c = 3 := by decide
  unfold kvGive
  iintro ⟨%f, H⟩
  by_cases h : c = 0
  · subst h
    rw [if_neg (show ¬ nx 0 0 = 0 by decide), if_neg (show ¬ nx 1 0 = 0 by decide), if_neg (show ¬ nx 2 0 = 0 by decide), if_pos rfl]
    isplitr; · iempintro
    isplitr; · iempintro
    isplitr; · iempintro
    iexists f; iexact H
  rw [if_neg h]
  ihave H := (Entails.of_eq (kv_cut c f)) $$ H
  icases H with ⟨H0, H1⟩
  rcases hc c with rfl | rfl | rfl | rfl
  · exact absurd rfl h
  · rw [if_neg (show ¬ nx 0 1 = 0 by decide), if_neg (show ¬ nx 1 1 = 0 by decide), if_pos (show nx 2 1 = 0 by decide)]
    isplitr; · iempintro
    isplitr; · iempintro
    isplitl [H0 H1]
    · isplitl [H0]; · iexists f; iexact H0
      iexists f; iexact H1
    iempintro
  · rw [if_neg (show ¬ nx 0 2 = 0 by decide), if_pos (show nx 1 2 = 0 by decide), if_neg (show ¬ nx 2 2 = 0 by decide)]
    isplitr; · iempintro
    isplitl [H0 H1]
    · isplitl [H0]; · iexists f; iexact H0
      iexists f; iexact H1
    isplitr <;> iempintro
  · rw [if_pos (show nx 0 3 = 0 by decide), if_neg (show ¬ nx 1 3 = 0 by decide), if_neg (show ¬ nx 2 3 = 0 by decide)]
    isplitl [H0 H1]
    · isplitl [H0]; · iexists f; iexact H0
      iexists f; iexact H1
    isplitr; · iempintro
    isplitr <;> iempintro

end Cert.KIProof
-- ==== Proof.Kv.lean ====
module

public import proofs.«01_k».proof.Proof.Start

@[expose] public section

set_option maxRecDepth 16384

noncomputable section

/-! The key/value transfers, and part 5. -/

namespace Cert.KIProof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Ring
open Idealize.ShloMosaic.Pipeline (Dat Cfg Window BodyObligation cellOf)

variable {F : FTy → Type} [FloatOps F] [Named F]
variable (m : (ℓ : Loc nD τ sig) → Buf (Elt F) ℓ) (κ : GSem nD τ sig → ℕ)

local notation "𝕄" => MT nD τ sig Unit (Elt F) ℕ UU ℕ

variable (κ : GSem nD τ sig → ℕ)

/-! ### The key/value transfers -/

/-- What device 0 needs for a transfer of keys (`t = 0`) or values to the device `j + 1`, but for the source and what it owes. -/
def kvGo (j : Fin 3) (t : Fin 2) : sProp 𝕄 :=
  iprop((∃ f, kvPts (nx j 0) t f) ∗ reached ER (dcell (nx j 0) (qKvR t)) 0
    ∗ dutyTok ER (dcell 0 (qKvS j t)) 0 0 ∗ dutyTok ER (dcell (nx j 0) (qKvR t)) 0 0)
/-- The credit of such a transfer. -/
def kvC (j : Fin 3) (t : Fin 2) : sProp 𝕄 := cred (tallyAt (dcell 0 (qKvS j t)) () NK)
/-- The credit of such a transfer to `c`. -/
def kvI (c : Dev nD) (t : Fin 2) : sProp 𝕄 := cred (tallyAt (dcell c (qKvR t)) () NK)

/-- What a wait naming a group of heads takes: as much as a transfer of one brings. -/
theorem credit_k (s : Shape) (e : EltTy) : sig.dmaCredit .tc (Kind.table .tc .vmem) kM.view.buf s e = sig.dmaCredit .tc (Kind.table .tc .vmem) kvM.view.buf s e := rfl
/-- The same of the values. -/
theorem credit_v (s : Shape) (e : EltTy) : sig.dmaCredit .tc (Kind.table .tc .vmem) vM.view.buf s e = sig.dmaCredit .tc (Kind.table .tc .vmem) kvM.view.buf s e := rfl

/-- Device 0's transfer of the keys to device `j + 1`. -/
theorem wp_kvk (n : Dev nD) (j : Fin 3) (hn : n = nx j 0)
    {offS : Fin 4 → ℕ} (hoffS : offS = ![0, 4 * j.succ.val, 0, 0]) {offD : Fin 5 → ℕ} (hoffD : offD = ![0, 0, 0, 0, 0])
    (l : List (GSem nD τ sig × ℕ)) {iS hS iD hD qD}
    {hsc : ((kvM.slice (Rect.unit (s := S2x2x4x128x64) offD S1x2x4x128x64.size iD) hD).squeeze S2x4x128x64 qD : Memref sig (Dev.tc n : Thread nD τ).2.kind .vmem S2x4x128x64 .bf16).view.ref.isScScratch = false}
    {hsrc : (kM.slice (Rect.unit (s := S2x16x128x64) offS S2x4x128x64.size iS) hS).view.WordExact}
    {hdst : ((kvM.slice (Rect.unit (s := S2x2x4x128x64) offD S1x2x4x128x64.size iD) hD).squeeze S2x4x128x64 qD).view.WordExact}
    {hsem : DmaTarget.Typed .vmem (.dma (qKvR 0)) (.remote (Dev.tc n : Thread nD τ) ((kvM.slice (Rect.unit (s := S2x2x4x128x64) offD S1x2x4x128x64.size iD) hD).squeeze S2x4x128x64 qD) (.dma (qKvS j 0)) hsc)}
    {α : Type} {Q : α → sProp 𝕄} {kk : PUnit → Prog (TpuEff nD τ sig (Elt F) Λ₀ .tc) α} :
    iprop(Pers m κ 0 ∗ hdPts m j.succ 0 ∗ kvGo j 0 ∗ ow 0 (kvE j 0 :: l))
      ⊢ iprop(((kvC j 0 ∗ ow 0 l) -∗ wp frame (wpE (defs₀ (F := F)) 𝒱₀ ((0 : Dev nD) : Thread nD τ) none) Set.univ (kk ⟨⟩) Q)
          -∗ wp frame (wpE (defs₀ (F := F)) 𝒱₀ ((0 : Dev nD) : Thread nD τ) none) Set.univ
              (.op (.enqueueDma (kM.slice (Rect.unit (s := S2x16x128x64) offS S2x4x128x64.size iS) hS)
                (.remote (Dev.tc n : Thread nD τ) ((kvM.slice (Rect.unit (s := S2x2x4x128x64) offD S1x2x4x128x64.size iD) hD).squeeze S2x4x128x64 qD) (.dma (qKvS j 0)) hsc)
                (.dma (qKvR 0)) hsrc hdst hsem) kk) Q) := by
  unfold kvGo kvC
  iintro ⟨#HP, Hsrc, ⟨Hd, #Hr, Ht1, Ht2⟩, HO⟩ Hk
  iapply (wp_send_k m κ n j hn rfl rfl hoffS hoffD l) $$ [Hsrc Hd HO Ht1 Ht2]
  · isplitr; · iapply (Pers_invs m κ 0); iexact HP
    isplitl [Hsrc]; · iexact Hsrc
    isplitl [Hd]; · iexact Hd
    isplitl [HO]; · iexact HO
    isplitl [Ht1]; · iexact Ht1
    isplitr; · iapply (Pers_dma m κ 0 (qKvS j 0) (by show 6 ≤ 6 + 2 * j.val + 0; omega)); iexact HP
    isplitl [Ht2]; · iexact Ht2
    iexact Hr
  iexact Hk

/-- Device 0's transfer of the values to device `j + 1`. -/
theorem wp_kvv (n : Dev nD) (j : Fin 3) (hn : n = nx j 0)
    {offS : Fin 4 → ℕ} (hoffS : offS = ![0, 4 * j.succ.val, 0, 0]) {offD : Fin 5 → ℕ} (hoffD : offD = ![1, 0, 0, 0, 0])
    (l : List (GSem nD τ sig × ℕ)) {iS hS iD hD qD}
    {hsc : ((kvM.slice (Rect.unit (s := S2x2x4x128x64) offD S1x2x4x128x64.size iD) hD).squeeze S2x4x128x64 qD : Memref sig (Dev.tc n : Thread nD τ).2.kind .vmem S2x4x128x64 .bf16).view.ref.isScScratch = false}
    {hsrc : (vM.slice (Rect.unit (s := S2x16x128x64) offS S2x4x128x64.size iS) hS).view.WordExact}
    {hdst : ((kvM.slice (Rect.unit (s := S2x2x4x128x64) offD S1x2x4x128x64.size iD) hD).squeeze S2x4x128x64 qD).view.WordExact}
    {hsem : DmaTarget.Typed .vmem (.dma (qKvR 1)) (.remote (Dev.tc n : Thread nD τ) ((kvM.slice (Rect.unit (s := S2x2x4x128x64) offD S1x2x4x128x64.size iD) hD).squeeze S2x4x128x64 qD) (.dma (qKvS j 1)) hsc)}
    {α : Type} {Q : α → sProp 𝕄} {kk : PUnit → Prog (TpuEff nD τ sig (Elt F) Λ₀ .tc) α} :
    iprop(Pers m κ 0 ∗ hdPts m j.succ 1 ∗ kvGo j 1 ∗ ow 0 (kvE j 1 :: l))
      ⊢ iprop(((kvC j 1 ∗ ow 0 l) -∗ wp frame (wpE (defs₀ (F := F)) 𝒱₀ ((0 : Dev nD) : Thread nD τ) none) Set.univ (kk ⟨⟩) Q)
          -∗ wp frame (wpE (defs₀ (F := F)) 𝒱₀ ((0 : Dev nD) : Thread nD τ) none) Set.univ
              (.op (.enqueueDma (vM.slice (Rect.unit (s := S2x16x128x64) offS S2x4x128x64.size iS) hS)
                (.remote (Dev.tc n : Thread nD τ) ((kvM.slice (Rect.unit (s := S2x2x4x128x64) offD S1x2x4x128x64.size iD) hD).squeeze S2x4x128x64 qD) (.dma (qKvS j 1)) hsc)
                (.dma (qKvR 1)) hsrc hdst hsem) kk) Q) := by
  unfold kvGo kvC
  iintro ⟨#HP, Hsrc, ⟨Hd, #Hr, Ht1, Ht2⟩, HO⟩ Hk
  iapply (wp_send_v m κ n j hn rfl rfl hoffS hoffD l) $$ [Hsrc Hd HO Ht1 Ht2]
  · isplitr; · iapply (Pers_invs m κ 0); iexact HP
    isplitl [Hsrc]; · iexact Hsrc
    isplitl [Hd]; · iexact Hd
    isplitl [HO]; · iexact HO
    isplitl [Ht1]; · iexact Ht1
    isplitr; · iapply (Pers_dma m κ 0 (qKvS j 1) (by show 6 ≤ 6 + 2 * j.val + 1; omega)); iexact HP
    isplitl [Ht2]; · iexact Ht2
    iexact Hr
  iexact Hk

/-- Device 0's wait for the end of its transfer of the keys to device `j + 1`. -/
theorem wp_kvoutk (j : Fin 3) (offS : Fin 4 → ℕ) {iS hS}
    {sp : Space} {s : Shape} {e : EltTy} {src : Memref sig .tc sp s e}
    {hsrc : src.view.WordExact} {hdst : (kM.slice (Rect.unit (s := S2x16x128x64) offS S2x4x128x64.size iS) hS).view.WordExact}
    {α : Type} {Q : α → sProp 𝕄} {kk : PUnit → Prog (TpuEff nD τ sig (Elt F) Λ₀ .tc) α} :
    iprop(Pers m κ 0 ∗ kvC j 0 ∗ ow 0 [] ∗ at_ 0 (qKvS j 0) 0)
      ⊢ iprop(((ow 0 [] ∗ at_ 0 (qKvS j 0) 1 ∗ hdPts m j.succ 0) -∗ wp frame (wpE (defs₀ (F := F)) 𝒱₀ ((0 : Dev nD) : Thread nD τ) none) Set.univ (kk ⟨⟩) Q)
          -∗ wp frame (wpE (defs₀ (F := F)) 𝒱₀ ((0 : Dev nD) : Thread nD τ) none) Set.univ (.op (.waitDma2 (qKvS j 0) src (kM.slice (Rect.unit (s := S2x16x128x64) offS S2x4x128x64.size iS) hS) hsrc hdst) kk) Q) :=
  wp_wait m κ 0 (qKvS j 0) (.kvS j 0) (kind_kvS j 0) (by show 6 ≤ 6 + 2 * j.val + 0; omega) (by unfold kdDut; exact if_pos rfl) [] (fun _ h => absurd h List.not_mem_nil)
    (dst := kM.slice (Rect.unit (s := S2x16x128x64) offS S2x4x128x64.size iS) hS) (credit_k S2x4x128x64 .bf16) NK rfl _ rfl

/-- Device 0's wait for the end of its transfer of the values to device `j + 1`. -/
theorem wp_kvoutv (j : Fin 3) (offS : Fin 4 → ℕ) {iS hS}
    {sp : Space} {s : Shape} {e : EltTy} {src : Memref sig .tc sp s e}
    {hsrc : src.view.WordExact} {hdst : (vM.slice (Rect.unit (s := S2x16x128x64) offS S2x4x128x64.size iS) hS).view.WordExact}
    {α : Type} {Q : α → sProp 𝕄} {kk : PUnit → Prog (TpuEff nD τ sig (Elt F) Λ₀ .tc) α} :
    iprop(Pers m κ 0 ∗ kvC j 1 ∗ ow 0 [] ∗ at_ 0 (qKvS j 1) 0)
      ⊢ iprop(((ow 0 [] ∗ at_ 0 (qKvS j 1) 1 ∗ hdPts m j.succ 1) -∗ wp frame (wpE (defs₀ (F := F)) 𝒱₀ ((0 : Dev nD) : Thread nD τ) none) Set.univ (kk ⟨⟩) Q)
          -∗ wp frame (wpE (defs₀ (F := F)) 𝒱₀ ((0 : Dev nD) : Thread nD τ) none) Set.univ (.op (.waitDma2 (qKvS j 1) src (vM.slice (Rect.unit (s := S2x16x128x64) offS S2x4x128x64.size iS) hS) hsrc hdst) kk) Q) :=
  wp_wait m κ 0 (qKvS j 1) (.kvS j 1) (kind_kvS j 1) (by show 6 ≤ 6 + 2 * j.val + 1; omega) (by unfold kdDut; exact if_pos rfl) [] (fun _ h => absurd h List.not_mem_nil)
    (dst := vM.slice (Rect.unit (s := S2x16x128x64) offS S2x4x128x64.size iS) hS) (credit_v S2x4x128x64 .bf16) NK rfl _ rfl

/-- The wait of a device other than device 0 for its keys or values. -/
theorem wp_kvin (c : Dev nD) (hc : c ≠ 0) (t : Fin 2) (off : Fin 5 → ℕ) {iD hD qD}
    {sp : Space} {s : Shape} {e : EltTy} {src : Memref sig .tc sp s e}
    {hsrc : src.view.WordExact} {hdst : ((kvM.slice (Rect.unit (s := S2x2x4x128x64) off S1x2x4x128x64.size iD) hD).squeeze S2x4x128x64 qD).view.WordExact}
    {α : Type} {Q : α → sProp 𝕄} {kk : PUnit → Prog (TpuEff nD τ sig (Elt F) Λ₀ .tc) α} :
    iprop(Pers m κ c ∗ kvI c t ∗ ow c (arList c) ∗ at_ c (qKvR t) 0)
      ⊢ iprop(((ow c (arList c) ∗ at_ c (qKvR t) 1 ∗ kvPts c t (KV m c)) -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 (qKvR t) src ((kvM.slice (Rect.unit (s := S2x2x4x128x64) off S1x2x4x128x64.size iD) hD).squeeze S2x4x128x64 qD) hsrc hdst) kk) Q) :=
  wp_wait m κ c (qKvR t) (.kvR t) (kind_kvR t) (by show 6 ≤ 12 + t.val; omega) (by unfold kdDut; exact if_neg hc) (arList c) (fun p h => arList_lv c p h)
    (dst := (kvM.slice (Rect.unit (s := S2x2x4x128x64) off S1x2x4x128x64.size iD) hD).squeeze S2x4x128x64 qD) rfl NK rfl _ rfl

/-! ### The conditions on the device's number -/

/-- Device 0 sends keys and values; -/
theorem cond1_pos : k0_cond1 (0 : Dev nD) = 1#1 := by decide
/-- the others do not. -/
theorem cond1_neg : ∀ c : Dev nD, c ≠ 0 → ¬ k0_cond1 c = 1#1 := by decide
/-- The devices other than 0 wait for keys and values; -/
theorem cond2_pos : ∀ c : Dev nD, c ≠ 0 → Scalar.cmpi .ne (Scalar.extui (Scalar.cmpi .ne (vd c) 0#32) : BitVec 32) 0#32 = 1#1 := by decide
/-- device 0 does not. -/
theorem cond2_neg : ¬ Scalar.cmpi .ne (Scalar.extui (Scalar.cmpi .ne (vd 0) 0#32) : BitVec 32) 0#32 = 1#1 := by decide
/-- Device 0 waits for the ends of its transfers; -/
theorem cond3_pos : Scalar.cmpi .ne (Scalar.extui (Scalar.cmpi .eq (vd 0) 0#32) : BitVec 32) 0#32 = 1#1 := by decide
/-- the others do not. -/
theorem cond3_neg : ∀ c : Dev nD, c ≠ 0 → ¬ Scalar.cmpi .ne (Scalar.extui (Scalar.cmpi .eq (vd c) 0#32) : BitVec 32) 0#32 = 1#1 := by decide

/-! ### Part 5 -/

/-- The three operands every device reads whole. -/
abbrev inP (c : Dev nD) : sProp 𝕄 :=
  iprop((((c : Thread nD τ).loc cc0_stg0_0) ↦{fullShare} xC m c) ∗ (((c : Thread nD τ).loc cc0_stg1_0) ↦{fullShare} wqC m c)
    ∗ (((c : Thread nD τ).loc cc0_stg4_0) ↦{fullShare} woC m c))

/-- The load of the activations reads all of them. -/
theorem ld_x (c : Dev nD) : xM.view.readAt (Elt F) (Rect.unit (s := S2x128x512) ![0, 0, 0] S2x128x512.size inb_S2x128x512_S2x128x512_0_0_0).toLoadRect (xC m c) = xC m c :=
  Memref.readAt_unit_zero (Elt F) cc0_stg0_0 (by funext a; fin_cases a <;> rfl) _ _
/-- The load of the query weights reads all of them. -/
theorem ld_wq (c : Dev nD) : wqM.view.readAt (Elt F) (Rect.unit (s := S512x256) ![0, 0] S512x256.size inb_S512x256_S512x256_0_0).toLoadRect (wqC m c) = wqC m c :=
  Memref.readAt_unit_zero (Elt F) cc0_stg1_0 (by funext a; fin_cases a <;> rfl) _ _
/-- The load of the output weights reads all of them. -/
theorem ld_wo (c : Dev nD) : woM.view.readAt (Elt F) (Rect.unit (s := S256x512) ![0, 0] S256x512.size inb_S256x512_S256x512_0_0).toLoadRect (woC m c) = woC m c :=
  Memref.readAt_unit_zero (Elt F) cc0_stg4_0 (by funext a; fin_cases a <;> rfl) _ _

/-- Part 5 on a device other than device 0: it waits for its keys and its values. -/
theorem wp_part5_rest (c : Dev nD) (hc : c ≠ 0) {Q : _ → sProp 𝕄} :
    iprop(Pers m κ c ∗ ow c (kaList c) ∗ inP m c ∗ (kvI c 0 ∗ at_ c (qKvR 0) 0) ∗ (kvI c 1 ∗ at_ c (qKvR 1) 0))
      ⊢ iprop(((ow c (arList c) ∗ inP m c ∗ kvP m c ∗ at_ c (qKvR 0) 1 ∗ at_ c (qKvR 1) 1)
          -∗ Q ⟨wo m c, q0 m c, q1 m c, iota .tc S128x128 32 [0] iota_S128x128_d0_w32, 64#32, k0_pay8, k0_pay9, k0_pay10⟩)
        -∗ wp frame (wpE (defs₀ (F := F)) 𝒱₀ (c : Thread nD τ) none) Set.univ (k0_part5 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c (vd c) (Scalar.extui (Scalar.cmpi .eq (vd c) 0#32))) Q) := by
  simp only [k0_part5_eq_skeleton]; unfold k0_part5_skel
  rw [show kaList c = arList c from if_neg hc]
  simp only [dif_neg (cond1_neg c hc), dif_pos (cond2_pos c hc)]
  simp only [Prog.lift, Prog.bind_op, Prog.bind_ret, Prog.pure_eq_ret, Prog.bind_assoc]
  iintro ⟨#HP, HO, ⟨Hx, Hwq, Hwo⟩, ⟨Hi0, Ha0⟩, ⟨Hi1, Ha1⟩⟩ Hk
  iapply (wp_load 𝒱₀ (c : Thread nD τ) none Set.univ (m := xM) (Finset.subset_univ _)) $$ Hx; iintro Hx
  iapply (wp_load 𝒱₀ (c : Thread nD τ) none Set.univ (m := wqM) (Finset.subset_univ _)) $$ Hwq; iintro Hwq
  iapply (wp_load 𝒱₀ (c : Thread nD τ) none Set.univ (m := woM) (Finset.subset_univ _)) $$ Hwo; iintro Hwo
  rw [ld_x, ld_wq, ld_wo]
  iapply (wp_kvin m κ c hc 0 ![0, 0, 0, 0, 0]) $$ [Hi0 HO Ha0]
  · isplitr; · iexact HP
    isplitl [Hi0]; · iexact Hi0
    isplitl [HO]; · iexact HO
    iexact Ha0
  iintro ⟨HO, Ha0, Hp0⟩
  iapply (wp_kvin m κ c hc 1 ![1, 0, 0, 0, 0]) $$ [Hi1 HO Ha1]
  · isplitr; · iexact HP
    isplitl [Hi1]; · iexact Hi1
    isplitl [HO]; · iexact HO
    iexact Ha1
  iintro ⟨HO, Ha1, Hp1⟩
  rw [wp_ret]
  imodintro
  iapply Hk
  isplitl [HO]; · iexact HO
  isplitl [Hx Hwq Hwo]
  · isplitl [Hx]; · iexact Hx
    isplitl [Hwq]; · iexact Hwq
    iexact Hwo
  isplitl [Hp0 Hp1]
  · iapply (Entails.of_eq (kv_cut c (KV m c)).symm)
    isplitl [Hp0]; · iexact Hp0
    iexact Hp1
  isplitl [Ha0]; · iexact Ha0
  iexact Ha1

/-- Part 5 on device 0: it sends every other device its keys and values, and copies its own. -/
theorem wp_part5_zero (c : Dev nD) (hc : c = 0) {Q : _ → sProp 𝕄} :
    iprop(Pers m κ c ∗ ow c (kaList c) ∗ inP m c ∗ kvAny c ∗ hdPts m 0 0 ∗ hdPts m 0 1 ∗ (hdPts m (Fin.succ 0) 0 ∗ kvGo 0 0) ∗ (hdPts m (Fin.succ 0) 1 ∗ kvGo 0 1) ∗ (hdPts m (Fin.succ 1) 0 ∗ kvGo 1 0) ∗ (hdPts m (Fin.succ 1) 1 ∗ kvGo 1 1) ∗ (hdPts m (Fin.succ 2) 0 ∗ kvGo 2 0) ∗ (hdPts m (Fin.succ 2) 1 ∗ kvGo 2 1))
      ⊢ iprop(((ow c (arList c) ∗ inP m c ∗ kvP m c ∗ hdPts m 0 0 ∗ hdPts m 0 1 ∗ kvC 0 0 ∗ kvC 0 1 ∗ kvC 1 0 ∗ kvC 1 1 ∗ kvC 2 0 ∗ kvC 2 1)
          -∗ Q ⟨wo m c, q0 m c, q1 m c, iota .tc S128x128 32 [0] iota_S128x128_d0_w32, 64#32, k0_pay8, k0_pay9, k0_pay10⟩)
        -∗ wp frame (wpE (defs₀ (F := F)) 𝒱₀ (c : Thread nD τ) none) Set.univ (k0_part5 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c (vd c) (Scalar.extui (Scalar.cmpi .eq (vd c) 0#32))) Q) := by
  subst hc
  simp only [k0_part5_eq_skeleton]; unfold k0_part5_skel
  have h1 := cond1_pos
  rw [show kaList 0 = kvE 0 0 :: kvE 0 1 :: kvE 1 0 :: kvE 1 1 :: kvE 2 0 :: kvE 2 1 :: arList 0 from if_pos rfl]
  simp only [dif_pos h1, dif_neg cond2_neg]
  simp only [k0_part1_eq_skeleton, k0_part2_eq_skeleton]; unfold k0_part1_skel k0_part2_skel
  simp only [Prog.lift, Prog.bind_op, Prog.bind_ret, Prog.pure_eq_ret, Prog.bind_assoc]
  iintro ⟨#HP, HO, ⟨Hx, Hwq, Hwo⟩, ⟨%f, Hkv⟩, Hk0, Hv0, ⟨Hh00, Hg00⟩, ⟨Hh01, Hg01⟩, ⟨Hh10, Hg10⟩, ⟨Hh11, Hg11⟩, ⟨Hh20, Hg20⟩, ⟨Hh21, Hg21⟩⟩ Hk
  iapply (wp_kvk m κ ⟨k0_dev4, k0_dev4_lt 0 h1⟩ 0 (Fin.ext (k0_dev4_eq)) (offS := ![0, 4, 0, 0]) rfl (offD := ![0, 0, 0, 0, 0]) rfl _) $$ [Hh00 Hg00 HO]
  · isplitr; · iexact HP
    isplitl [Hh00]; · iexact Hh00
    isplitl [Hg00]; · iexact Hg00
    iexact HO
  iintro ⟨Hc00, HO⟩
  iapply (wp_kvv m κ ⟨k0_dev5, k0_dev5_lt 0 h1⟩ 0 (Fin.ext (k0_dev5_eq)) (offS := ![0, 4, 0, 0]) rfl (offD := ![1, 0, 0, 0, 0]) rfl _) $$ [Hh01 Hg01 HO]
  · isplitr; · iexact HP
    isplitl [Hh01]; · iexact Hh01
    isplitl [Hg01]; · iexact Hg01
    iexact HO
  iintro ⟨Hc01, HO⟩
  iapply (wp_kvk m κ ⟨k0_dev6, k0_dev6_lt 0 h1⟩ 1 (Fin.ext (k0_dev6_eq)) (offS := ![0, 8, 0, 0]) rfl (offD := ![0, 0, 0, 0, 0]) rfl _) $$ [Hh10 Hg10 HO]
  · isplitr; · iexact HP
    isplitl [Hh10]; · iexact Hh10
    isplitl [Hg10]; · iexact Hg10
    iexact HO
  iintro ⟨Hc10, HO⟩
  iapply (wp_kvv m κ ⟨k0_dev7, k0_dev7_lt 0 h1⟩ 1 (Fin.ext (k0_dev7_eq)) (offS := ![0, 8, 0, 0]) rfl (offD := ![1, 0, 0, 0, 0]) rfl _) $$ [Hh11 Hg11 HO]
  · isplitr; · iexact HP
    isplitl [Hh11]; · iexact Hh11
    isplitl [Hg11]; · iexact Hg11
    iexact HO
  iintro ⟨Hc11, HO⟩
  iapply (wp_kvk m κ ⟨k0_dev8, k0_dev8_lt 0 h1⟩ 2 (Fin.ext (k0_dev8_eq)) (offS := ![0, 12, 0, 0]) rfl (offD := ![0, 0, 0, 0, 0]) rfl _) $$ [Hh20 Hg20 HO]
  · isplitr; · iexact HP
    isplitl [Hh20]; · iexact Hh20
    isplitl [Hg20]; · iexact Hg20
    iexact HO
  iintro ⟨Hc20, HO⟩
  iapply (wp_kvv m κ ⟨k0_dev9, k0_dev9_lt 0 h1⟩ 2 (Fin.ext (k0_dev9_eq)) (offS := ![0, 12, 0, 0]) rfl (offD := ![1, 0, 0, 0, 0]) rfl _) $$ [Hh21 Hg21 HO]
  · isplitr; · iexact HP
    isplitl [Hh21]; · iexact Hh21
    isplitl [Hg21]; · iexact Hg21
    iexact HO
  iintro ⟨Hc21, HO⟩
  ihave Hk0 := (Entails.of_eq (show (hdPts m 0 0 : sProp 𝕄) = ((((0 : Dev nD) : Thread nD τ).loc cc0_stg2_0) ↦[hdSet 0]{fullShare} kC m 0) from if_pos rfl)) $$ Hk0
  ihave Hv0 := (Entails.of_eq (show (hdPts m 0 1 : sProp 𝕄) = ((((0 : Dev nD) : Thread nD τ).loc cc0_stg3_0) ↦[hdSet 0]{fullShare} vC m 0) from if_neg (by decide))) $$ Hv0
  iapply (wp_load 𝒱₀ ((0 : Dev nD) : Thread nD τ) none Set.univ (m := kM) (S := hdSet 0) (f := kC m 0) (hdK_ldsub 0 (off := ![0, 0, 0, 0]) rfl inb_S2x16x128x64_S2x4x128x64_0_0_0_0)) $$ Hk0; iintro Hk0
  iapply (wp_load 𝒱₀ ((0 : Dev nD) : Thread nD τ) none Set.univ (m := kvM) (Finset.subset_univ _)) $$ Hkv; iintro Hkv
  iapply (wp_store 𝒱₀ ((0 : Dev nD) : Thread nD τ) none Set.univ (m := kvM) (r := Rect.unit (s := S2x2x4x128x64) ![0, 0, 0, 0, 0] S1x2x4x128x64.size inb_S2x2x4x128x64_S1x2x4x128x64_0_0_0_0_0) (Mk := Finset.univ) (S := Finset.univ) (Finset.subset_univ _)) $$ Hkv; iintro Hkv
  iapply (wp_load 𝒱₀ ((0 : Dev nD) : Thread nD τ) none Set.univ (m := vM) (S := hdSet 0) (f := vC m 0) (hdV_ldsub 0 (off := ![0, 0, 0, 0]) rfl inb_S2x16x128x64_S2x4x128x64_0_0_0_0)) $$ Hv0; iintro Hv0
  iapply (wp_load 𝒱₀ ((0 : Dev nD) : Thread nD τ) none Set.univ (m := kvM) (Finset.subset_univ _)) $$ Hkv; iintro Hkv
  iapply (wp_store 𝒱₀ ((0 : Dev nD) : Thread nD τ) none Set.univ (m := kvM) (r := Rect.unit (s := S2x2x4x128x64) ![1, 0, 0, 0, 0] S1x2x4x128x64.size inb_S2x2x4x128x64_S1x2x4x128x64_1_0_0_0_0) (Mk := Finset.univ) (S := Finset.univ) (Finset.subset_univ _)) $$ Hkv; iintro Hkv
  rw [own_kv m (o0 := ![0, 0, 0, 0]) (o1 := ![0, 0, 0, 0]) (d0 := ![0, 0, 0, 0, 0]) (d1 := ![1, 0, 0, 0, 0]) rfl rfl rfl rfl]
  iapply (wp_load 𝒱₀ ((0 : Dev nD) : Thread nD τ) none Set.univ (m := xM) (Finset.subset_univ _)) $$ Hx; iintro Hx
  iapply (wp_load 𝒱₀ ((0 : Dev nD) : Thread nD τ) none Set.univ (m := wqM) (Finset.subset_univ _)) $$ Hwq; iintro Hwq
  iapply (wp_load 𝒱₀ ((0 : Dev nD) : Thread nD τ) none Set.univ (m := woM) (Finset.subset_univ _)) $$ Hwo; iintro Hwo
  rw [ld_x, ld_wq, ld_wo]
  rw [wp_ret]
  imodintro
  iapply Hk
  isplitl [HO]; · iexact HO
  isplitl [Hx Hwq Hwo]
  · isplitl [Hx]; · iexact Hx
    isplitl [Hwq]; · iexact Hwq
    iexact Hwo
  isplitl [Hkv]; · iexact Hkv
  isplitl [Hk0]; · iapply (Entails.of_eq (show (hdPts m 0 0 : sProp 𝕄) = ((((0 : Dev nD) : Thread nD τ).loc cc0_stg2_0) ↦[hdSet 0]{fullShare} kC m 0) from if_pos rfl).symm); iexact Hk0
  isplitl [Hv0]; · iapply (Entails.of_eq (show (hdPts m 0 1 : sProp 𝕄) = ((((0 : Dev nD) : Thread nD τ).loc cc0_stg3_0) ↦[hdSet 0]{fullShare} vC m 0) from if_neg (by decide)).symm); iexact Hv0
  isplitl [Hc00]; · iexact Hc00
  isplitl [Hc01]; · iexact Hc01
  isplitl [Hc10]; · iexact Hc10
  isplitl [Hc11]; · iexact Hc11
  isplitl [Hc20]; · iexact Hc20
  iexact Hc21

end Cert.KIProof
-- ==== Proof.Whole.lean ====
module

public import proofs.«01_k».proof.Proof.Kv

@[expose] public section

set_option maxRecDepth 16384

noncomputable section

/-! The body as a whole. -/

namespace Cert.KIProof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Ring
open Idealize.ShloMosaic.Pipeline (Dat Cfg Window BodyObligation cellOf)

variable {F : FTy → Type} [FloatOps F] [Named F]
variable (m : (ℓ : Loc nD τ sig) → Buf (Elt F) ℓ) (κ : GSem nD τ sig → ℕ)

local notation "𝕄" => MT nD τ sig Unit (Elt F) ℕ UU ℕ

variable (κ : GSem nD τ sig → ℕ)

/-- What came with the barrier signal of the device `j + 1` after: its slots for partial results, and for device 0 its
    key/value slots. -/
def arGot (c : Dev nD) (k : Fin 3) (b : Fin 2) : sProp 𝕄 := iprop((∃ f, slotPts (nx k c) k b f) ∗ reached ER (dcell (nx k c) (qArR k b)) 0)
/-- For device 0, the key/value slots of the device `j + 1` after. -/
def kvGot (c : Dev nD) (j : Fin 3) : sProp 𝕄 :=
  if c = 0 then iprop(((∃ f, kvPts (nx j c) 0 f) ∗ reached ER (dcell (nx j c) (qKvR 0)) 0)
          ∗ ((∃ f, kvPts (nx j c) 1 f) ∗ reached ER (dcell (nx j c) (qKvR 1)) 0)) else iprop(emp)
/-- What came with a barrier signal: two slots for partial results, and the key/value slots. -/
theorem barPay_eq (c : Dev nD) (j : Fin 3) : (barPay c j : sProp 𝕄) = iprop(arGot c j 0 ∗ arGot c j 1 ∗ kvGot c j) := rfl

/-- The tokens of a transfer of a partial result. -/
def arT (c : Dev nD) (k : Fin 3) (b : Fin 2) : sProp 𝕄 := iprop(dutyTok ER (dcell c (qArS k b)) 0 0 ∗ dutyTok ER (dcell (nx k c) (qArR k b)) 0 0)

/-- What came with the signal and the tokens are what a transfer starts from. -/
theorem arGo_mk (c : Dev nD) (k : Fin 3) (b : Fin 2) : iprop(arGot c k b ∗ arT c k b) ⊢ (arGo c k b : sProp 𝕄) := by
  unfold arGot arT arGo
  iintro ⟨⟨H1, H2⟩, H3, H4⟩
  isplitl [H1]; · iexact H1
  isplitl [H2]; · iexact H2
  isplitl [H3]; · iexact H3
  iexact H4

/-- The whole body but for device 0's last waits, part 5 given. -/
theorem wp_part21 (c : Dev nD) (X Y : sProp 𝕄) (f : S2x128x256.Idx → Elt F .bf16) (g : S2x128x512.Idx → Elt F .f32)
    (h5 : ∀ Q : _ → sProp 𝕄, iprop(Pers m κ c ∗ ow c (kaList c) ∗ inP m c ∗ (kvGot c 0 ∗ kvGot c 1 ∗ kvGot c 2) ∗ X)
      ⊢ iprop(((ow c (arList c) ∗ inP m c ∗ kvP m c ∗ Y) -∗ Q ⟨wo m c, q0 m c, q1 m c, iota .tc S128x128 32 [0] iota_S128x128_d0_w32, 64#32, k0_pay8, k0_pay9, k0_pay10⟩)
        -∗ wp frame (wpE (defs₀ (F := F)) 𝒱₀ (c : Thread nD τ) none) Set.univ (k0_part5 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c (vd c) (Scalar.extui (Scalar.cmpi .eq (vd c) 0#32))) Q)) {Q : _ → sProp 𝕄} :
    iprop(Pers m κ c ∗ ow c (barE c 0 :: barE c 1 :: barE c 2 :: kaList c)
        ∗ (barPay (nx 0 c) (rv 0) ∗ dutyTok ER (bcell (nx 0 c)) 0 (rv 0)) ∗ (barPay (nx 1 c) (rv 1) ∗ dutyTok ER (bcell (nx 1 c)) 0 (rv 1)) ∗ (barPay (nx 2 c) (rv 2) ∗ dutyTok ER (bcell (nx 2 c)) 0 (rv 2))
        ∗ cred (tallyAt (bcell c) () 3) ∗ atPos ER (bcell c) 0 ∅ 0 ∗ inP m c ∗ X ∗ ctP c f ∗ (∃ f, rowPts fullShare c 0 f) ∗ (∃ f, rowPts fullShare c 1 f) ∗ outP c g
        ∗ arT c 0 0 ∗ arT c 1 0 ∗ arT c 2 0 ∗ arT c 0 1 ∗ arT c 1 1 ∗ arT c 2 1 ∗ arW c 0 0 ∗ arW c 1 0 ∗ arW c 2 0 ∗ arW c 0 1 ∗ arW c 1 1 ∗ arW c 2 1 ∗ at_ c (qArS 0 0) 0 ∗ at_ c (qArS 1 0) 0 ∗ at_ c (qArS 2 0) 0 ∗ at_ c (qArS 0 1) 0 ∗ at_ c (qArS 1 1) 0 ∗ at_ c (qArS 2 1) 0)
      ⊢ iprop(((ow c [] ∗ atPos ER (bcell c) 1 ∅ 0 ∗ inP m c ∗ kvP m c ∗ Y ∗ (∃ f, ctP c f) ∗ outP c (OUT m c)
        ∗ arD m c 0 0 ∗ arD m c 1 0 ∗ arD m c 2 0 ∗ arD m c 0 1 ∗ arD m c 1 1 ∗ arD m c 2 1 ∗ arB m c 0 0 ∗ arB m c 1 0 ∗ arB m c 2 0 ∗ arB m c 0 1 ∗ arB m c 1 1 ∗ arB m c 2 1)
          -∗ Q (Scalar.extui (Scalar.cmpi .eq (vd c) 0#32)))
        -∗ wp frame (wpE (defs₀ (F := F)) 𝒱₀ (c : Thread nD τ) none) Set.univ (k0_part21 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7) Q) := by
  simp only [k0_part21_eq_skeleton]; unfold k0_part21_skel
  iintro ⟨#HP, HO, ⟨Hp0, Hb0⟩, ⟨Hp1, Hb1⟩, ⟨Hp2, Hb2⟩, Hcb, Hatb, Hin, HX, Hct, Hr0, Hr1, Ho, Ht00, Ht10, Ht20, Ht01, Ht11, Ht21, ⟨Hi00, Ha00⟩, ⟨Hi10, Ha10⟩, ⟨Hi20, Ha20⟩, ⟨Hi01, Ha01⟩, ⟨Hi11, Ha11⟩, ⟨Hi21, Ha21⟩, Hs00, Hs10, Hs20, Hs01, Hs11, Hs21⟩ Hk
  rw [wp_bind]
  iapply (wp_part4 m κ c) $$ [HO Hp0 Hb0 Hp1 Hb1 Hp2 Hb2 Hcb Hatb]
  · isplitr; · iexact HP
    isplitl [HO]; · iexact HO
    isplitl [Hp0 Hb0]
    · isplitl [Hp0]; · iexact Hp0
      iexact Hb0
    isplitl [Hp1 Hb1]
    · isplitl [Hp1]; · iexact Hp1
      iexact Hb1
    isplitl [Hp2 Hb2]
    · isplitl [Hp2]; · iexact Hp2
      iexact Hb2
    isplitl [Hcb]; · iexact Hcb
    iexact Hatb
  iintro ⟨HO, Hp0, Hp1, Hp2, Hatb⟩
  ihave Hp0 := (Entails.of_eq (barPay_eq c 0)) $$ Hp0
  icases Hp0 with ⟨Hg00, Hg01, Hkv0⟩
  ihave Hp1 := (Entails.of_eq (barPay_eq c 1)) $$ Hp1
  icases Hp1 with ⟨Hg10, Hg11, Hkv1⟩
  ihave Hp2 := (Entails.of_eq (barPay_eq c 2)) $$ Hp2
  icases Hp2 with ⟨Hg20, Hg21, Hkv2⟩
  rw [wp_bind]
  iapply (h5 _) $$ [HO Hin Hkv0 Hkv1 Hkv2 HX]
  · isplitr; · iexact HP
    isplitl [HO]; · iexact HO
    isplitl [Hin]; · iexact Hin
    isplitl [Hkv0 Hkv1 Hkv2]
    · isplitl [Hkv0]; · iexact Hkv0
      isplitl [Hkv1]; · iexact Hkv1
      iexact Hkv2
    iexact HX
  iintro ⟨HO, Hin, Hkv, HY⟩
  ihave Hgo00 := (arGo_mk c 0 0) $$ [Hg00 Ht00]
  · isplitl [Hg00]; · iexact Hg00
    iexact Ht00
  ihave Hgo10 := (arGo_mk c 1 0) $$ [Hg10 Ht10]
  · isplitl [Hg10]; · iexact Hg10
    iexact Ht10
  ihave Hgo20 := (arGo_mk c 2 0) $$ [Hg20 Ht20]
  · isplitl [Hg20]; · iexact Hg20
    iexact Ht20
  ihave Hgo01 := (arGo_mk c 0 1) $$ [Hg01 Ht01]
  · isplitl [Hg01]; · iexact Hg01
    iexact Ht01
  ihave Hgo11 := (arGo_mk c 1 1) $$ [Hg11 Ht11]
  · isplitl [Hg11]; · iexact Hg11
    iexact Ht11
  ihave Hgo21 := (arGo_mk c 2 1) $$ [Hg21 Ht21]
  · isplitl [Hg21]; · iexact Hg21
    iexact Ht21
  rw [wp_bind]
  iapply (wp_part6 m c) $$ []
  · iempintro
  iintro -
  rw [wp_bind]
  iapply (wp_part7 m c _) $$ [Hkv Hct]
  · isplitl [Hkv]; · iexact Hkv
    iexact Hct
  iintro ⟨Hkv, Hct⟩
  rw [wp_bind]
  iapply (wp_part8 m c _) $$ [Hkv Hct]
  · isplitl [Hkv]; · iexact Hkv
    iexact Hct
  iintro ⟨Hkv, Hct⟩
  rw [wp_bind]
  iapply (wp_part9 m c _) $$ [Hkv Hct]
  · isplitl [Hkv]; · iexact Hkv
    iexact Hct
  iintro ⟨Hkv, Hct⟩
  rw [wp_bind]
  iapply (wp_part10 m κ c _ _ _) $$ [Hr0 Hgo00 Hgo10 HO]
  · isplitr; · iexact HP
    isplitl [Hr0]; · iexact Hr0
    isplitl [Hgo00]; · iexact Hgo00
    isplitl [Hgo10]; · iexact Hgo10
    iexact HO
  iintro ⟨Hr0, Hc00, Hc10, HO⟩
  rw [wp_bind]
  iapply (wp_part11 m κ c _ _ _) $$ [Hr0 Hgo20 HO Hkv Hct]
  · isplitr; · iexact HP
    isplitl [Hr0]; · iexact Hr0
    isplitl [Hgo20]; · iexact Hgo20
    isplitl [HO]; · iexact HO
    isplitl [Hkv]; · iexact Hkv
    iexact Hct
  iintro ⟨Hc20, HO, Hkv, Hct⟩
  rw [wp_bind]
  iapply (wp_part12 m c _) $$ [Hkv Hct]
  · isplitl [Hkv]; · iexact Hkv
    iexact Hct
  iintro ⟨Hkv, Hct⟩
  rw [wp_bind]
  iapply (wp_part13 m c _) $$ [Hkv Hct]
  · isplitl [Hkv]; · iexact Hkv
    iexact Hct
  iintro ⟨Hkv, Hct⟩
  rw [wp_bind]
  iapply (wp_part14 m κ c _ _ _) $$ [Hct Hr1 Hgo01 HO]
  · isplitr; · iexact HP
    isplitl [Hct]; · iexact Hct
    isplitl [Hr1]; · iexact Hr1
    isplitl [Hgo01]; · iexact Hgo01
    iexact HO
  iintro ⟨Hct, Hr11, Hr12, Hc01, HO⟩
  rw [wp_bind]
  iapply (wp_part15 m κ c g _ _ _ _ _) $$ [Hr11 Hr12 Hgo11 Hgo21 HO Ho]
  · isplitr; · iexact HP
    isplitl [Hr11]; · iexact Hr11
    isplitl [Hr12]; · iexact Hr12
    isplitl [Hgo11]; · iexact Hgo11
    isplitl [Hgo21]; · iexact Hgo21
    isplitl [HO]; · iexact HO
    iexact Ho
  iintro ⟨Hc11, Hc21, HO, Ho⟩
  rw [wp_bind]
  iapply (wp_part16 m κ c _ _ _) $$ [HO Hi00 Ha00 Hi10 Ha10 Ho]
  · isplitr; · iexact HP
    isplitl [HO]; · iexact HO
    isplitl [Hi00 Ha00]
    · isplitl [Hi00]; · iexact Hi00
      iexact Ha00
    isplitl [Hi10 Ha10]
    · isplitl [Hi10]; · iexact Hi10
      iexact Ha10
    iexact Ho
  iintro ⟨HO, Hd00, Hd10, Ho⟩
  rw [wp_bind]
  iapply (wp_part17 m κ c _ _) $$ [HO Hd10 Hi20 Ha20 Ho]
  · isplitr; · iexact HP
    isplitl [HO]; · iexact HO
    isplitl [Hd10]; · iexact Hd10
    isplitl [Hi20 Ha20]
    · isplitl [Hi20]; · iexact Hi20
      iexact Ha20
    iexact Ho
  iintro ⟨HO, Hd10, Hd20, Ho⟩
  rw [wp_bind]
  iapply (wp_part18 m κ c _ _ _) $$ [HO Hi01 Ha01 Hi11 Ha11 Ho]
  · isplitr; · iexact HP
    isplitl [HO]; · iexact HO
    isplitl [Hi01 Ha01]
    · isplitl [Hi01]; · iexact Hi01
      iexact Ha01
    isplitl [Hi11 Ha11]
    · isplitl [Hi11]; · iexact Hi11
      iexact Ha11
    iexact Ho
  iintro ⟨HO, Hd01, Hd11, Ho⟩
  rw [wp_bind]
  iapply (wp_part19 m κ c _) $$ [HO Hd11 Hi21 Ha21 Ho]
  · isplitr; · iexact HP
    isplitl [HO]; · iexact HO
    isplitl [Hd11]; · iexact Hd11
    isplitl [Hi21 Ha21]
    · isplitl [Hi21]; · iexact Hi21
      iexact Ha21
    iexact Ho
  iintro ⟨HO, Hd11, Hd21, Ho⟩
  rw [wp_bind]
  iapply (wp_part20 m κ c) $$ [HO Hc00 Hs00 Hc10 Hs10 Hc20 Hs20 Hc01 Hs01]
  · isplitr; · iexact HP
    isplitl [HO]; · iexact HO
    isplitl [Hc00 Hs00]
    · isplitl [Hc00]; · iexact Hc00
      iexact Hs00
    isplitl [Hc10 Hs10]
    · isplitl [Hc10]; · iexact Hc10
      iexact Hs10
    isplitl [Hc20 Hs20]
    · isplitl [Hc20]; · iexact Hc20
      iexact Hs20
    · isplitl [Hc01]; · iexact Hc01
      iexact Hs01
  iintro ⟨HO, He00, He10, He20, He01⟩
  simp only [Prog.lift, Prog.bind_op, Prog.bind_ret, Prog.pure_eq_ret, Prog.bind_assoc]
  iapply (wp_outM m κ c 1 1 ![1, 0, 0]) $$ [Hc11 HO Hs11]
  · isplitr; · iexact HP
    isplitl [Hc11]; · iexact Hc11
    isplitl [HO]; · iexact HO
    iexact Hs11
  iintro ⟨HO, Hs11, Hr11⟩
  iapply (wp_outM m κ c 2 1 ![1, 0, 0]) $$ [Hc21 HO Hs21]
  · isplitr; · iexact HP
    isplitl [Hc21]; · iexact Hc21
    isplitl [HO]; · iexact HO
    iexact Hs21
  iintro ⟨HO, Hs21, Hr21⟩
  rw [wp_ret]
  imodintro
  iapply Hk
  isplitl [HO]; · iexact HO
  isplitl [Hatb]; · iexact Hatb
  isplitl [Hin]; · iexact Hin
  isplitl [Hkv]; · iexact Hkv
  isplitl [HY]; · iexact HY
  isplitl [Hct]; · iexists _; iexact Hct
  isplitl [Ho]; · iexact Ho
  isplitl [Hd00]; · iexact Hd00
  isplitl [Hd10]; · iexact Hd10
  isplitl [Hd20]; · iexact Hd20
  isplitl [Hd01]; · iexact Hd01
  isplitl [Hd11]; · iexact Hd11
  isplitl [Hd21]; · iexact Hd21
  isplitl [He00]; · iexact He00
  isplitl [He10]; · iexact He10
  isplitl [He20]; · iexact He20
  isplitl [He01]; · iexact He01
  isplitl [Hr11 Hs11]
  · isplitl [Hr11]; · iexact Hr11
    iexact Hs11
  isplitl [Hr21]; · iexact Hr21
  iexact Hs21

end Cert.KIProof
-- ==== Proof.Body.lean ====
module

public import proofs.«01_k».proof.Proof.Whole

@[expose] public section

set_option maxRecDepth 16384

noncomputable section

/-! The body as a whole: its cells, its resources, and its run up to the last waits of device 0. -/

namespace Cert.KIProof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Ring
open Idealize.ShloMosaic.Pipeline (Dat Cfg Window BodyObligation cellOf)

variable {F : FTy → Type} [FloatOps F] [Named F]
variable (m : (ℓ : Loc nD τ sig) → Buf (Elt F) ℓ) (κ : GSem nD τ sig → ℕ)

local notation "𝕄" => MT nD τ sig Unit (Elt F) ℕ UU ℕ

/-! ### The cells -/

/-- A device's positions at its own DMA cells: `s0` at the six of its key/value transfers, `s1` at the two of the key/value
    transfers to it, `s2` at the rest. -/
def at20 (c : Dev nD) (s0 s1 s2 : ℕ) : sProp 𝕄 :=
  bigSep Finset.univ (fun i : Fin 20 => at_ c (oq i) (if i.val < 6 then s0 else if i.val < 8 then s1 else s2))

/-- The positions at all the own cells, one by one. -/
theorem at20_eq (c : Dev nD) (s0 s1 s2 : ℕ) : (at20 c s0 s1 s2 : sProp 𝕄)
    = iprop(at_ c (qKvS 0 0) s0 ∗ at_ c (qKvS 0 1) s0 ∗ at_ c (qKvS 1 0) s0 ∗ at_ c (qKvS 1 1) s0 ∗ at_ c (qKvS 2 0) s0 ∗ at_ c (qKvS 2 1) s0 ∗ at_ c (qKvR 0) s1 ∗ at_ c (qKvR 1) s1 ∗ at_ c (qArS 0 0) s2 ∗ at_ c (qArS 0 1) s2 ∗ at_ c (qArS 1 0) s2 ∗ at_ c (qArS 1 1) s2 ∗ at_ c (qArS 2 0) s2 ∗ at_ c (qArS 2 1) s2 ∗ at_ c (qArR 0 0) s2 ∗ at_ c (qArR 0 1) s2 ∗ at_ c (qArR 1 0) s2 ∗ at_ c (qArR 1 1) s2 ∗ at_ c (qArR 2 0) s2 ∗ at_ c (qArR 2 1) s2) := by
  unfold at20
  rw [bigSep_univ_eq_bigSepL [0, 1, 2, 3, 4, 5, 6, 7, 8, 9, 10, 11, 12, 13, 14, 15, 16, 17, 18, 19] (by decide) (by decide)]
  simp only [bigSepL_cons_cons, bigSepL_singleton]
  rfl

/-- Updates of the members of a family, made with a record at hand, are one update of the family. -/
theorem fupd_all {I : Type} [DecidableEq I] (s : Finset I) (P : sProp 𝕄) [BI.Persistent P] (Φ Ψ : I → sProp 𝕄)
    (h : ∀ i ∈ s, iprop(P ∗ Φ i) ⊢ (|={Set.univ}=> Ψ i)) : iprop(P ∗ bigSep s Φ) ⊢ (|={Set.univ}=> bigSep s Ψ) := by
  induction s using Finset.induction_on with
  | empty =>
    rw [bigSep_empty, bigSep_empty]
    iintro ⟨-, -⟩; imodintro; iempintro
  | insert i s hi ih =>
    rw [bigSep_insert hi, bigSep_insert hi]
    refine (show iprop(P ∗ (Φ i ∗ bigSep s Φ)) ⊢ (|={Set.univ}=> iprop(Ψ i ∗ bigSep s Ψ)) from ?_)
    iintro ⟨#HP, Hi, Hs⟩
    imod (h i (Finset.mem_insert_self i s)) $$ [Hi] with Hi
    · isplitr; · iexact HP
      iexact Hi
    imod (ih fun j hj => h j (Finset.mem_insert_of_mem hj)) $$ [Hs] with Hs
    · isplitr; · iexact HP
      iexact Hs
    imodintro
    isplitl [Hi]; · iexact Hi
    iexact Hs

/-- A cell whose rounds are all past is closed, its counter at zero. -/
theorem close_dma (c : Dev nD) (q : DmaSem sig) (hq : 6 ≤ q.val) (R : ℕ) (h : ∀ r, R ≤ r → (Rd (F := F) m).duties (dcell c q) r = ∅) :
    iprop(Pers m κ c ∗ at_ c q R) ⊢ (|={Set.univ}=> semVal (dcell c q) 0 : sProp 𝕄) := by
  unfold at_
  iintro ⟨#HP, Hat⟩
  ihave #HI := ((Pers_invs m κ c).trans (inv_dma m κ c q hq)) $$ HP
  iapply (Rounds.cell_close ER (Rd m) (Set.mem_univ (κ (dcell c q))) (fun h => h) h) $$ [Hat]
  isplitr; · iexact HI
  iexact Hat
/-- After its round the barrier's cell is closed, its semaphore at zero. -/
theorem close_bar (c : Dev nD) : iprop(Pers m κ c ∗ atPos ER (bcell c) 1 ∅ 0) ⊢ (|={Set.univ}=> semVal (bcell c) 0 : sProp 𝕄) := by
  iintro ⟨#HP, Hat⟩
  ihave #HI := ((Pers_invs m κ c).trans (inv_bar m κ c)) $$ HP
  iapply (Rounds.cell_close ER (Rd m) (Set.mem_univ (κ (bcell c))) (fun h => h) (R := 1) (duties_later m (bcell c))) $$ [Hat]
  isplitr; · iexact HI
  iexact Hat

/-- The kernel's own semaphores of a device, at zero. -/
def semZ (c : Dev nD) : sProp 𝕄 := bigSep Finset.univ (fun i : Fin 20 => semVal (dcell c (oq i)) 0)

/-- Devices other than 0 have no duties at the sender's key/value cells. -/
theorem kvS_none : ∀ c : Dev nD, c ≠ 0 → ∀ i : Fin 20, i.val < 6 → kdDut c (kindOf (oq i)) = ∅ := by decide
/-- Device 0 has no duties at the receiver's key/value cells. -/
theorem kvR_none : ∀ i : Fin 20, ¬ i.val < 6 → i.val < 8 → kdDut 0 (kindOf (oq i)) = ∅ := by decide

/-- A cell without duties in its first round never has any. -/
theorem later_of (c : Dev nD) (q : DmaSem sig) (h0 : kdDut c (kindOf q) = ∅) (r : ℕ) : (Rd (F := F) m).duties (dcell c q) r = ∅ := by
  cases r with
  | zero => rw [duties_dma, h0]
  | succ r => exact duties_later m _ _ (by omega)

/-- At the end all the own cells are closed, their semaphores at zero. -/
theorem close_all (c : Dev nD) (s0 s1 : ℕ) (h0 : s0 = 1 ∨ (s0 = 0 ∧ c ≠ 0)) (h1 : s1 = 1 ∨ (s1 = 0 ∧ c = 0)) :
    iprop(Pers m κ c ∗ at20 c s0 s1 1) ⊢ (|={Set.univ}=> semZ c : sProp 𝕄) := by
  unfold at20 semZ
  refine fupd_all _ _ _ _ fun i _ => close_dma m κ c (oq i) (by show 6 ≤ 6 + i.val; omega) _ ?_
  by_cases hi : i.val < 6
  · rw [if_pos hi]
    rcases h0 with rfl | ⟨rfl, hc⟩
    · exact duties_later m _
    · exact fun r _ => later_of m c _ (kvS_none c hc i hi) r
  · rw [if_neg hi]
    by_cases hj : i.val < 8
    · rw [if_pos hj]
      rcases h1 with rfl | ⟨rfl, rfl⟩
      · exact duties_later m _
      · exact fun r _ => later_of m 0 _ (kvR_none i hi hj) r
    · rw [if_neg hj]; exact duties_later m _

/-! ### What the body is given and gives back -/

/-- The contexts' buffer, whatever it holds. -/
abbrev ctAny (c : Dev nD) : sProp 𝕄 := iprop(∃ f, ctP (F := F) c f)
/-- The buffer of partial results to send, whatever it holds. -/
abbrev stAny (c : Dev nD) : sProp 𝕄 := iprop(∃ f, ((c : Thread nD τ).loc cc0_scratch2) ↦{fullShare} (f : S2x128x512.Idx → Elt F .bf16))
/-- The buffer for incoming partial results, whatever it holds. -/
abbrev arAny (c : Dev nD) : sProp 𝕄 := iprop(∃ f, ((c : Thread nD τ).loc cc0_scratch3) ↦{fullShare} (f : S3x2x128x512.Idx → Elt F .bf16))

/-- The tokens of a key/value transfer. -/
def kvT (j : Fin 3) (t : Fin 2) : sProp 𝕄 := iprop(dutyTok ER (dcell 0 (qKvS j t)) 0 0 ∗ dutyTok ER (dcell (nx j 0) (qKvR t)) 0 0)
/-- The tokens a device pays with. -/
def toksB (c : Dev nD) : sProp 𝕄 := iprop(dutyTok ER (bcell (nx 0 c)) 0 (rv 0) ∗ dutyTok ER (bcell (nx 1 c)) 0 (rv 1) ∗ dutyTok ER (bcell (nx 2 c)) 0 (rv 2))
/-- The tokens of the transfers of partial results. -/
def toksA (c : Dev nD) : sProp 𝕄 := iprop(arT c 0 0 ∗ arT c 1 0 ∗ arT c 2 0 ∗ arT c 0 1 ∗ arT c 1 1 ∗ arT c 2 1)
/-- The tokens of device 0's transfers of keys and values. -/
def toksK (c : Dev nD) : sProp 𝕄 := if c = 0 then iprop(kvT 0 0 ∗ kvT 0 1 ∗ kvT 1 0 ∗ kvT 1 1 ∗ kvT 2 0 ∗ kvT 2 1) else iprop(emp)
/-- The credits a device waits with. -/
def credsA (c : Dev nD) : sProp 𝕄 := iprop(arI c 0 0 ∗ arI c 1 0 ∗ arI c 2 0 ∗ arI c 0 1 ∗ arI c 1 1 ∗ arI c 2 1)
/-- The credits of the keys and values that a device other than 0 waits for. -/
def credsK (c : Dev nD) : sProp 𝕄 := if c = 0 then iprop(emp) else iprop(kvI c 0 ∗ kvI c 1)

/-- What the four scratch buffers are worth before and after: some contents. -/
abbrev scr (c : Dev nD) : sProp 𝕄 := iprop(kvAny (F := F) c ∗ ctAny c ∗ stAny c ∗ arAny c)

/-! ### The body up to device 0's last waits -/

/-- The shares of both rows make the buffer of partial results to send. -/
theorem rows_join (c : Dev nD) : iprop(rowPts (shares3 fullShare 0) c 0 (STG m c) ∗ rowPts (shares3 fullShare 1) c 0 (STG m c) ∗ rowPts (shares3 fullShare 2) c 0 (STG m c) ∗ rowPts (shares3 fullShare 0) c 1 (STG m c) ∗ rowPts (shares3 fullShare 1) c 1 (STG m c) ∗ rowPts (shares3 fullShare 2) c 1 (STG m c)) ⊢ (stAny c : sProp 𝕄) := by
  iintro ⟨H00, H10, H20, H01, H11, H21⟩
  ihave H0 := (row_thirds c 0 (STG m c)).2 $$ [H00 H10 H20]
  · isplitl [H00]; · iexact H00
    isplitl [H10]; · iexact H10
    iexact H20
  ihave H1 := (row_thirds c 1 (STG m c)).2 $$ [H01 H11 H21]
  · isplitl [H01]; · iexact H01
    isplitl [H11]; · iexact H11
    iexact H21
  iexists STG m c
  iapply (Entails.of_eq (st_cut fullShare c (STG m c)).symm) $$ [H0 H1]
  isplitl [H0]; · iexact H0
  iexact H1
/-- The six slots make the buffer for incoming partial results. -/
theorem slots_join (c : Dev nD) : iprop(slotPts c 0 0 (AR m c) ∗ slotPts c 1 0 (AR m c) ∗ slotPts c 2 0 (AR m c) ∗ slotPts c 0 1 (AR m c) ∗ slotPts c 1 1 (AR m c) ∗ slotPts c 2 1 (AR m c)) ⊢ (arAny c : sProp 𝕄) := by
  iintro ⟨H00, H10, H20, H01, H11, H21⟩
  iexists AR m c
  iapply (Entails.of_eq (ar_cut c (AR m c)).symm) $$ [H00 H10 H20 H01 H11 H21]
  isplitl [H00]; · iexact H00
  isplitl [H01]; · iexact H01
  isplitl [H10]; · iexact H10
  isplitl [H11]; · iexact H11
  isplitl [H20]; · iexact H20
  iexact H21
/-- The buffer of partial results to send is its two rows. -/
theorem st_open (c : Dev nD) : (stAny c : sProp 𝕄) ⊢ iprop((∃ f, rowPts fullShare c 0 f) ∗ (∃ f, rowPts fullShare c 1 f)) := by
  iintro ⟨%f, H⟩
  ihave H := (Entails.of_eq (st_cut fullShare c f)) $$ H
  icases H with ⟨H0, H1⟩
  isplitl [H0]; · iexists f; iexact H0
  iexists f; iexact H1
/-- The slots, two by two, and the parts of the key/value buffer, as the barrier signals carry them. -/
theorem pays_mk (c : Dev nD) : iprop(Pers m κ c ∗ (arAny c ∗ kvGive c 0 ∗ kvGive c 1 ∗ kvGive c 2) ∗ toksB c)
    ⊢ iprop((barPay (nx 0 c) (rv 0) ∗ dutyTok ER (bcell (nx 0 c)) 0 (rv 0)) ∗ (barPay (nx 1 c) (rv 1) ∗ dutyTok ER (bcell (nx 1 c)) 0 (rv 1)) ∗ (barPay (nx 2 c) (rv 2) ∗ dutyTok ER (bcell (nx 2 c)) 0 (rv 2))) := by
  unfold toksB
  iintro ⟨#HP, ⟨⟨%f, H⟩, Hk0, Hk1, Hk2⟩, Ht0, Ht1, Ht2⟩
  ihave H := (Entails.of_eq (ar_cut c f)) $$ H
  icases H with ⟨H00, H01, H10, H11, H20, H21⟩
  ihave Hp0 := (give m κ c 0) $$ [H20 H21 Hk0]
  · isplitr
    · iexact HP
    isplitl [H20]
    · iexists f; iexact H20
    isplitl [H21]
    · iexists f; iexact H21
    iexact Hk0
  ihave Hp1 := (give m κ c 1) $$ [H10 H11 Hk1]
  · isplitr
    · iexact HP
    isplitl [H10]
    · iexists f; iexact H10
    isplitl [H11]
    · iexists f; iexact H11
    iexact Hk1
  ihave Hp2 := (give m κ c 2) $$ [H00 H01 Hk2]
  · isplitr
    · iexact HP
    isplitl [H00]
    · iexists f; iexact H00
    isplitl [H01]
    · iexists f; iexact H01
    iexact Hk2
  iclear HP
  isplitl [Hp0 Ht0]
  · isplitl [Hp0]
    · iexact Hp0
    iexact Ht0
  isplitl [Hp1 Ht1]
  · isplitl [Hp1]
    · iexact Hp1
    iexact Ht1
  isplitl [Hp2]
  · iexact Hp2
  iexact Ht2

/-- Everything but device 0's last waits, from the body's resources. `X` and `Y` are part 5's own. -/
theorem wp_run21 (c : Dev nD) (X Y : sProp 𝕄) (g : S2x128x512.Idx → Elt F .f32)
    (h5 : ∀ Q : _ → sProp 𝕄, iprop(Pers m κ c ∗ ow c (kaList c) ∗ inP m c ∗ (kvGot c 0 ∗ kvGot c 1 ∗ kvGot c 2) ∗ X)
      ⊢ iprop(((ow c (arList c) ∗ inP m c ∗ kvP m c ∗ Y) -∗ Q ⟨wo m c, q0 m c, q1 m c, iota .tc S128x128 32 [0] iota_S128x128_d0_w32, 64#32, k0_pay8, k0_pay9, k0_pay10⟩)
        -∗ wp frame (wpE (defs₀ (F := F)) 𝒱₀ (c : Thread nD τ) none) Set.univ (k0_part5 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c (vd c) (Scalar.extui (Scalar.cmpi .eq (vd c) 0#32))) Q)) {Q : _ → sProp 𝕄} :
    iprop(Pers m κ c ∗ ow c (barE c 0 :: barE c 1 :: barE c 2 :: kaList c) ∗ toksB c ∗ toksA c ∗ cred (tallyAt (bcell c) () 3) ∗ credsA c
        ∗ atPos ER (bcell c) 0 ∅ 0 ∗ inP m c ∗ outP c g ∗ (kvGive c 0 ∗ kvGive c 1 ∗ kvGive c 2) ∗ ctAny c ∗ stAny c ∗ arAny c ∗ X
        ∗ (at_ c (qArS 0 0) 0 ∗ at_ c (qArS 0 1) 0 ∗ at_ c (qArS 1 0) 0 ∗ at_ c (qArS 1 1) 0 ∗ at_ c (qArS 2 0) 0 ∗ at_ c (qArS 2 1) 0 ∗ at_ c (qArR 0 0) 0 ∗ at_ c (qArR 0 1) 0 ∗ at_ c (qArR 1 0) 0 ∗ at_ c (qArR 1 1) 0 ∗ at_ c (qArR 2 0) 0 ∗ at_ c (qArR 2 1) 0))
      ⊢ iprop(((ow c [] ∗ atPos ER (bcell c) 1 ∅ 0 ∗ inP m c ∗ outP c (OUT m c) ∗ scr c ∗ Y
        ∗ (at_ c (qArS 0 0) 1 ∗ at_ c (qArS 0 1) 1 ∗ at_ c (qArS 1 0) 1 ∗ at_ c (qArS 1 1) 1 ∗ at_ c (qArS 2 0) 1 ∗ at_ c (qArS 2 1) 1 ∗ at_ c (qArR 0 0) 1 ∗ at_ c (qArR 0 1) 1 ∗ at_ c (qArR 1 0) 1 ∗ at_ c (qArR 1 1) 1 ∗ at_ c (qArR 2 0) 1 ∗ at_ c (qArR 2 1) 1))
          -∗ Q (Scalar.extui (Scalar.cmpi .eq (vd c) 0#32)))
        -∗ wp frame (wpE (defs₀ (F := F)) 𝒱₀ (c : Thread nD τ) none) Set.univ (k0_part21 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7) Q) := by
  unfold toksA credsA
  iintro ⟨#HP, HO, HtB, ⟨Ht00, Ht10, Ht20, Ht01, Ht11, Ht21⟩, Hcb, ⟨Hi00, Hi10, Hi20, Hi01, Hi11, Hi21⟩, Hatb, Hin, Ho, Hkg, ⟨%f, Hct⟩, Hst, Har, HX, Hs00, Hs01, Hs10, Hs11, Hs20, Hs21, Hr00, Hr01, Hr10, Hr11, Hr20, Hr21⟩ Hk
  ihave Hpay := (pays_mk m κ c) $$ [Har Hkg HtB]
  · isplitr
    · iexact HP
    isplitl [Har Hkg]
    · icases Hkg with ⟨Hk0, Hk1, Hk2⟩
      isplitl [Har]; · iexact Har
      isplitl [Hk0]; · iexact Hk0
      isplitl [Hk1]; · iexact Hk1
      iexact Hk2
    iexact HtB
  icases Hpay with ⟨Hp0, Hp1, Hp2⟩
  ihave Hst := (st_open c) $$ Hst
  icases Hst with ⟨Hr0, Hr1⟩
  iapply (wp_part21 m κ c X Y f g h5) $$ [HO Hp0 Hp1 Hp2 Hcb Hatb Hin HX Hct Hr0 Hr1 Ho Ht00 Ht10 Ht20 Ht01 Ht11 Ht21 Hi00 Hr00 Hi10 Hr10 Hi20 Hr20 Hi01 Hr01 Hi11 Hr11 Hi21 Hr21 Hs00 Hs10 Hs20 Hs01 Hs11 Hs21]
  · isplitr
    · iexact HP
    isplitl [HO]
    · iexact HO
    isplitl [Hp0]
    · iexact Hp0
    isplitl [Hp1]
    · iexact Hp1
    isplitl [Hp2]
    · iexact Hp2
    isplitl [Hcb]
    · iexact Hcb
    isplitl [Hatb]
    · iexact Hatb
    isplitl [Hin]
    · iexact Hin
    isplitl [HX]
    · iexact HX
    isplitl [Hct]
    · iexact Hct
    isplitl [Hr0]
    · iexact Hr0
    isplitl [Hr1]
    · iexact Hr1
    isplitl [Ho]
    · iexact Ho
    isplitl [Ht00]
    · iexact Ht00
    isplitl [Ht10]
    · iexact Ht10
    isplitl [Ht20]
    · iexact Ht20
    isplitl [Ht01]
    · iexact Ht01
    isplitl [Ht11]
    · iexact Ht11
    isplitl [Ht21]
    · iexact Ht21
    isplitl [Hi00 Hr00]
    · isplitl [Hi00]
      · iexact Hi00
      iexact Hr00
    isplitl [Hi10 Hr10]
    · isplitl [Hi10]
      · iexact Hi10
      iexact Hr10
    isplitl [Hi20 Hr20]
    · isplitl [Hi20]
      · iexact Hi20
      iexact Hr20
    isplitl [Hi01 Hr01]
    · isplitl [Hi01]
      · iexact Hi01
      iexact Hr01
    isplitl [Hi11 Hr11]
    · isplitl [Hi11]
      · iexact Hi11
      iexact Hr11
    isplitl [Hi21 Hr21]
    · isplitl [Hi21]
      · iexact Hi21
      iexact Hr21
    isplitl [Hs00]
    · iexact Hs00
    isplitl [Hs10]
    · iexact Hs10
    isplitl [Hs20]
    · iexact Hs20
    isplitl [Hs01]
    · iexact Hs01
    isplitl [Hs11]
    · iexact Hs11
    iexact Hs21
  iintro ⟨HO, Hatb, Hin, Hkv, HY, Hct, Ho, ⟨Hd00, Hr00⟩, ⟨Hd10, Hr10⟩, ⟨Hd20, Hr20⟩, ⟨Hd01, Hr01⟩, ⟨Hd11, Hr11⟩, ⟨Hd21, Hr21⟩, ⟨Hw00, Hs00⟩, ⟨Hw10, Hs10⟩, ⟨Hw20, Hs20⟩, ⟨Hw01, Hs01⟩, ⟨Hw11, Hs11⟩, ⟨Hw21, Hs21⟩⟩
  ihave Hst := (rows_join m c) $$ [Hw00 Hw10 Hw20 Hw01 Hw11 Hw21]
  · isplitl [Hw00]
    · iexact Hw00
    isplitl [Hw10]
    · iexact Hw10
    isplitl [Hw20]
    · iexact Hw20
    isplitl [Hw01]
    · iexact Hw01
    isplitl [Hw11]
    · iexact Hw11
    iexact Hw21
  ihave Har := (slots_join m c) $$ [Hd00 Hd10 Hd20 Hd01 Hd11 Hd21]
  · isplitl [Hd00]
    · iexact Hd00
    isplitl [Hd10]
    · iexact Hd10
    isplitl [Hd20]
    · iexact Hd20
    isplitl [Hd01]
    · iexact Hd01
    isplitl [Hd11]
    · iexact Hd11
    iexact Hd21
  iapply Hk
  isplitl [HO]
  · iexact HO
  isplitl [Hatb]
  · iexact Hatb
  isplitl [Hin]
  · iexact Hin
  isplitl [Ho]
  · iexact Ho
  isplitl [Hkv Hct Hst Har]
  · isplitl [Hkv]
    · iexists KV m c; iexact Hkv
    isplitl [Hct]
    · iexact Hct
    isplitl [Hst]
    · iexact Hst
    iexact Har
  isplitl [HY]
  · iexact HY
  isplitl [Hs00]
  · iexact Hs00
  isplitl [Hs01]
  · iexact Hs01
  isplitl [Hs10]
  · iexact Hs10
  isplitl [Hs11]
  · iexact Hs11
  isplitl [Hs20]
  · iexact Hs20
  isplitl [Hs21]
  · iexact Hs21
  isplitl [Hr00]
  · iexact Hr00
  isplitl [Hr01]
  · iexact Hr01
  isplitl [Hr10]
  · iexact Hr10
  isplitl [Hr11]
  · iexact Hr11
  isplitl [Hr20]
  · iexact Hr20
  iexact Hr21

end Cert.KIProof
-- ==== Proof.Tail.lean ====
module

public import proofs.«01_k».proof.Proof.Body

@[expose] public section

set_option maxRecDepth 16384

noncomputable section

/-! The body whole: device 0's last waits, and the cells closed. -/

namespace Cert.KIProof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Ring
open Idealize.ShloMosaic.Pipeline (Dat Cfg Window BodyObligation cellOf)

variable {F : FTy → Type} [FloatOps F] [Named F]
variable (m : (ℓ : Loc nD τ sig) → Buf (Elt F) ℓ) (κ : GSem nD τ sig → ℕ)

local notation "𝕄" => MT nD τ sig Unit (Elt F) ℕ UU ℕ

/-- A branch not taken. -/
theorem wp_dneg (c : Dev nD) {P : Prop} [Decidable P] (h : ¬ P) {α : Type} {A : P → Prog (TpuEff nD τ sig (Elt F) Λ₀ .tc) α} {B : ¬ P → Prog (TpuEff nD τ sig (Elt F) Λ₀ .tc) α} {Q : α → sProp 𝕄} :
    wp frame (wpE (defs₀ (F := F)) 𝒱₀ (c : Thread nD τ) none) Set.univ (B h) Q ⊢ wp frame (wpE (defs₀ (F := F)) 𝒱₀ (c : Thread nD τ) none) Set.univ (dite P A B) Q := by rw [dif_neg h]
/-- A branch taken. -/
theorem wp_dpos (c : Dev nD) {P : Prop} [Decidable P] (h : P) {α : Type} {A : P → Prog (TpuEff nD τ sig (Elt F) Λ₀ .tc) α} {B : ¬ P → Prog (TpuEff nD τ sig (Elt F) Λ₀ .tc) α} {Q : α → sProp 𝕄} :
    wp frame (wpE (defs₀ (F := F)) 𝒱₀ (c : Thread nD τ) none) Set.univ (A h) Q ⊢ wp frame (wpE (defs₀ (F := F)) 𝒱₀ (c : Thread nD τ) none) Set.univ (dite P A B) Q := by rw [dif_pos h]

/-- The staged keys and values. -/
abbrev kvIn (c : Dev nD) : sProp 𝕄 :=
  iprop((((c : Thread nD τ).loc cc0_stg2_0) ↦{fullShare} kC m c) ∗ (((c : Thread nD τ).loc cc0_stg3_0) ↦{fullShare} vC m c))

/-- Device 0's key/value transfers: the block of the heads they read, and what they need at the receiver. -/
theorem kvGo_mk (j : Fin 3) : iprop(kvGot 0 j ∗ kvT j 0 ∗ kvT j 1) ⊢ (iprop(kvGo j 0 ∗ kvGo j 1) : sProp 𝕄) := by
  unfold kvGot kvT kvGo
  simp only [eq_self_iff_true, if_true]
  iintro ⟨⟨⟨H1, H2⟩, H3, H4⟩, ⟨H5, H6⟩, H7, H8⟩
  isplitl [H1 H2 H5 H6]
  · isplitl [H1]
    · iexact H1
    isplitl [H2]
    · iexact H2
    isplitl [H5]
    · iexact H5
    iexact H6
  isplitl [H3]
  · iexact H3
  isplitl [H4]
  · iexact H4
  isplitl [H7]
  · iexact H7
  iexact H8

/-- Part 5 of device 0, the barrier's payloads and the tokens put together. -/
theorem wp_part5_z (Q : _ → sProp 𝕄) :
    iprop(Pers m κ 0 ∗ ow 0 (kaList 0) ∗ inP m 0 ∗ (kvGot 0 0 ∗ kvGot 0 1 ∗ kvGot 0 2) ∗ (kvAny 0 ∗ kvIn m 0 ∗ kvT 0 0 ∗ kvT 0 1 ∗ kvT 1 0 ∗ kvT 1 1 ∗ kvT 2 0 ∗ kvT 2 1))
      ⊢ iprop(((ow 0 (arList 0) ∗ inP m 0 ∗ kvP m 0 ∗ (hdPts m 0 0 ∗ hdPts m 0 1 ∗ kvC 0 0 ∗ kvC 0 1 ∗ kvC 1 0 ∗ kvC 1 1 ∗ kvC 2 0 ∗ kvC 2 1)) -∗ Q ⟨wo m 0, q0 m 0, q1 m 0, iota .tc S128x128 32 [0] iota_S128x128_d0_w32, 64#32, k0_pay8, k0_pay9, k0_pay10⟩)
        -∗ wp frame (wpE (defs₀ (F := F)) 𝒱₀ ((0 : Dev nD) : Thread nD τ) none) Set.univ (k0_part5 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 0 (vd 0) (Scalar.extui (Scalar.cmpi .eq (vd 0) 0#32))) Q) := by
  iintro ⟨#HP, HO, Hin, ⟨Hg0, Hg1, Hg2⟩, Hkv, ⟨Hk, Hv⟩, Ht00, Ht01, Ht10, Ht11, Ht20, Ht21⟩ Hq
  ihave Hk := (Entails.of_eq (hdk_cut m)) $$ Hk
  icases Hk with ⟨HK0, HK1, HK2, HK3⟩
  ihave Hv := (Entails.of_eq (hdv_cut m)) $$ Hv
  icases Hv with ⟨HV0, HV1, HV2, HV3⟩
  ihave Hg0 := (kvGo_mk 0) $$ [Hg0 Ht00 Ht01]
  · isplitl [Hg0]
    · iexact Hg0
    isplitl [Ht00]
    · iexact Ht00
    iexact Ht01
  icases Hg0 with ⟨Hg00, Hg01⟩
  ihave Hg1 := (kvGo_mk 1) $$ [Hg1 Ht10 Ht11]
  · isplitl [Hg1]
    · iexact Hg1
    isplitl [Ht10]
    · iexact Ht10
    iexact Ht11
  icases Hg1 with ⟨Hg10, Hg11⟩
  ihave Hg2 := (kvGo_mk 2) $$ [Hg2 Ht20 Ht21]
  · isplitl [Hg2]
    · iexact Hg2
    isplitl [Ht20]
    · iexact Ht20
    iexact Ht21
  icases Hg2 with ⟨Hg20, Hg21⟩
  iapply (wp_part5_zero m κ 0 rfl) $$ [HO Hin Hkv HK0 HV0 HK1 Hg00 HV1 Hg01 HK2 Hg10 HV2 Hg11 HK3 Hg20 HV3 Hg21]
  · isplitr
    · iexact HP
    isplitl [HO]
    · iexact HO
    isplitl [Hin]
    · iexact Hin
    isplitl [Hkv]
    · iexact Hkv
    isplitl [HK0]
    · iexact HK0
    isplitl [HV0]
    · iexact HV0
    isplitl [HK1 Hg00]
    · isplitl [HK1]
      · iexact HK1
      iexact Hg00
    isplitl [HV1 Hg01]
    · isplitl [HV1]
      · iexact HV1
      iexact Hg01
    isplitl [HK2 Hg10]
    · isplitl [HK2]
      · iexact HK2
      iexact Hg10
    isplitl [HV2 Hg11]
    · isplitl [HV2]
      · iexact HV2
      iexact Hg11
    isplitl [HK3 Hg20]
    · isplitl [HK3]
      · iexact HK3
      iexact Hg20
    isplitl [HV3]
    · iexact HV3
    iexact Hg21
  iintro ⟨HO, Hin, Hkv, HY⟩
  iapply Hq
  isplitl [HO]
  · iexact HO
  isplitl [Hin]
  · iexact Hin
  isplitl [Hkv]
  · iexact Hkv
  iexact HY

/-- Part 5 of a device other than 0, which was handed no key/value slots. -/
theorem wp_part5_r (c : Dev nD) (hc : c ≠ 0) (Q : _ → sProp 𝕄) :
    iprop(Pers m κ c ∗ ow c (kaList c) ∗ inP m c ∗ (kvGot c 0 ∗ kvGot c 1 ∗ kvGot c 2) ∗ ((kvI c 0 ∗ at_ c (qKvR 0) 0) ∗ (kvI c 1 ∗ at_ c (qKvR 1) 0)))
      ⊢ iprop(((ow c (arList c) ∗ inP m c ∗ kvP m c ∗ (at_ c (qKvR 0) 1 ∗ at_ c (qKvR 1) 1)) -∗ Q ⟨wo m c, q0 m c, q1 m c, iota .tc S128x128 32 [0] iota_S128x128_d0_w32, 64#32, k0_pay8, k0_pay9, k0_pay10⟩)
        -∗ wp frame (wpE (defs₀ (F := F)) 𝒱₀ (c : Thread nD τ) none) Set.univ (k0_part5 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c (vd c) (Scalar.extui (Scalar.cmpi .eq (vd c) 0#32))) Q) := by
  iintro ⟨#HP, HO, Hin, -, HX⟩ Hq
  iapply (wp_part5_rest m κ c hc) $$ [HO Hin HX]
  · isplitr
    · iexact HP
    isplitl [HO]
    · iexact HO
    isplitl [Hin]
    · iexact Hin
    iexact HX
  iintro ⟨HO, Hin, Hkv, HY⟩
  iapply Hq
  isplitl [HO]
  · iexact HO
  isplitl [Hin]
  · iexact Hin
  isplitl [Hkv]
  · iexact Hkv
  iexact HY

/-- The first three of device 0's waits for its key/value transfers. -/
theorem wp_part3 {Q : _ → sProp 𝕄} :
    iprop(Pers m κ 0 ∗ ow 0 [] ∗ (kvC 0 0 ∗ at_ 0 (qKvS 0 0) 0) ∗ (kvC 0 1 ∗ at_ 0 (qKvS 0 1) 0) ∗ (kvC 1 0 ∗ at_ 0 (qKvS 1 0) 0))
      ⊢ iprop(((ow 0 [] ∗ (at_ 0 (qKvS 0 0) 1 ∗ hdPts m 1 0) ∗ (at_ 0 (qKvS 0 1) 1 ∗ hdPts m 1 1) ∗ (at_ 0 (qKvS 1 0) 1 ∗ hdPts m 2 0)) -∗ Q ⟨⟩)
        -∗ wp frame (wpE (defs₀ (F := F)) 𝒱₀ ((0 : Dev nD) : Thread nD τ) none) Set.univ (k0_part3 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7) Q) := by
  simp only [k0_part3_eq_skeleton]; unfold k0_part3_skel
  simp only [Prog.lift, Prog.bind_op, Prog.bind_ret, Prog.pure_eq_ret, Prog.bind_assoc]
  iintro ⟨#HP, HO, ⟨Hc00, Ha00⟩, ⟨Hc01, Ha01⟩, ⟨Hc10, Ha10⟩⟩ Hk
  iapply (wp_kvoutk m κ 0 ![0, 4, 0, 0]) $$ [Hc00 HO Ha00]
  · isplitr
    · iexact HP
    isplitl [Hc00]
    · iexact Hc00
    isplitl [HO]
    · iexact HO
    iexact Ha00
  iintro ⟨HO, Ha00, Hh00⟩
  iapply (wp_kvoutv m κ 0 ![0, 4, 0, 0]) $$ [Hc01 HO Ha01]
  · isplitr
    · iexact HP
    isplitl [Hc01]
    · iexact Hc01
    isplitl [HO]
    · iexact HO
    iexact Ha01
  iintro ⟨HO, Ha01, Hh01⟩
  iapply (wp_kvoutk m κ 1 ![0, 8, 0, 0]) $$ [Hc10 HO Ha10]
  · isplitr
    · iexact HP
    isplitl [Hc10]
    · iexact Hc10
    isplitl [HO]
    · iexact HO
    iexact Ha10
  iintro ⟨HO, Ha10, Hh10⟩
  rw [wp_ret]; imodintro; iapply Hk
  isplitl [HO]
  · iexact HO
  isplitl [Ha00 Hh00]
  · isplitl [Ha00]
    · iexact Ha00
    iexact Hh00
  isplitl [Ha01 Hh01]
  · isplitl [Ha01]
    · iexact Ha01
    iexact Hh01
  isplitl [Ha10]
  · iexact Ha10
  iexact Hh10

/-! ### The body -/

/-- What the body starts from. -/
def bodyIn (c : Dev nD) (g : S2x128x512.Idx → Elt F .f32) : sProp 𝕄 :=
  iprop(Pers m κ c ∗ ow c (barE c 0 :: barE c 1 :: barE c 2 :: kaList c) ∗ (toksB c ∗ toksA c ∗ toksK c) ∗ (cred (tallyAt (bcell c) () 3) ∗ credsA c ∗ credsK c)
    ∗ atPos ER (bcell c) 0 ∅ 0 ∗ at20 c 0 0 0 ∗ inP m c ∗ kvIn m c ∗ outP c g ∗ scr c)
/-- What the body leaves. -/
def bodyOut (c : Dev nD) : sProp 𝕄 :=
  iprop(ow (F := F) c [] ∗ inP m c ∗ kvIn m c ∗ outP c (OUT m c) ∗ scr c ∗ semZ c ∗ semVal (bcell c) 0)

/-- The body of a device other than 0. -/
theorem wp_body_rest (c : Dev nD) (hc : c ≠ 0) (g : S2x128x512.Idx → Elt F .f32) {Q : _ → sProp 𝕄} :
    bodyIn m κ c g ⊢ iprop((bodyOut m c -∗ Q ⟨⟩) -∗ wp frame (wpE (defs₀ (F := F)) 𝒱₀ (c : Thread nD τ) none) Set.univ (cc0_body (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7) Q) := by
  simp only [cc0_body_eq_skeleton]; unfold cc0_body_skel
  unfold bodyIn bodyOut toksK credsK
  simp only [if_neg hc, at20_eq]
  iintro ⟨#HP, HO, ⟨HtB, HtA, -⟩, ⟨Hcb, HcA, Hi0, Hi1⟩, Hatb, ⟨Hk00, Hk01, Hk10, Hk11, Hk20, Hk21, Hv0, Hv1, Hs00, Hs01, Hs10, Hs11, Hs20, Hs21, Hr00, Hr01, Hr10, Hr11, Hr20, Hr21⟩, Hin, Hkin, Ho, ⟨Hkv, Hct, Hst, Har⟩⟩ Hk
  ihave Hkv := (kv_give c) $$ Hkv
  icases Hkv with ⟨Hg0, Hg1, Hg2, -⟩
  rw [wp_bind]
  iapply (wp_run21 m κ c _ _ g (wp_part5_r m κ c hc)) $$ [HO HtB HtA Hcb HcA Hatb Hin Ho Hg0 Hg1 Hg2 Hct Hst Har Hi0 Hv0 Hi1 Hv1 Hs00 Hs01 Hs10 Hs11 Hs20 Hs21 Hr00 Hr01 Hr10 Hr11 Hr20 Hr21]
  · isplitr
    · iexact HP
    isplitl [HO]
    · iexact HO
    isplitl [HtB]
    · iexact HtB
    isplitl [HtA]
    · iexact HtA
    isplitl [Hcb]
    · iexact Hcb
    isplitl [HcA]
    · iexact HcA
    isplitl [Hatb]
    · iexact Hatb
    isplitl [Hin]
    · iexact Hin
    isplitl [Ho]
    · iexact Ho
    isplitl [Hg0 Hg1 Hg2]
    · isplitl [Hg0]
      · iexact Hg0
      isplitl [Hg1]
      · iexact Hg1
      iexact Hg2
    isplitl [Hct]
    · iexact Hct
    isplitl [Hst]
    · iexact Hst
    isplitl [Har]
    · iexact Har
    isplitl [Hi0 Hv0 Hi1 Hv1]
    · isplitl [Hi0 Hv0]
      · isplitl [Hi0]
        · iexact Hi0
        iexact Hv0
      isplitl [Hi1]
      · iexact Hi1
      iexact Hv1
    isplitl [Hs00]
    · iexact Hs00
    isplitl [Hs01]
    · iexact Hs01
    isplitl [Hs10]
    · iexact Hs10
    isplitl [Hs11]
    · iexact Hs11
    isplitl [Hs20]
    · iexact Hs20
    isplitl [Hs21]
    · iexact Hs21
    isplitl [Hr00]
    · iexact Hr00
    isplitl [Hr01]
    · iexact Hr01
    isplitl [Hr10]
    · iexact Hr10
    isplitl [Hr11]
    · iexact Hr11
    isplitl [Hr20]
    · iexact Hr20
    iexact Hr21
  iintro ⟨HO, Hatb, Hin, Ho, Hscr, ⟨Hv0, Hv1⟩, Hs00, Hs01, Hs10, Hs11, Hs20, Hs21, Hr00, Hr01, Hr10, Hr11, Hr20, Hr21⟩
  iapply (wp_dneg c (cond3_neg c hc))
  rw [Prog.pure_eq_ret, wp_ret]
  ihave Hat := (Entails.of_eq (at20_eq c 0 1 1).symm) $$ [Hk00 Hk01 Hk10 Hk11 Hk20 Hk21 Hv0 Hv1 Hs00 Hs01 Hs10 Hs11 Hs20 Hs21 Hr00 Hr01 Hr10 Hr11 Hr20 Hr21]
  · isplitl [Hk00]
    · iexact Hk00
    isplitl [Hk01]
    · iexact Hk01
    isplitl [Hk10]
    · iexact Hk10
    isplitl [Hk11]
    · iexact Hk11
    isplitl [Hk20]
    · iexact Hk20
    isplitl [Hk21]
    · iexact Hk21
    isplitl [Hv0]
    · iexact Hv0
    isplitl [Hv1]
    · iexact Hv1
    isplitl [Hs00]
    · iexact Hs00
    isplitl [Hs01]
    · iexact Hs01
    isplitl [Hs10]
    · iexact Hs10
    isplitl [Hs11]
    · iexact Hs11
    isplitl [Hs20]
    · iexact Hs20
    isplitl [Hs21]
    · iexact Hs21
    isplitl [Hr00]
    · iexact Hr00
    isplitl [Hr01]
    · iexact Hr01
    isplitl [Hr10]
    · iexact Hr10
    isplitl [Hr11]
    · iexact Hr11
    isplitl [Hr20]
    · iexact Hr20
    iexact Hr21
  imod (close_all m κ c 0 1 (.inr ⟨rfl, hc⟩) (.inl rfl)) $$ [Hat] with HZ
  · isplitr; · iexact HP
    iexact Hat
  imod (close_bar m κ c) $$ [Hatb] with Hzb
  · isplitr; · iexact HP
    iexact Hatb
  imodintro; iapply Hk
  isplitl [HO]
  · iexact HO
  isplitl [Hin]
  · iexact Hin
  isplitl [Hkin]
  · iexact Hkin
  isplitl [Ho]
  · iexact Ho
  isplitl [Hscr]
  · iexact Hscr
  isplitl [HZ]
  · iexact HZ
  iexact Hzb

/-- The body of device 0. -/
theorem wp_body_zero (g : S2x128x512.Idx → Elt F .f32) {Q : _ → sProp 𝕄} :
    bodyIn m κ 0 g ⊢ iprop((bodyOut m 0 -∗ Q ⟨⟩) -∗ wp frame (wpE (defs₀ (F := F)) 𝒱₀ ((0 : Dev nD) : Thread nD τ) none) Set.univ (cc0_body (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7) Q) := by
  simp only [cc0_body_eq_skeleton]; unfold cc0_body_skel
  unfold bodyIn bodyOut toksK credsK
  simp only [eq_self_iff_true, if_true, at20_eq]
  iintro ⟨#HP, HO, ⟨HtB, HtA, Htk⟩, ⟨Hcb, HcA, -⟩, Hatb, ⟨Hk00, Hk01, Hk10, Hk11, Hk20, Hk21, Hv0, Hv1, Hs00, Hs01, Hs10, Hs11, Hs20, Hs21, Hr00, Hr01, Hr10, Hr11, Hr20, Hr21⟩, Hin, Hkin, Ho, ⟨Hkv, Hct, Hst, Har⟩⟩ Hk
  ihave Hkv := (kv_give 0) $$ Hkv
  icases Hkv with ⟨Hg0, Hg1, Hg2, Hkv⟩
  ihave Hkv := (Entails.of_eq (if_pos (rfl : (0 : Dev nD) = 0))) $$ Hkv
  rw [wp_bind]
  iapply (wp_run21 m κ 0 _ _ g (wp_part5_z m κ)) $$ [HO HtB HtA Hcb HcA Hatb Hin Ho Hg0 Hg1 Hg2 Hct Hst Har Hkv Hkin Htk Hs00 Hs01 Hs10 Hs11 Hs20 Hs21 Hr00 Hr01 Hr10 Hr11 Hr20 Hr21]
  · isplitr
    · iexact HP
    isplitl [HO]
    · iexact HO
    isplitl [HtB]
    · iexact HtB
    isplitl [HtA]
    · iexact HtA
    isplitl [Hcb]
    · iexact Hcb
    isplitl [HcA]
    · iexact HcA
    isplitl [Hatb]
    · iexact Hatb
    isplitl [Hin]
    · iexact Hin
    isplitl [Ho]
    · iexact Ho
    isplitl [Hg0 Hg1 Hg2]
    · isplitl [Hg0]
      · iexact Hg0
      isplitl [Hg1]
      · iexact Hg1
      iexact Hg2
    isplitl [Hct]
    · iexact Hct
    isplitl [Hst]
    · iexact Hst
    isplitl [Har]
    · iexact Har
    isplitl [Hkv Hkin Htk]
    · isplitl [Hkv]
      · iexact Hkv
      isplitl [Hkin]
      · iexact Hkin
      iexact Htk
    isplitl [Hs00]
    · iexact Hs00
    isplitl [Hs01]
    · iexact Hs01
    isplitl [Hs10]
    · iexact Hs10
    isplitl [Hs11]
    · iexact Hs11
    isplitl [Hs20]
    · iexact Hs20
    isplitl [Hs21]
    · iexact Hs21
    isplitl [Hr00]
    · iexact Hr00
    isplitl [Hr01]
    · iexact Hr01
    isplitl [Hr10]
    · iexact Hr10
    isplitl [Hr11]
    · iexact Hr11
    isplitl [Hr20]
    · iexact Hr20
    iexact Hr21
  iintro ⟨HO, Hatb, Hin, Ho, Hscr, ⟨HK0, HV0, Hc00, Hc01, Hc10, Hc11, Hc20, Hc21⟩, Hs00, Hs01, Hs10, Hs11, Hs20, Hs21, Hr00, Hr01, Hr10, Hr11, Hr20, Hr21⟩
  iapply (wp_dpos 0 cond3_pos)
  rw [wp_bind]
  iapply (wp_part3 m κ) $$ [HO Hc00 Hk00 Hc01 Hk01 Hc10 Hk10]
  · isplitr
    · iexact HP
    isplitl [HO]
    · iexact HO
    isplitl [Hc00 Hk00]
    · isplitl [Hc00]
      · iexact Hc00
      iexact Hk00
    isplitl [Hc01 Hk01]
    · isplitl [Hc01]
      · iexact Hc01
      iexact Hk01
    isplitl [Hc10]
    · iexact Hc10
    iexact Hk10
  iintro ⟨HO, ⟨Hk00, HK1⟩, ⟨Hk01, HV1⟩, ⟨Hk10, HK2⟩⟩
  simp only [Prog.lift, Prog.bind_op, Prog.bind_ret, Prog.pure_eq_ret, Prog.bind_assoc]
  iapply (wp_kvoutv m κ 1 ![0, 8, 0, 0]) $$ [Hc11 HO Hk11]
  · isplitr
    · iexact HP
    isplitl [Hc11]
    · iexact Hc11
    isplitl [HO]
    · iexact HO
    iexact Hk11
  iintro ⟨HO, Hk11, HV2⟩
  iapply (wp_kvoutk m κ 2 ![0, 12, 0, 0]) $$ [Hc20 HO Hk20]
  · isplitr
    · iexact HP
    isplitl [Hc20]
    · iexact Hc20
    isplitl [HO]
    · iexact HO
    iexact Hk20
  iintro ⟨HO, Hk20, HK3⟩
  iapply (wp_kvoutv m κ 2 ![0, 12, 0, 0]) $$ [Hc21 HO Hk21]
  · isplitr
    · iexact HP
    isplitl [Hc21]
    · iexact Hc21
    isplitl [HO]
    · iexact HO
    iexact Hk21
  iintro ⟨HO, Hk21, HV3⟩
  rw [wp_ret]
  ihave HK := (Entails.of_eq (hdk_cut m).symm) $$ [HK0 HK1 HK2 HK3]
  · isplitl [HK0]
    · iexact HK0
    isplitl [HK1]
    · iexact HK1
    isplitl [HK2]
    · iexact HK2
    iexact HK3
  ihave HV := (Entails.of_eq (hdv_cut m).symm) $$ [HV0 HV1 HV2 HV3]
  · isplitl [HV0]
    · iexact HV0
    isplitl [HV1]
    · iexact HV1
    isplitl [HV2]
    · iexact HV2
    iexact HV3
  ihave Hat := (Entails.of_eq (at20_eq 0 1 0 1).symm) $$ [Hk00 Hk01 Hk10 Hk11 Hk20 Hk21 Hv0 Hv1 Hs00 Hs01 Hs10 Hs11 Hs20 Hs21 Hr00 Hr01 Hr10 Hr11 Hr20 Hr21]
  · isplitl [Hk00]
    · iexact Hk00
    isplitl [Hk01]
    · iexact Hk01
    isplitl [Hk10]
    · iexact Hk10
    isplitl [Hk11]
    · iexact Hk11
    isplitl [Hk20]
    · iexact Hk20
    isplitl [Hk21]
    · iexact Hk21
    isplitl [Hv0]
    · iexact Hv0
    isplitl [Hv1]
    · iexact Hv1
    isplitl [Hs00]
    · iexact Hs00
    isplitl [Hs01]
    · iexact Hs01
    isplitl [Hs10]
    · iexact Hs10
    isplitl [Hs11]
    · iexact Hs11
    isplitl [Hs20]
    · iexact Hs20
    isplitl [Hs21]
    · iexact Hs21
    isplitl [Hr00]
    · iexact Hr00
    isplitl [Hr01]
    · iexact Hr01
    isplitl [Hr10]
    · iexact Hr10
    isplitl [Hr11]
    · iexact Hr11
    isplitl [Hr20]
    · iexact Hr20
    iexact Hr21
  imod (close_all m κ 0 1 0 (.inl rfl) (.inr ⟨rfl, rfl⟩)) $$ [Hat] with HZ
  · isplitr; · iexact HP
    iexact Hat
  imod (close_bar m κ 0) $$ [Hatb] with Hzb
  · isplitr; · iexact HP
    iexact Hatb
  imodintro; iapply Hk
  isplitl [HO]
  · iexact HO
  isplitl [Hin]
  · iexact Hin
  isplitl [HK HV]
  · isplitl [HK]
    · iexact HK
    iexact HV
  isplitl [Ho]
  · iexact Ho
  isplitl [Hscr]
  · iexact Hscr
  isplitl [HZ]
  · iexact HZ
  iexact Hzb

/-- The body of any device: from its resources, the result and the counters at zero. -/
theorem wp_body (c : Dev nD) (g : S2x128x512.Idx → Elt F .f32) {Q : _ → sProp 𝕄} :
    bodyIn m κ c g ⊢ iprop((bodyOut m c -∗ Q ⟨⟩) -∗ wp frame (wpE (defs₀ (F := F)) 𝒱₀ (c : Thread nD τ) none) Set.univ (cc0_body (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7) Q) := by
  by_cases hc : c = 0
  · subst hc; exact wp_body_zero m κ g
  · exact wp_body_rest m κ c hc g

end Cert.KIProof
-- ==== Proof.Region.lean ====
module

public import proofs.«01_k».proof.Proof.Tail
public import Idealize.ShloMosaic.Lib.Pipeline.RegionTalk
public import Idealize.ShloMosaic.Harness.Basic

@[expose] public section

set_option maxRecDepth 16384

noncomputable section

/-! The kernel as one region of the program. -/

namespace Cert.KIProof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Smoke Idealize.ShloMosaic.Rounds Idealize.ShloMosaic.Ring
open Idealize.ShloMosaic.Pipeline (Dat Cfg Window BodyObligation cellOf)

variable {F : FTy → Type} [FloatOps F] [Named F]
variable (m : (ℓ : Loc nD τ sig) → Buf (Elt F) ℓ) (κ : GSem nD τ sig → ℕ)

local notation "𝕄" => MT nD τ sig Unit (Elt F) ℕ UU ℕ

/-! ### The memory -/

/-- Device `c`'s memory at the launch, and when the kernel is entered. -/
abbrev V₀ (c : Dev nD) : Valuation τ sig (Elt F) := fun b => m (c, b)
/-- What the device's arrays hold when the kernel is entered. -/
abbrev V₁ (c : Dev nD) : Valuation τ sig (Elt F) := StableHlo.after hostOps0 (V₀ m c)
/-- And when it is left: the result is in place. -/
def V₂ (c : Dev nD) : Valuation τ sig (Elt F) := Function.update (V₁ m c) (Proc.devRef .tc main_v3) (OUT m c)

/-- When the kernel is left, its result's array holds the result. -/
theorem V₂_v3 (c : Dev nD) : V₂ m c (Proc.devRef .tc main_v3) = OUT m c := by unfold V₂; exact Function.update_self ..
/-- The kernel changes no other array. -/
theorem V₂_ne (c : Dev nD) (b : DevRef τ sig) (h : b ≠ Proc.devRef .tc main_v3) : V₂ m c b = V₁ m c b := by unfold V₂; exact Function.update_of_ne h ..

/-! ### The region's proof data -/

/-- The kernel's own semaphores. -/
abbrev osem : Fin 20 → SemLoc sig := fun i => .dma (oq i)

/-- All the tokens that a device pays with. -/
abbrev toksP (c : Dev nD) : sProp 𝕄 := iprop(toksB (F := F) c ∗ toksA c ∗ toksK c)
/-- All the credits that a device waits with. -/
abbrev credsP (c : Dev nD) : sProp 𝕄 := iprop(cred (tallyAt (bcell c) () 3) ∗ credsA (F := F) c ∗ credsK c)

/-- What the launch keeps for device `c`'s kernel. -/
def Tk (c : Dev nD) : sProp 𝕄 :=
  iprop((∃ κ, invs m κ ∗ bigSep Finset.univ (fun d : Dev nD => reached ER (bcell d) 0) ∗ toksP c ∗ credsP c ∗ atPos ER (bcell c) 0 ∅ 0
    ∗ bigSep Finset.univ (fun i : Fin 20 => openTok ER (dcell c (oq i)))))
/-- The same with the kernel's own cells opened. -/
def Xk (c : Dev nD) : sProp 𝕄 :=
  iprop((∃ κ, Pers m κ c ∗ toksP c ∗ credsP c ∗ atPos ER (bcell c) 0 ∅ 0 ∗ at20 c 0 0 0))
/-- What the kernel leaves: its barrier semaphore at zero. -/
def Yk (c : Dev nD) : sProp 𝕄 := semVal (bcell c) 0

/-- An own DMA cell is opened with its semaphore at zero. -/
theorem open_dma (κ) (c : Dev nD) (i : Fin 20) : iprop(invs m κ ∗ (openTok ER (dcell c (oq i)) ∗ semVal (dcell c (oq i)) 0))
    ⊢ (|={Set.univ}=> iprop(atPos ER (dcell c (oq i)) 0 ∅ 0 ∗ reached ER (dcell c (oq i)) 0) : sProp 𝕄) := by
  iintro ⟨#HI, Ho, Hs⟩
  imod (Rounds.cell_open ER (Rd m) (g := dcell c (oq i)) (Set.mem_univ (κ (dcell c (oq i))))) $$ [Ho Hs] with ⟨Ha, Hr⟩
  · isplitr; · iapply (inv_dma m κ c (oq i) (by simp only [oq]; omega)); iexact HI
    isplitl [Ho]; · iexact Ho
    iexact Hs
  imodintro
  isplitl [Ha]; · iexact Ha
  iexact Hr

/-- The twenty positions, one by one. -/
theorem at20_zero (c : Dev nD) : (bigSep Finset.univ (fun i : Fin 20 => atPos ER (dcell c (oq i)) 0 ∅ 0) : sProp 𝕄) ⊢ at20 c 0 0 0 := by
  unfold at20 at_
  refine bigSep_mono fun i _ => ?_
  simp only [ite_self]
  exact Entails.refl _

/-- With its own semaphores at zero, what the launch kept becomes what the kernel starts from. -/
theorem hopen (c : Dev nD) : iprop(Tk m c ∗ Pipeline.ownSems0 osem c ∗ levAts L lv) ⊢ (|={Set.univ}=> Xk m c : sProp 𝕄) := by
  rw [show (Pipeline.ownSems0 osem c : sProp 𝕄) = semZ c from rfl]
  unfold Tk Xk semZ
  iintro ⟨⟨%κ, #HI, #HR, Ht, Hc, Ha, Ho⟩, Hs, #HL⟩
  imod (fupd_all Finset.univ (invs m κ) (fun i : Fin 20 => iprop(openTok ER (dcell c (oq i)) ∗ semVal (dcell c (oq i)) 0))
    (fun i : Fin 20 => iprop(atPos ER (dcell c (oq i)) 0 ∅ 0 ∗ reached ER (dcell c (oq i)) 0)) (fun i _ => open_dma m κ c i)) $$ [Ho Hs] with H
  · isplitr; · iexact HI
    iapply bigSep_pair
    isplitl [Ho]; · iexact Ho
    iexact Hs
  ihave H := bigSep_unpair $$ H
  icases H with ⟨Hat, #Hre⟩
  imodintro
  iexists κ
  isplitr
  · unfold Pers
    isplitr; · iexact HI
    isplitr; · iexact HL
    isplitr; · iexact HR
    iexact Hre
  isplitl [Ht]; · iexact Ht
  isplitl [Hc]; · iexact Hc
  isplitl [Ha]; · iexact Ha
  iapply (at20_zero (F := F) c); iexact Hat

/-- The region's data on device `c`: its operands, what the body leaves in the staging buffers, and what it owes. -/
def dat (c : Dev nD) : Pipeline.Dat τ (Elt F) Unit ℕ UU ℕ cfg0 c where
  A w := V m c (Pipeline.arrRef spec0 w)
  after w t := match w with
    | 0 => iblk m c 0 t
    | 1 => iblk m c 1 t
    | 2 => iblk m c 2 t
    | 3 => iblk m c 3 t
    | 4 => iblk m c 4 t
    | 5 => OUT m c
  Φ t := if t.val = 0 then iprop(Xk m c ∗ scr c ∗ ∃ r, prngReg c r) else iprop(Yk c ∗ semZ c ∗ scr c ∗ ∃ r, prngReg c r)
  q _ := fullShare
  owed t := if t.val = 0 then O₀ c else 0

/-- The regions are well formed. -/
abbrev adm : (p : Fin 1) → (pcfgs (F := F) p).Adm := fun p => (cfgs p).toPCfg_adm
/-- The proof data of each region. -/
def pdats : (p : Fin 1) → (c : Dev nD) → Pipeline.Dat τ (Elt F) Unit ℕ UU ℕ (Pipeline.pin (pcfgs (F := F)) adm p) c
  | 0 => dat m

/-- Before its one point the kernel owes what it owes at the launch. -/
theorem owed_first (c : Dev nD) : (dat m c).owed t0_0.castSucc = O₀ c := by
  show (if (t0_0.castSucc : Fin (cfg0.N + 1)).val = 0 then O₀ c else 0) = O₀ c; exact if_pos rfl
/-- At its start the region owes what is owed at the launch. -/
theorem owed_zero (c : Dev nD) : (pdats m 0 c).owed 0 = O₀ c := by
  show (if (0 : Fin (cfg0.N + 1)).val = 0 then O₀ c else 0) = O₀ c; exact if_pos rfl
/-- At its end the region owes nothing. -/
theorem owed_last (c : Dev nD) : (pdats m 0 c).owed (Fin.last _) = 0 := by
  show (if (Fin.last cfg0.N).val = 0 then O₀ c else 0) = 0
  rw [Fin.val_last, if_neg (by rw [show cfg0.N = 1 from N_0]; decide)]
/-- After its one point the kernel owes nothing. -/
theorem owed_end (c : Dev nD) : (dat m c).owed t0_0.succ = 0 := by
  show (if (t0_0.succ : Fin (cfg0.N + 1)).val = 0 then O₀ c else 0) = 0; exact if_neg (by decide)

/-- What is owed, as a list, is what the proof data say is owed. -/
theorem owesAt_mk {cfg : Pipeline.Cfg sig Λ₀} {c : Dev nD} (d : Dat τ (Elt F) Unit ℕ UU ℕ cfg c) (t : Fin (cfg.N + 1))
    (l : List (GSem nD τ sig × ℕ)) (h0 : d.owed t = osum l) (hr : d.recorded t = Set.univ) : (ow (F := F) c l : sProp 𝕄) ⊢ d.owesAt () t := by
  unfold Dat.owesAt Pipeline.owesWithin Dat.bound; rw [h0, hr]
  unfold ow
  iintro ⟨%W, HO⟩; iexists W; isplitr; · ipureintro; exact fun _ _ => Or.inl trivial
  iexact HO
/-- What the proof data say is owed is what is owed, as a list. -/
theorem owesAt_get {cfg : Pipeline.Cfg sig Λ₀} {c : Dev nD} (d : Dat τ (Elt F) Unit ℕ UU ℕ cfg c) (t : Fin (cfg.N + 1))
    (l : List (GSem nD τ sig × ℕ)) (h0 : d.owed t = osum l) : (d.owesAt () t : sProp 𝕄) ⊢ ow c l := by
  unfold Dat.owesAt Pipeline.owesWithin; rw [h0]
  unfold ow
  iintro ⟨%W, -, HO⟩; iexists W; iexact HO

/-- The body finds the activations, -/
theorem before_0 (c : Dev nD) (d) : (dat m c).before 0 t0_0 d = xC m c := by unfold Pipeline.Dat.before; rw [if_pos (fetch0_0 _)]; rfl
/-- the query weights, -/
theorem before_1 (c : Dev nD) (d) : (dat m c).before 1 t0_0 d = wqC m c := by unfold Pipeline.Dat.before; rw [if_pos (fetch0_1 _)]; rfl
/-- the keys, -/
theorem before_2 (c : Dev nD) (d) : (dat m c).before 2 t0_0 d = kC m c := by unfold Pipeline.Dat.before; rw [if_pos (fetch0_2 _)]; rfl
/-- the values -/
theorem before_3 (c : Dev nD) (d) : (dat m c).before 3 t0_0 d = vC m c := by unfold Pipeline.Dat.before; rw [if_pos (fetch0_3 _)]; rfl
/-- and the output weights in their blocks. -/
theorem before_4 (c : Dev nD) (d) : (dat m c).before 4 t0_0 d = woC m c := by unfold Pipeline.Dat.before; rw [if_pos (fetch0_4 _)]; rfl

/-- What the body's one point starts from. -/
abbrev bodyPre (c : Dev nD) : sProp 𝕄 :=
  iprop((dat m c).Φ t0_0.castSucc ∗ (dat m c).owesAt () t0_0.castSucc
    ∗ (∃ d, ((c : Thread nD τ).loc cc0_stg0_0) ↦{fullShare} (dat m c).before 0 t0_0 d)
    ∗ (∃ d, ((c : Thread nD τ).loc cc0_stg1_0) ↦{fullShare} (dat m c).before 1 t0_0 d)
    ∗ (∃ d, ((c : Thread nD τ).loc cc0_stg2_0) ↦{fullShare} (dat m c).before 2 t0_0 d)
    ∗ (∃ d, ((c : Thread nD τ).loc cc0_stg3_0) ↦{fullShare} (dat m c).before 3 t0_0 d)
    ∗ (∃ d, ((c : Thread nD τ).loc cc0_stg4_0) ↦{fullShare} (dat m c).before 4 t0_0 d)
    ∗ (∃ d, ((c : Thread nD τ).loc cc0_stg5_0) ↦{fullShare} (dat m c).before 5 t0_0 d))
/-- What the body's one point leaves. -/
abbrev bodyPost (c : Dev nD) : sProp 𝕄 :=
  iprop((dat m c).Φ t0_0.succ ∗ (dat m c).owesAt () t0_0.succ
    ∗ (((c : Thread nD τ).loc cc0_stg0_0) ↦{fullShare} xC m c) ∗ (((c : Thread nD τ).loc cc0_stg1_0) ↦{fullShare} wqC m c)
    ∗ (((c : Thread nD τ).loc cc0_stg2_0) ↦{fullShare} kC m c) ∗ (((c : Thread nD τ).loc cc0_stg3_0) ↦{fullShare} vC m c)
    ∗ (((c : Thread nD τ).loc cc0_stg4_0) ↦{fullShare} woC m c) ∗ outP c (OUT m c))

/-- The body at its one point. -/
theorem body_point (c : Dev nD) : bodyPre m c ⊢ wp frame (wpE (defs₀ (F := F)) 𝒱₀ (c : Thread nD τ) none) Set.univ (cc0_body (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7) (fun _ => bodyPost m c) := by
  unfold bodyPre bodyPost
  rw [show (dat m c).Φ t0_0.castSucc = iprop(Xk m c ∗ scr c ∗ ∃ r, prngReg c r) from rfl,
    show (dat m c).Φ t0_0.succ = iprop(Yk c ∗ semZ c ∗ scr c ∗ ∃ r, prngReg c r) from rfl]
  unfold Xk Yk
  simp only [before_0, before_1, before_2, before_3, before_4]
  iintro ⟨⟨⟨%κ, #HP, Ht, Hc, Hb, Ha⟩, Hs, Hr⟩, HO, ⟨%d0, H0⟩, ⟨%d1, H1⟩, ⟨%d2, H2⟩, ⟨%d3, H3⟩, ⟨%d4, H4⟩, ⟨%d5, H5⟩⟩
  ihave HO := (owesAt_get (dat m c) t0_0.castSucc (barE c 0 :: barE c 1 :: barE c 2 :: kaList c) (owed_first m c)) $$ HO
  iapply (wp_body m κ c ((dat m c).before 5 t0_0 d5)) $$ [Ht Hc Hb Ha Hs HO H0 H1 H2 H3 H4 H5]
  · unfold bodyIn
    isplitr; · iexact HP
    isplitl [HO]; · iexact HO
    isplitl [Ht]; · iexact Ht
    isplitl [Hc]; · iexact Hc
    isplitl [Hb]; · iexact Hb
    isplitl [Ha]; · iexact Ha
    isplitl [H0 H1 H4]
    · isplitl [H0]; · iexact H0
      isplitl [H1]; · iexact H1
      iexact H4
    isplitl [H2 H3]
    · isplitl [H2]; · iexact H2
      iexact H3
    isplitl [H5]; · iexact H5
    iexact Hs
  unfold bodyOut
  iintro ⟨HO, ⟨H0, H1, H4⟩, ⟨H2, H3⟩, H5, Hs, HZ, Hb⟩
  isplitl [Hb HZ Hs Hr]
  · isplitl [Hb]; · iexact Hb
    isplitl [HZ]; · iexact HZ
    isplitl [Hs]; · iexact Hs
    iexact Hr
  isplitl [HO]
  · iapply (owesAt_mk (dat m c) t0_0.succ [] (owed_end m c) rfl); iexact HO
  isplitl [H0]; · iexact H0
  isplitl [H1]; · iexact H1
  isplitl [H2]; · iexact H2
  isplitl [H3]; · iexact H3
  isplitl [H4]; · iexact H4
  iexact H5

/-- The region's body obligation. -/
theorem body_ob (c : Dev nD) : BodyObligation (dat m c) (defs₀ (F := F)) 𝒱₀ () Set.univ := fun t => by
  rw [fin_N0 t]
  rw [bigSep_W0, bigSep_W0]
  simp only [owns_whole]
  exact body_point m c

/-! ### The result's array -/

/-- What is copied back is the result. -/
theorem flushed_5 (c : Dev nD) (t : Fin cfg0.N) : (dat m c).flushed 5 t = ((cfg0.win 5).blk t).view.read (Elt F) (OUT m c) := by
  obtain rfl := fin_N0 t
  have ha : (dat m c).after 5 t0_0 = OUT m c := by dsimp only [dat]
  unfold Pipeline.Dat.flushed
  rw [ha]
  funext x
  show OUT m c _ = OUT m c _
  refine congrArg (OUT m c) (funext fun a => Fin.ext ?_)
  show (x a).val = win0_5.index t0_0 a * win0_5.size a + 1 * (x a).val
  have h : ∀ a, win0_5.index t0_0 a * win0_5.size a = 0 := by decide +kernel
  rw [h a, Nat.zero_add, Nat.one_mul]

/-- What is copied back covers the whole array of the result. -/
theorem cover_5 (i : S2x128x512.Idx) : ∃ t : Fin cfg0.N, (cfg0.win 5).flush t = true ∧ i ∈ ((cfg0.win 5).blk t).view.set := by
  refine ⟨t0_0, flush0_5 _, ?_⟩
  show i ∈ ((View.whole main_v3).slice (win0_5.rect t0_0)).set
  rw [View.set_slice_whole, Rect.mem_set_unit]
  have h : ∀ a, win0_5.index t0_0 a * win0_5.size a = 0 ∧ win0_5.xsize (grid0.coords t0_0) a = S2x128x512.size a := by decide +kernel
  intro a
  show win0_5.index t0_0 a * win0_5.size a ≤ (i a : Nat) ∧ (i a : Nat) < win0_5.index t0_0 a * win0_5.size a + win0_5.xsize (grid0.coords t0_0) a
  rw [(h a).1, (h a).2]
  exact ⟨Nat.zero_le _, by rw [Nat.zero_add]; exact (i a).isLt⟩

/-- At the end the array of the result holds the result. -/
theorem arr_out (c : Dev nD) : (dat m c).arrAt 5 cfg0.N = OUT m c :=
  (dat m c).arrAt_eq_of_cover 5 (OUT m c) (fun t _ => flushed_5 m c t) cover_5

/-! ### The region -/

/-- All that the region owes has a level above 0. -/
theorem cut_owed (c : Dev nD) (t : Fin ((Pipeline.pin (pcfgs (F := F)) adm 0).N + 1)) (g : GSem nD τ sig) (i : Unit) (h : 0 < (pdats m 0 c).owed t g i) :
    i ∈ L g ∧ (0 : ℕ) < lv g i := by
  have e : (pdats m 0 c).owed t = if t.val = 0 then O₀ c else 0 := rfl
  rw [e] at h
  split at h
  · obtain ⟨p, hp, rfl⟩ := osum_pos h
    obtain ⟨h1, h2⟩ := O₀_lv c p hp
    refine ⟨?_, h2⟩
    unfold L; rw [if_pos h1]; exact Finset.mem_singleton_self _
  · exact absurd h (Nat.lt_irrefl 0)

/-- The region's start. -/
theorem hin (c : Dev nD) : iprop(Pipeline.scopedRest (Pipeline.pin (pcfgs (F := F)) adm 0).spec c ∗ (∃ r, prngReg c r) ∗ StableHlo.held (c.tc : Thread nD τ) ∅ (V₁ m c) ∗ Xk m c)
    ⊢ (pdats m 0 c).Φ 0 := by
  rw [show (pdats m 0 c).Φ 0 = iprop(Xk m c ∗ scr c ∗ ∃ r, prngReg c r) from rfl,
    show (Pipeline.scopedRest (Pipeline.pin (pcfgs (F := F)) adm 0).spec c : sProp 𝕄) = scr c from scopedRest0_eq c]
  iintro ⟨Hs, Hp, -, HX⟩
  isplitl [HX]; · iexact HX
  isplitl [Hs]; · iexact Hs
  iexact Hp

/-- The region's end. -/
theorem hout (c : Dev nD) : (pdats m 0 c).Φ (Fin.last (Pipeline.pin (pcfgs (F := F)) adm 0).N)
    ⊢ iprop(Pipeline.scopedRest (Pipeline.pin (pcfgs (F := F)) adm 0).spec c ∗ (∃ r, prngReg c r) ∗ StableHlo.held (c.tc : Thread nD τ) ∅ (V₂ m c) ∗ Pipeline.ownSems0 osem c ∗ Yk c) := by
  rw [show (pdats m 0 c).Φ (Fin.last _) = iprop(Yk c ∗ semZ c ∗ scr c ∗ ∃ r, prngReg c r) from rfl,
    show (Pipeline.scopedRest (Pipeline.pin (pcfgs (F := F)) adm 0).spec c : sProp 𝕄) = scr c from scopedRest0_eq c,
    show (Pipeline.ownSems0 osem c : sProp 𝕄) = semZ c from rfl,
    show (StableHlo.held (c.tc : Thread nD τ) ∅ (V₂ m c) : sProp 𝕄) = BI.emp from bigSep_empty]
  iintro ⟨HY, HZ, Hs, Hp⟩
  isplitl [Hs]; · iexact Hs
  isplitl [Hp]; · iexact Hp
  isplitr; · iempintro
  isplitl [HZ]; · iexact HZ
  iexact HY

/-- The arguments that are no operand of the kernel. -/
abbrev Sr : Finset (DevRef τ sig) := {Proc.devRef .tc main_arg2, Proc.devRef .tc main_arg3}

/-- Each array is held whole. -/
theorem share_eq (c : Dev nD) (w : Fin cfg0.W) : (dat m c).share w = fullShare := by unfold Dat.share; split <;> rfl

/-- At the end every array of the kernel holds what is said of it. -/
theorem arr_end (c : Dev nD) (w : Fin cfg0.W) : (dat m c).arrAt w cfg0.N = V₂ m c (Proc.devRef .tc (Pipeline.arrRef spec0 w)) := by
  fin_cases w
  · exact ((dat m c).arrAt_in 0 rfl _).trans (V₂_ne m c (Proc.devRef .tc main_arg0) (by decide)).symm
  · exact ((dat m c).arrAt_in 1 rfl _).trans (V₂_ne m c (Proc.devRef .tc main_arg1) (by decide)).symm
  · exact ((dat m c).arrAt_in 2 rfl _).trans (V₂_ne m c (Proc.devRef .tc main_v1) (by decide)).symm
  · exact ((dat m c).arrAt_in 3 rfl _).trans (V₂_ne m c (Proc.devRef .tc main_v2) (by decide)).symm
  · exact ((dat m c).arrAt_in 4 rfl _).trans (V₂_ne m c (Proc.devRef .tc main_arg4) (by decide)).symm
  · exact (arr_out m c).trans (V₂_v3 m c).symm

set_option backward.isDefEq.respectTransparency.types false in
/-- The region. -/
def reg : Pipeline.RegionSeg (pcfgs (F := F)) adm (pdats m) () defs₀ 𝒱₀ L lv 0 :=
  Pipeline.RegionSeg.ofTalk (pcfgs (F := F)) adm (pdats m) () defs₀ 𝒱₀ L lv 0 osem (by decide : Pipeline.OwnSemFacts spec0 osem)
    ∅ Sr (Finset.empty_subset _) launch0.toP rfl (fun c => (body_ob m c).loose)
    (fun _ => 0) O₀ (fun c => (owed_zero m c).trans (zero_add _).symm) (owed_last m) (fun _ => rfl) (fun c w => share_eq m c w)
    (V₁ m) (V₂ m) (fun c b hb => V₂_ne m c b (by rintro rfl; revert hb; decide))
    (Tk m) Yk (Xk m) Yk (hopen m) (hin m) (hout m)
    (fun c => by iintro H; imodintro; iexact H)
    (fun _ => 0)
    ⟨fun c w s => by rw [L_tc]; exact Finset.mem_singleton_self _,
      fun c w s => by fin_cases w <;> exact Nat.le_of_eq (by rfl), fun c t g i h => cut_owed m c t g i h⟩
    (fun _ => iprop(emp))
    (fun c w => rfl) (fun c w => arr_end m c w)

end Cert.KIProof
-- ==== Proof.Deal.lean ====
module

public import proofs.«01_k».proof.Proof.Region

@[expose] public section

set_option maxRecDepth 16384

noncomputable section

/-! The tokens and the credit of the launch, dealt to the devices. -/

namespace Cert.KIProof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Smoke Idealize.ShloMosaic.Rounds Idealize.ShloMosaic.Ring
open Idealize.ShloMosaic.Pipeline (Dat Cfg Window BodyObligation cellOf)

variable {F : FTy → Type} [FloatOps F] [Named F]
variable (m : (ℓ : Loc nD τ sig) → Buf (Elt F) ℓ) (κ : GSem nD τ sig → ℕ)

local notation "𝕄" => MT nD τ sig Unit (Elt F) ℕ UU ℕ

/-! ### The tokens of the duties -/

/-- The token of duty `k` of device `c`'s barrier cell. -/
abbrev tB (k : Fin 3) (c : Dev nD) : sProp 𝕄 := dutyTok ER (bcell c) 0 k
/-- The token of device `c`'s DMA cell `q`. -/
abbrev tD (q : DmaSem sig) (c : Dev nD) : sProp 𝕄 := dutyTok ER (dcell c q) 0 0

/-- One token for each barrier signal a device receives, and one for each of its kernel's DMA cells. -/
def tokBEm : Dev nD × Fin 3 ↪ GSem nD τ sig × ℕ × Fin 3 := ⟨fun p => (bcell p.1, 0, p.2), fun p p' h =>
  Prod.ext (congrArg (fun t : GSem nD τ sig × ℕ × Fin 3 => t.1.1.1) h) (congrArg (fun t : GSem nD τ sig × ℕ × Fin 3 => t.2.2) h)⟩
/-- The tokens of the DMA cells. -/
def tokDEm : Dev nD × Fin 20 ↪ GSem nD τ sig × ℕ × Fin 3 := ⟨fun p => (dmaEm p, 0, 0), fun p p' h =>
  dmaEm.injective (congrArg Prod.fst h)⟩
/-- All the tokens of the protocol. -/
def tokSet : Finset (GSem nD τ sig × ℕ × Fin 3) := Finset.univ.map tokBEm ∪ Finset.univ.map tokDEm

/-- A barrier cell is not a DMA cell. -/
theorem bar_ne_dma (c : Dev nD) (p : Dev nD × Fin 20) : bcell c ≠ dmaEm p := fun h => by
  have := congrArg Prod.snd h; cases this

/-- The two kinds of tokens are disjoint. -/
theorem tok_disjoint : Disjoint (Finset.univ.map tokBEm) (Finset.univ.map tokDEm) := by
  rw [Finset.disjoint_left]
  intro t h1 h2
  obtain ⟨p, -, rfl⟩ := Finset.mem_map.mp h1
  obtain ⟨p', -, h⟩ := Finset.mem_map.mp h2
  exact bar_ne_dma p.1 p' (congrArg Prod.fst h).symm

/-- The two kinds of cells are disjoint. -/
theorem cells_disjoint : Disjoint barCells dmaCells := by
  rw [Finset.disjoint_left]
  intro g h1 h2
  obtain ⟨c, -, rfl⟩ := Finset.mem_map.mp h1
  obtain ⟨p, -, h⟩ := Finset.mem_map.mp h2
  exact bar_ne_dma c p h.symm

/-- The twenty own semaphores, one by one. -/
theorem fin20 (Φ : DmaSem sig → sProp 𝕄) : bigSep Finset.univ (fun i : Fin 20 => Φ (oq i))
    = iprop(Φ (qKvS 0 0) ∗ Φ (qKvS 0 1) ∗ Φ (qKvS 1 0) ∗ Φ (qKvS 1 1) ∗ Φ (qKvS 2 0) ∗ Φ (qKvS 2 1) ∗ Φ (qKvR 0) ∗ Φ (qKvR 1) ∗ Φ (qArS 0 0) ∗ Φ (qArS 0 1) ∗ Φ (qArS 1 0) ∗ Φ (qArS 1 1) ∗ Φ (qArS 2 0) ∗ Φ (qArS 2 1) ∗ Φ (qArR 0 0) ∗ Φ (qArR 0 1) ∗ Φ (qArR 1 0) ∗ Φ (qArR 1 1) ∗ Φ (qArR 2 0) ∗ Φ (qArR 2 1)) := by
  rw [bigSep_univ_eq_bigSepL [0, 1, 2, 3, 4, 5, 6, 7, 8, 9, 10, 11, 12, 13, 14, 15, 16, 17, 18, 19] (by decide) (by decide)]
  simp only [bigSepL_cons_cons, bigSepL_singleton]
  rfl

/-- The tokens, cell by cell. -/
theorem toks_split : (bigSep tokSet (fun t => dutyTok ER t.1 t.2.1 t.2.2) : sProp 𝕄)
    ⊢ iprop((bigSep Finset.univ (tB 0) ∗ bigSep Finset.univ (tB 1) ∗ bigSep Finset.univ (tB 2))
      ∗ bigSep Finset.univ (tD (qKvS 0 0)) ∗ bigSep Finset.univ (tD (qKvS 0 1)) ∗ bigSep Finset.univ (tD (qKvS 1 0)) ∗ bigSep Finset.univ (tD (qKvS 1 1)) ∗ bigSep Finset.univ (tD (qKvS 2 0)) ∗ bigSep Finset.univ (tD (qKvS 2 1)) ∗ bigSep Finset.univ (tD (qKvR 0)) ∗ bigSep Finset.univ (tD (qKvR 1)) ∗ bigSep Finset.univ (tD (qArS 0 0)) ∗ bigSep Finset.univ (tD (qArS 0 1)) ∗ bigSep Finset.univ (tD (qArS 1 0)) ∗ bigSep Finset.univ (tD (qArS 1 1)) ∗ bigSep Finset.univ (tD (qArS 2 0)) ∗ bigSep Finset.univ (tD (qArS 2 1)) ∗ bigSep Finset.univ (tD (qArR 0 0)) ∗ bigSep Finset.univ (tD (qArR 0 1)) ∗ bigSep Finset.univ (tD (qArR 1 0)) ∗ bigSep Finset.univ (tD (qArR 1 1)) ∗ bigSep Finset.univ (tD (qArR 2 0)) ∗ bigSep Finset.univ (tD (qArR 2 1))) := by
  unfold tokSet
  rw [bigSep_union tok_disjoint, bigSep_map, bigSep_map, bigSep_univ_prod, bigSep_univ_prod]
  have h1 : (bigSep Finset.univ (fun c : Dev nD => bigSep Finset.univ (fun k : Fin 3 => tB k c)) : sProp 𝕄)
      = iprop(bigSep Finset.univ (tB 0) ∗ bigSep Finset.univ (tB 1) ∗ bigSep Finset.univ (tB 2)) := by
    rw [← bigSep_sep', ← bigSep_sep']
    refine bigSep_congr fun c _ => ?_
    rw [bigSep_univ_eq_bigSepL [0, 1, 2] (by decide) (by decide)]
    simp only [bigSepL_cons_cons, bigSepL_singleton]
    rfl
  have h2 : (bigSep Finset.univ (fun c : Dev nD => bigSep Finset.univ (fun i : Fin 20 => tD (oq i) c)) : sProp 𝕄)
      = iprop(bigSep Finset.univ (tD (qKvS 0 0)) ∗ bigSep Finset.univ (tD (qKvS 0 1)) ∗ bigSep Finset.univ (tD (qKvS 1 0)) ∗ bigSep Finset.univ (tD (qKvS 1 1)) ∗ bigSep Finset.univ (tD (qKvS 2 0)) ∗ bigSep Finset.univ (tD (qKvS 2 1)) ∗ bigSep Finset.univ (tD (qKvR 0)) ∗ bigSep Finset.univ (tD (qKvR 1)) ∗ bigSep Finset.univ (tD (qArS 0 0)) ∗ bigSep Finset.univ (tD (qArS 0 1)) ∗ bigSep Finset.univ (tD (qArS 1 0)) ∗ bigSep Finset.univ (tD (qArS 1 1)) ∗ bigSep Finset.univ (tD (qArS 2 0)) ∗ bigSep Finset.univ (tD (qArS 2 1)) ∗ bigSep Finset.univ (tD (qArR 0 0)) ∗ bigSep Finset.univ (tD (qArR 0 1)) ∗ bigSep Finset.univ (tD (qArR 1 0)) ∗ bigSep Finset.univ (tD (qArR 1 1)) ∗ bigSep Finset.univ (tD (qArR 2 0)) ∗ bigSep Finset.univ (tD (qArR 2 1))) := by
    simp only [← bigSep_sep']
    exact bigSep_congr fun c _ => fin20 (fun q => tD q c)
  exact Entails.of_eq (congrArg₂ (fun A B : sProp 𝕄 => iprop(A ∗ B)) h1 h2)

/-- The devices `k + 1` after. -/
def nxE (k : Fin 3) : Dev nD ≃ Dev nD where
  toFun := nx k
  invFun := nx (rv k)
  left_inv := nx_back k
  right_inv := (by decide : ∀ (k : Fin 3) (c : Dev nD), nx k (nx (rv k) c) = c) k

/-- What every device has, the device `k + 1` after every device has. -/
theorem around (k : Fin 3) (Φ : Dev nD → sProp 𝕄) : bigSep Finset.univ Φ ⊢ bigSep Finset.univ (fun c => Φ (nx k c)) :=
  Entails.of_eq (bigSep_univ_equiv (nxE k) Φ)

/-- A resource that device 0 alone has. -/
theorem only_zero (Φ : Dev nD → sProp 𝕄) (h : ∀ c, c ≠ 0 → Φ c = iprop(emp)) : Φ 0 ⊢ bigSep Finset.univ Φ := by
  rw [bigSep_univ_at _ (0 : Dev nD), bigSep_congr (s := Finset.univ.erase (0 : Dev nD)) (Ψ := fun _ => (BI.emp : sProp 𝕄))
      fun c hc => h c (Finset.ne_of_mem_erase hc), BI.bigSep_emp_const]
  iintro H
  isplitl [H]; · iexact H
  iempintro

/-- What every device has, the three peers of device 0 have. -/
theorem three (Φ : Dev nD → sProp 𝕄) : bigSep Finset.univ Φ ⊢ iprop(Φ (nx 0 0) ∗ Φ (nx 1 0) ∗ Φ (nx 2 0)) := by
  rw [bigSep_univ_eq_bigSepL [0, nx 0 0, nx 1 0, nx 2 0] (by decide) (by decide)]
  simp only [bigSepL_cons_cons, bigSepL_singleton]
  refine (show iprop(Φ 0 ∗ Φ (nx 0 0) ∗ Φ (nx 1 0) ∗ Φ (nx 2 0)) ⊢ _ from ?_)
  iintro ⟨-, H⟩; iexact H

/-- What every device has, device 0 has. -/
theorem first (Φ : Dev nD → sProp 𝕄) : bigSep Finset.univ Φ ⊢ Φ 0 := bigSep_elim (Finset.mem_univ _)

/-- Each token to the device that pays its duty. -/
theorem toks_deal : (bigSep tokSet (fun t => dutyTok ER t.1 t.2.1 t.2.2) : sProp 𝕄) ⊢ bigSep Finset.univ (fun c => toksP c) := by
  refine toks_split.trans ?_
  unfold toksP
  rw [bigSep_sep', bigSep_sep']
  unfold toksB toksA arT
  simp only [bigSep_sep']
  iintro ⟨⟨Hb0, Hb1, Hb2⟩, ks00, ks01, ks10, ks11, ks20, ks21, kr0, kr1, as00, as01, as10, as11, as20, as21, ar00, ar01, ar10, ar11, ar20, ar21⟩
  isplitl [Hb0 Hb1 Hb2]
  · isplitl [Hb2]; · iapply (around 0 (tB (rv 0))); iexact Hb2
    isplitl [Hb1]; · iapply (around 1 (tB (rv 1))); iexact Hb1
    iapply (around 2 (tB (rv 2))); iexact Hb0
  isplitl [as00 ar00 as10 ar10 as20 ar20 as01 ar01 as11 ar11 as21 ar21]
  · isplitl [as00 ar00]
    · isplitl [as00]; · iexact as00
      iapply (around 0 (tD (qArR 0 0))); iexact ar00
    isplitl [as10 ar10]
    · isplitl [as10]; · iexact as10
      iapply (around 1 (tD (qArR 1 0))); iexact ar10
    isplitl [as20 ar20]
    · isplitl [as20]; · iexact as20
      iapply (around 2 (tD (qArR 2 0))); iexact ar20
    isplitl [as01 ar01]
    · isplitl [as01]; · iexact as01
      iapply (around 0 (tD (qArR 0 1))); iexact ar01
    isplitl [as11 ar11]
    · isplitl [as11]; · iexact as11
      iapply (around 1 (tD (qArR 1 1))); iexact ar11
    isplitl [as21]; · iexact as21
    iapply (around 2 (tD (qArR 2 1))); iexact ar21
  iapply (only_zero (toksK (F := F)) fun c hc => by unfold toksK; exact if_neg hc)
  unfold toksK kvT
  simp only [eq_self_iff_true, if_true]
  ihave kr0 := (three (tD (F := F) (qKvR 0))) $$ kr0
  ihave kr1 := (three (tD (F := F) (qKvR 1))) $$ kr1
  icases kr0 with ⟨k00, k10, k20⟩
  icases kr1 with ⟨k01, k11, k21⟩
  isplitl [ks00 k00]
  · isplitl [ks00]; · iapply (first (tD (F := F) (qKvS 0 0))); iexact ks00
    iexact k00
  isplitl [ks01 k01]
  · isplitl [ks01]; · iapply (first (tD (F := F) (qKvS 0 1))); iexact ks01
    iexact k01
  isplitl [ks10 k10]
  · isplitl [ks10]; · iapply (first (tD (F := F) (qKvS 1 0))); iexact ks10
    iexact k10
  isplitl [ks11 k11]
  · isplitl [ks11]; · iapply (first (tD (F := F) (qKvS 1 1))); iexact ks11
    iexact k11
  isplitl [ks20 k20]
  · isplitl [ks20]; · iapply (first (tD (F := F) (qKvS 2 0))); iexact ks20
    iexact k20
  isplitl [ks21]; · iapply (first (tD (F := F) (qKvS 2 1))); iexact ks21
  iexact k21

/-! ### The credit of the launch -/

/-- The amount of one payment to a cell. -/
def amtOf (g : GSem nD τ sig) : ℕ := match g.2 with | .reg _ => 1 | .dma q => kdAmt (kindOf q)

/-- The amount of a partial result. -/
theorem amt_ar (c : Dev nD) (k : Fin 3) (b : Fin 2) : amtOf (dcell c (qArR k b)) = NA := by
  show kdAmt (kindOf (qArR k b)) = NA; rw [kind_arR]; rfl
/-- The amount of a key or value transfer. -/
theorem amt_kv (c : Dev nD) (t : Fin 2) : amtOf (dcell c (qKvR t)) = NK := by
  show kdAmt (kindOf (qKvR t)) = NK; rw [kind_kvR]; rfl

/-- What is owed at a cell is the number of its debts times its amount. -/
theorem osum_count (l : List (GSem nD τ sig × ℕ)) (h : ∀ p ∈ l, p.2 = amtOf p.1) (g : GSem nD τ sig) (u : Unit) :
    osum l g u = (l.map Prod.fst).count g * amtOf g := by
  induction l with
  | nil => show 0 = 0 * _; rw [Nat.zero_mul]
  | cons p l ih =>
    show osum l g u + tallyAt p.1 () p.2 g u = _
    rw [ih fun q hq => h q (List.mem_cons_of_mem _ hq), tallyAt_apply, List.map_cons, List.count_cons]
    by_cases hg : g = p.1
    · subst hg
      rw [if_pos ⟨rfl, rfl⟩, beq_self_eq_true, if_pos rfl, Nat.add_mul, Nat.one_mul, h p List.mem_cons_self]
    · rw [if_neg (fun h' => hg h'.1), if_neg (by rw [beq_iff_eq]; exact fun h' => hg h'.symm), Nat.add_zero, Nat.add_zero]

/-- All the debts of a device at the launch. -/
abbrev oList (c : Dev nD) : List (GSem nD τ sig × ℕ) := barE c 0 :: barE c 1 :: barE c 2 :: kaList c

/-- Each debt is of its cell's amount. -/
theorem oList_amt (c : Dev nD) : ∀ p ∈ oList c, p.2 = amtOf p.1 := by
  have ha : ∀ p ∈ arList c, p.2 = amtOf p.1 := by
    intro p hp
    simp only [arList, List.mem_cons, List.not_mem_nil, or_false] at hp
    rcases hp with rfl | rfl | rfl | rfl | rfl | rfl <;> exact (amt_ar _ _ _).symm
  have hk : ∀ p ∈ kvList, p.2 = amtOf p.1 := by
    intro p hp
    simp only [kvList, List.mem_cons, List.not_mem_nil, or_false] at hp
    rcases hp with rfl | rfl | rfl | rfl | rfl | rfl <;> exact (amt_kv _ _).symm
  intro p hp
  simp only [oList, List.mem_cons] at hp
  rcases hp with rfl | rfl | rfl | hp
  · rfl
  · rfl
  · rfl
  · unfold kaList at hp
    split at hp
    · rcases List.mem_append.mp hp with hp | hp
      · exact hk p hp
      · exact ha p hp
    · exact ha p hp

/-- What all the devices owe at a cell is the number of their debts there times its amount. -/
theorem owed_sum (g : GSem nD τ sig) (u : Unit) : ∑ d : Dev nD, O₀ d g u = (∑ d : Dev nD, ((oList d).map Prod.fst).count g) * amtOf g := by
  rw [Finset.sum_mul]
  exact Finset.sum_congr rfl fun d _ => osum_count (oList d) (oList_amt d) g u

/-- Three debts are at each barrier cell, -/
theorem count_bar : ∀ c : Dev nD, (∑ d : Dev nD, ((oList d).map Prod.fst).count (bcell c)) = 3 := by decide +kernel
/-- one at each receiver's cell of partial results, -/
theorem count_ar : ∀ (c : Dev nD) (k : Fin 3) (b : Fin 2), (∑ d : Dev nD, ((oList d).map Prod.fst).count (dcell c (qArR k b))) = 1 := by decide +kernel
/-- and one at each receiver's cell of keys or values but device 0's. -/
theorem count_kv : ∀ (c : Dev nD) (t : Fin 2), c ≠ 0 → (∑ d : Dev nD, ((oList d).map Prod.fst).count (dcell c (qKvR t))) = 1 := by decide +kernel

/-- The launch gives a cell the credit that all the devices owe it: -/
theorem launch_at (g : GSem nD τ sig) (n : ℕ) (h : ∑ d : Dev nD, O₀ d g () = n) :
    tallyOn g (launchCredit (Pipeline.owing O₀) 0 g) = (tallyAt g () n : CellTallies nD τ sig Unit) := by
  unfold tallyAt; refine congrArg _ (Finsupp.ext fun u => ?_); cases u
  rw [Pipeline.launchCredit_owing, Finsupp.single_eq_same, h]

/-- three to a barrier cell, -/
theorem launch_bar (c : Dev nD) : tallyOn (bcell c) (launchCredit (Pipeline.owing O₀) 0 (bcell c)) = (tallyAt (bcell c) () 3 : CellTallies nD τ sig Unit) :=
  launch_at _ _ (by rw [owed_sum, count_bar]; rfl)
/-- a row's credit to a receiver's cell of partial results, -/
theorem launch_ar (c : Dev nD) (k : Fin 3) (b : Fin 2) :
    tallyOn (dcell c (qArR k b)) (launchCredit (Pipeline.owing O₀) 0 (dcell c (qArR k b))) = (tallyAt (dcell c (qArR k b)) () NA : CellTallies nD τ sig Unit) :=
  launch_at _ _ (by rw [owed_sum, count_ar, amt_ar, Nat.one_mul])
/-- and a transfer's credit to a receiver's cell of keys or values. -/
theorem launch_kv (c : Dev nD) (hc : c ≠ 0) (t : Fin 2) :
    tallyOn (dcell c (qKvR t)) (launchCredit (Pipeline.owing O₀) 0 (dcell c (qKvR t))) = (tallyAt (dcell c (qKvR t)) () NK : CellTallies nD τ sig Unit) :=
  launch_at _ _ (by rw [owed_sum, count_kv c t hc, amt_kv, Nat.one_mul])

/-- The credit the launch gives a device for the signals and the transfers it receives. -/
theorem creds (c : Dev nD) : (Pipeline.launchCred O₀ c : sProp 𝕄) ⊢ credsP c := by
  unfold Pipeline.launchCred credsP credsA credsK arI
  have hs (Φ : SemLoc sig → sProp 𝕄) : bigSep Finset.univ Φ ⊢ bigSep ({.reg barrier0, .dma (qArR 0 0), .dma (qArR 1 0), .dma (qArR 2 0), .dma (qArR 0 1), .dma (qArR 1 1), .dma (qArR 2 1), .dma (qKvR 0), .dma (qKvR 1)} : Finset (SemLoc sig)) Φ :=
    bigSep_subset (Finset.subset_univ _)
  refine (hs _).trans ?_
  rw [bigSep_eq_bigSepL_of_eq [.reg barrier0, .dma (qArR 0 0), .dma (qArR 1 0), .dma (qArR 2 0), .dma (qArR 0 1), .dma (qArR 1 1), .dma (qArR 2 1), .dma (qKvR 0), .dma (qKvR 1)] (by decide) (by decide)]
  simp only [bigSepL_cons_cons, bigSepL_singleton]
  rw [launch_bar, launch_ar c 0 0, launch_ar c 1 0, launch_ar c 2 0, launch_ar c 0 1, launch_ar c 1 1, launch_ar c 2 1]
  by_cases hc : c = 0
  · rw [if_pos hc]
    refine (show iprop(cred (tallyAt (bcell c) () 3) ∗ cred (tallyAt (dcell c (qArR 0 0)) () NA) ∗ cred (tallyAt (dcell c (qArR 1 0)) () NA) ∗ cred (tallyAt (dcell c (qArR 2 0)) () NA) ∗ cred (tallyAt (dcell c (qArR 0 1)) () NA) ∗ cred (tallyAt (dcell c (qArR 1 1)) () NA) ∗ cred (tallyAt (dcell c (qArR 2 1)) () NA) ∗ _) ⊢ _ from ?_)
    iintro ⟨Hb, H1, H2, H3, H4, H5, H6, -⟩
    isplitl [Hb]; · iexact Hb
    isplitl
    · isplitl [H1]; · iexact H1
      isplitl [H2]; · iexact H2
      isplitl [H3]; · iexact H3
      isplitl [H4]; · iexact H4
      isplitl [H5]; · iexact H5
      iexact H6
    · iempintro
  · rw [if_neg hc, launch_kv c hc 0, launch_kv c hc 1]
    unfold kvI
    refine (show iprop(cred (tallyAt (bcell c) () 3) ∗ cred (tallyAt (dcell c (qArR 0 0)) () NA) ∗ cred (tallyAt (dcell c (qArR 1 0)) () NA) ∗ cred (tallyAt (dcell c (qArR 2 0)) () NA) ∗ cred (tallyAt (dcell c (qArR 0 1)) () NA) ∗ cred (tallyAt (dcell c (qArR 1 1)) () NA) ∗ cred (tallyAt (dcell c (qArR 2 1)) () NA) ∗ cred (tallyAt (dcell c (qKvR 0)) () NK) ∗ cred (tallyAt (dcell c (qKvR 1)) () NK)) ⊢ _ from ?_)
    iintro ⟨Hb, H1, H2, H3, H4, H5, H6, Hk⟩
    isplitl [Hb]; · iexact Hb
    isplitr [Hk]
    · isplitl [H1]; · iexact H1
      isplitl [H2]; · iexact H2
      isplitl [H3]; · iexact H3
      isplitl [H4]; · iexact H4
      isplitl [H5]; · iexact H5
      iexact H6
    · iexact Hk

end Cert.KIProof
-- ==== Proof.Run.lean ====
module

public import proofs.«01_k».proof.Proof.Deal

@[expose] public section

set_option maxRecDepth 16384

noncomputable section

/-! The launch and the run. -/

namespace Cert.KIProof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Smoke Idealize.ShloMosaic.Rounds Idealize.ShloMosaic.Ring
open Idealize.ShloMosaic.Pipeline (Dat Cfg Window BodyObligation cellOf)

variable {F : FTy → Type} [FloatOps F] [Named F]
variable (m : (ℓ : Loc nD τ sig) → Buf (Elt F) ℓ) (κ : GSem nD τ sig → ℕ)

local notation "𝕄" => MT nD τ sig Unit (Elt F) ℕ UU ℕ

variable (ρ : Dev nD → PrngReg)

/-! ### The host's operations -/

/-- The buffers outside the kernel. -/
def bufs : Finset (DevRef τ sig) := (StableHlo.tcRefs τ sig).filter fun b => ¬ b.isScoped

/-- The launch's arrays are the arrays the host's operations work on. -/
theorem unscoped_held (c : Dev nD) (W : Valuation τ sig (Elt F)) :
    (unscopedBufs c (fun b => W b) : sProp 𝕄) = StableHlo.held (c : Thread nD τ) bufs W := by
  unfold unscopedBufs StableHlo.held bufs StableHlo.tcRefs
  rw [Finset.filter_map, BI.bigSep_map]
  rfl

/-- These arrays, one by one. -/
theorem bufs_list (c : Dev nD) (W : Valuation τ sig (Elt F)) : (StableHlo.held (c : Thread nD τ) bufs W : sProp 𝕄)
    = iprop((((c : Thread nD τ).loc main_arg0) ↦{fullShare} W (Proc.devRef .tc main_arg0)) ∗ (((c : Thread nD τ).loc main_arg1) ↦{fullShare} W (Proc.devRef .tc main_arg1)) ∗ (((c : Thread nD τ).loc main_arg2) ↦{fullShare} W (Proc.devRef .tc main_arg2)) ∗ (((c : Thread nD τ).loc main_arg3) ↦{fullShare} W (Proc.devRef .tc main_arg3)) ∗ (((c : Thread nD τ).loc main_arg4) ↦{fullShare} W (Proc.devRef .tc main_arg4)) ∗ (((c : Thread nD τ).loc main_v1) ↦{fullShare} W (Proc.devRef .tc main_v1)) ∗ (((c : Thread nD τ).loc main_v2) ↦{fullShare} W (Proc.devRef .tc main_v2)) ∗ (((c : Thread nD τ).loc main_v3) ↦{fullShare} W (Proc.devRef .tc main_v3))) := by
  unfold StableHlo.held
  rw [bigSep_eq_bigSepL_of_eq [Proc.devRef .tc main_arg0, Proc.devRef .tc main_arg1, Proc.devRef .tc main_arg2, Proc.devRef .tc main_arg3, Proc.devRef .tc main_arg4, Proc.devRef .tc main_v1, Proc.devRef .tc main_v2, Proc.devRef .tc main_v3] (by decide) (by decide)]
  rfl

/-- They are the kernel's arrays and the rest. -/
theorem bufs_split (c : Dev nD) (W : Valuation τ sig (Elt F)) : (StableHlo.held (c : Thread nD τ) bufs W : sProp 𝕄)
    = iprop(StableHlo.held (c.tc : Thread nD τ) (Pipeline.arrRefs (τ := τ) (pcfgs (F := F) 0).spec) W ∗ StableHlo.held (c.tc : Thread nD τ) Sr W) := by
  rw [StableHlo.held_sub_split (c : Thread nD τ) (T := Pipeline.arrRefs (τ := τ) (pcfgs (F := F) 0).spec) (by decide : Pipeline.arrRefs (τ := τ) spec0 ⊆ bufs) W,
    show (bufs \ Pipeline.arrRefs (τ := τ) (pcfgs (F := F) 0).spec) = Sr from (by decide : bufs \ Pipeline.arrRefs (τ := τ) spec0 = Sr)]

/-- The only semaphore that outlives the kernel is the barrier's. -/
theorem unscopedSems_bar (c : Dev nD) : (unscopedSems0 c : sProp 𝕄) = semVal (bcell c) 0 := by
  unfold unscopedSems0
  rw [show (Finset.univ.filter fun sm : SemLoc sig => ¬ sm.isScoped .tc) = {SemLoc.reg barrier0} from by decide, BI.bigSep_singleton]

/-- What goes past the host's operations to the kernel. -/
def Rr (c : Dev nD) : sProp 𝕄 := iprop(Tk m c ∗ (∃ r, prngReg c r) ∗ ∃ W, owes (c : Thread nD τ) (O₀ c) W)

/-- The host's operations touch only these arrays. -/
theorem ops_sub : ∀ op ∈ (hostOps0 : List (HloOp τ sig (Elt F))), op.bufs ⊆ bufs := fun op h => by
  simp only [List.mem_cons, List.not_mem_nil, or_false] at h
  rcases h with rfl | rfl
  · show ({Proc.devRef .tc main_arg2, Proc.devRef .tc main_v1} : Finset (DevRef τ sig)) ⊆ bufs; decide
  · show ({Proc.devRef .tc main_arg3, Proc.devRef .tc main_v2} : Finset (DevRef τ sig)) ⊆ bufs; decide
/-- The host's operations make no new array. -/
theorem ops_fresh : ∀ op ∈ (hostOps0 : List (HloOp τ sig (Elt F))), op.fresh = ∅ := List.forall_iff_forall_mem.mp hostOps0_fresh

/-- The host's segment. -/
def host : Pipeline.HostSeg (Name := ℕ) (U := UU) (pcfgs (F := F)) defs₀ 𝒱₀ L lv :=
  Pipeline.HostSeg.ofOps _ _ _ _ _ bufs hostOps0 ops_sub ops_fresh (V₀ m) (Rr m)

/-- What the host's operations leave is what the kernel's region starts from. -/
theorem reg_pre (c : Dev nD) : iprop(StableHlo.held (c : Thread nD τ) bufs (V₁ m c) ∗ Rr m c) ⊢ (reg m).pre c := by
  show _ ⊢ iprop(StableHlo.held (c.tc : Thread nD τ) (Pipeline.arrRefs (τ := τ) (pcfgs (F := F) 0).spec) (V₁ m c) ∗ (∃ r, prngReg c r)
    ∗ (StableHlo.held (c.tc : Thread nD τ) Sr (V₁ m c) ∗ emp) ∗ Tk m c ∗ ∃ Wd, owes (c : Thread nD τ) (0 + O₀ c) Wd)
  rw [bufs_split, zero_add]
  unfold Rr
  iintro ⟨⟨Ha, Hr⟩, HT, Hp, HO⟩
  isplitl [Ha]; · iexact Ha
  isplitl [Hp]; · iexact Hp
  isplitl [Hr]
  · isplitl [Hr]; · iexact Hr
    iempintro
  isplitl [HT]; · iexact HT
  iexact HO

/-- What the kernel's region leaves is what is claimed at the end. -/
theorem reg_post (c : Dev nD) : (reg m).post c
    ⊢ iprop((StableHlo.held (c : Thread nD τ) bufs (V₂ m c) ∗ semVal (bcell c) 0) ∗ ∃ W, owes (c : Thread nD τ) (0 : CellTallies nD τ sig Unit) W) := by
  show iprop(StableHlo.held (c.tc : Thread nD τ) (Pipeline.arrRefs (τ := τ) (pcfgs (F := F) 0).spec) (V₂ m c) ∗ (∃ r, prngReg c r)
    ∗ (StableHlo.held (c.tc : Thread nD τ) Sr (V₂ m c) ∗ emp) ∗ Yk c ∗ ∃ Wd, owes (c : Thread nD τ) (0 : CellTallies nD τ sig Unit) Wd) ⊢ _
  rw [bufs_split]
  unfold Yk
  iintro ⟨Ha, -, ⟨Hr, -⟩, Hb, HO⟩
  isplitr [HO]
  · isplitr [Hb]
    · isplitl [Ha]; · iexact Ha
      iexact Hr
    iexact Hb
  iexact HO

/-! ### The launch -/

/-- The ghost state at the launch. -/
def u₀ : UU :=
  (initOf (Pipeline.cells (Pipeline.pin (pcfgs (F := F)) adm) cellOf_inj) (Pipeline.launchToks (Pipeline.pin (pcfgs (F := F)) adm) cellOf_inj),
    launchOf barCells dmaCells tokSet)

/-- The launch's element of the protocol, all of it at device 0. -/
def G (c : Dev nD) : sProp 𝕄 := if c = 0 then BI.own (ER (launchOf barCells dmaCells tokSet)) else iprop(emp)

/-- All the devices' parts of it are the whole of it. -/
theorem G_all : bigSep Finset.univ (G (F := F)) = BI.own (ER (launchOf barCells dmaCells tokSet)) := by
  rw [bigSep_univ_at _ (0 : Dev nD), bigSep_congr (s := Finset.univ.erase (0 : Dev nD)) (Ψ := fun _ => (BI.emp : sProp 𝕄))
      fun c hc => by unfold G; exact if_neg (Finset.ne_of_mem_erase hc), BI.bigSep_emp_const]
  exact BI.equiv_iff.mp sep_emp

/-- The invariants, and the start of every barrier cell's round. -/
def records (κ : GSem nD τ sig → ℕ) : sProp 𝕄 := iprop(invs m κ ∗ bigSep Finset.univ (fun d : Dev nD => reached ER (bcell d) 0))
/-- They may be used any number of times. -/
instance records_persistent (κ : GSem nD τ sig → ℕ) : BI.Persistent (records m κ) := by unfold records; infer_instance

/-- The tokens that open a device's own cells. -/
abbrev opens (c : Dev nD) : sProp 𝕄 := bigSep Finset.univ (fun i : Fin 20 => openTok ER (dcell c (oq i)))

/-- What the launch's step makes for device `c`. -/
abbrev mine (c : Dev nD) : sProp 𝕄 := iprop(atPos ER (bcell c) 0 ∅ 0 ∗ opens c ∗ toksP c)
/-- What the launch gives it at once. -/
abbrev given (c : Dev nD) : sProp 𝕄 :=
  iprop(StableHlo.held (c : Thread nD τ) bufs (V₀ m c) ∗ credsP c ∗ owes (c : Thread nD τ) (O₀ c) ∅ ∗ ∃ r, prngReg c r)

/-- What a device's program starts from. -/
abbrev T₀ (c : Dev nD) : sProp 𝕄 := iprop(StableHlo.held (c : Thread nD τ) bufs (V₀ m c) ∗ Rr m c)
/-- What a device's program leaves. -/
abbrev Tₙ (c : Dev nD) : sProp 𝕄 := iprop(StableHlo.held (c : Thread nD τ) bufs (V₂ m c) ∗ semVal (bcell c) 0)

/-- The launch's step and what the launch gives at once are what the program starts from. -/
theorem T₀_mk (κ : GSem nD τ sig → ℕ) (c : Dev nD) : iprop(records m κ ∗ (mine c ∗ given m c)) ⊢ T₀ m c := by
  unfold records T₀ Rr Tk
  iintro ⟨⟨#HI, #HR⟩, ⟨Ha, Ho, Ht⟩, Hh, Hc, HO, Hp⟩
  isplitl [Hh]; · iexact Hh
  isplitl [Ha Ho Ht Hc]
  · iexists κ
    isplitr; · iexact HI
    isplitr; · iexact HR
    isplitl [Ht]; · iexact Ht
    isplitl [Hc]; · iexact Hc
    isplitl [Ha]; · iexact Ha
    iexact Ho
  isplitl [Hp]; · iexact Hp
  iexists ∅; iexact HO

/-- The barrier's semaphores, as those of the barrier's cells. -/
theorem sems_bar : bigSep Finset.univ (fun c : Dev nD => (semVal (bcell c) 0 : sProp 𝕄)) ⊢ bigSep barCells (fun g => (semVal g 0 : sProp 𝕄)) :=
  Entails.of_eq (bigSep_map (s := Finset.univ) barEm (Φ := fun g : GSem nD τ sig => (semVal g 0 : sProp 𝕄))).symm
/-- The starts of the barrier cells' rounds, device by device. -/
theorem reached_bar : bigSep barCells (fun g => (reached ER g 0 : sProp 𝕄)) ⊢ bigSep Finset.univ (fun d : Dev nD => (reached ER (bcell d) 0 : sProp 𝕄)) :=
  Entails.of_eq (bigSep_map (s := Finset.univ) barEm (Φ := fun g : GSem nD τ sig => (reached ER g 0 : sProp 𝕄)))
/-- The positions at the barrier's cells, device by device. -/
theorem at_bar : bigSep barCells (fun g => (atPos ER g 0 ∅ 0 : sProp 𝕄)) ⊢ bigSep Finset.univ (fun c : Dev nD => (atPos ER (bcell c) 0 ∅ 0 : sProp 𝕄)) :=
  Entails.of_eq (bigSep_map (s := Finset.univ) barEm (Φ := fun g : GSem nD τ sig => (atPos ER g 0 ∅ 0 : sProp 𝕄)))
/-- The opening tokens, device by device. -/
theorem open_all : bigSep dmaCells (fun g => (openTok ER g : sProp 𝕄)) ⊢ bigSep Finset.univ (fun c : Dev nD => opens c) :=
  Entails.of_eq (by unfold dmaCells; rw [bigSep_map, bigSep_univ_prod]; rfl)

/-- What the launch gives to one device. -/
theorem core (c : Dev nD) : iprop(unscopedBufs c (fun b => m ((c : Thread nD τ).loc b)) ∗ unscopedSems0 c
      ∗ owes (c : Thread nD τ) (O₀ c) ∅ ∗ Pipeline.launchCred O₀ c ∗ prngReg c (ρ c) ∗ G c)
    ⊢ (iprop(given m c ∗ (semVal (bcell c) 0 ∗ G c)) : sProp 𝕄) := by
  rw [show unscopedBufs c (fun b => m ((c : Thread nD τ).loc b)) = StableHlo.held (c : Thread nD τ) bufs (V₀ m c) from unscoped_held c (V₀ m c),
    unscopedSems_bar]
  unfold given
  iintro ⟨Hh, Hs, HO, Hc, Hp, HG⟩
  ihave Hc := (creds (F := F) c) $$ Hc
  isplitr [Hs HG]
  · isplitl [Hh]; · iexact Hh
    isplitl [Hc]; · iexact Hc
    isplitl [HO]; · iexact HO
    iexists (ρ c); iexact Hp
  isplitl [Hs]; · iexact Hs
  iexact HG

/-- The step of the launch: the invariants are made and everything is dealt. -/
theorem launch_all :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts L lv)
      ⊢ (|={Set.univ}=> bigSep Finset.univ (T₀ m) : sProp 𝕄) := by
  have hcore : (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c))
      ⊢ (bigSep Finset.univ fun c : Dev nD => iprop(given m c ∗ (semVal (bcell c) 0 ∗ G c)) : sProp 𝕄) := bigSep_mono fun c _ => core m ρ c
  iintro ⟨H, -⟩
  ihave H := hcore $$ H
  ihave H := bigSep_unpair $$ H; icases H with ⟨HB, H⟩
  ihave H := bigSep_unpair $$ H; icases H with ⟨Hv, HG⟩
  ihave HG := (Entails.of_eq (G_all (F := F))) $$ HG
  ihave Hv := (sems_bar (F := F)) $$ Hv
  imod (Rounds.fund_launch ER (Rd m) cells_disjoint (fun g _ h => h) tokSet) $$ [Hv HG] with ⟨%κ, -, #HI, #HR, Hat, Ho, Ht⟩
  · isplitl [Hv]; · iexact Hv
    iexact HG
  imodintro
  iapply (bigSep_with_persistent (R := records m κ) (Φ := fun c => iprop(mine c ∗ given m c)) fun c _ => T₀_mk m κ c)
  isplitr
  · unfold records invs
    isplitr; · iexact HI
    iapply (reached_bar (F := F)); iexact HR
  iapply bigSep_pair
  isplitr [HB]
  · iapply bigSep_pair; isplitl [Hat]; · iapply (at_bar (F := F)); iexact Hat
    iapply bigSep_pair; isplitl [Ho]; · iapply (open_all (F := F)); iexact Ho
    iapply (toks_deal (F := F)); iexact Ht
  · iexact HB

/-- The only semaphore that outlives the kernel is the barrier's. -/
theorem unscoped_sem : ∀ sm : SemLoc sig, sm.isScoped .tc = false → sm = .reg barrier0 := by decide

/-- The contents at the end. -/
def Ends (c : Dev nD) (f : (ℓ : Loc nD τ sig) → Buf (Elt F) ℓ) : Prop :=
  f ((c : Thread nD τ).loc main_v3) = OUT m c ∧ f ((c : Thread nD τ).loc main_arg0) = m ((c : Thread nD τ).loc main_arg0)
    ∧ f ((c : Thread nD τ).loc main_arg1) = m ((c : Thread nD τ).loc main_arg1) ∧ f ((c : Thread nD τ).loc main_arg2) = m ((c : Thread nD τ).loc main_arg2)
    ∧ f ((c : Thread nD τ).loc main_arg3) = m ((c : Thread nD τ).loc main_arg3) ∧ f ((c : Thread nD τ).loc main_arg4) = m ((c : Thread nD τ).loc main_arg4)

set_option backward.isDefEq.respectTransparency.types false in
/-- The run: from any memory and zero counters every execution ends, the result is `OUT`, the arguments are unchanged and
    every counter is zero again. -/
theorem run_main : θ_run defs (onTc (τ := τ) (main (F := F))) ⟨m, fun _ => 0, ρ⟩
    (fun r => (∀ c : Dev nD, Ends m c r.2.mem) ∧ r.2.sem = fun _ => 0) :=
  Pipeline.θ_run_regions_kit_sems (pcfgs (F := F)) adm (pdats m) () cellOf_inj EP defs₀ 𝒱₀ L lv m ρ main [.host (host m), .region (reg m)]
    (fun c Q => by rw [main_segs adm (pdats m) () 𝒱₀ L lv (host m) (reg m) rfl c])
    (by simp only [Pipeline.Seg.pipes_host, Pipeline.Seg.pipes_region, Pipeline.Seg.pipes_nil]; decide)
    (O₀ := O₀) (hL := L_of_ne) (G := G) (u₀ := u₀)
    (hu₀ := by
      unfold u₀
      iintro Hu
      ihave H := (ownU_pair _ _) $$ Hu
      icases H with ⟨HP, HX⟩
      imodintro
      isplitl [HP]; · iexact HP
      rw [G_all]; iexact HX)
    (T₀ := T₀ m) (Tₙ := Tₙ m)
    (hch := ⟨fun c => .rfl, fun c => reg_pre m c, fun c => reg_post m c⟩)
    (hinit := launch_all m ρ)
    (QY := fun c s => Ends m c s.mem ∧ s.sem (bcell c) = 0)
    (hfin := fun c s' => by
      dsimp only [Tₙ]; rw [bufs_list]
      iintro ⟨⟨⟨H0, H1, H2, H3, H4, -, -, H5⟩, Hb⟩, HSI⟩
      icombine HSI H0 gives %h0
      icombine HSI H1 gives %h1
      icombine HSI H2 gives %h2
      icombine HSI H3 gives %h3
      icombine HSI H4 gives %h4
      icombine HSI H5 gives %h5
      icombine HSI Hb gives %hb
      imodintro
      isplitr
      · ipureintro
        exact ⟨⟨(Buf.eq_of_forall_mem_univ h5).trans (V₂_v3 m c),
          (Buf.eq_of_forall_mem_univ h0).trans ((V₂_ne m c (Proc.devRef .tc main_arg0) (by decide)).trans (V_main_arg0 m c)),
          (Buf.eq_of_forall_mem_univ h1).trans ((V₂_ne m c (Proc.devRef .tc main_arg1) (by decide)).trans (V_main_arg1 m c)),
          (Buf.eq_of_forall_mem_univ h2).trans ((V₂_ne m c (Proc.devRef .tc main_arg2) (by decide)).trans (V_main_arg2 m c)),
          (Buf.eq_of_forall_mem_univ h3).trans ((V₂_ne m c (Proc.devRef .tc main_arg3) (by decide)).trans (V_main_arg3 m c)),
          (Buf.eq_of_forall_mem_univ h4).trans ((V₂_ne m c (Proc.devRef .tc main_arg4) (by decide)).trans (V_main_arg4 m c))⟩, by simpa using hb⟩
      iexact HSI)
    (hQ := fun s h hs => ⟨fun c => (h c).1, sem_eq_zero hs fun c sm hsm => by
        obtain rfl := unscoped_sem sm hsm
        exact (h c).2⟩)

end Cert.KIProof
-- ==== Proof.Twin.lean ====
module

public import proofs.«01_k».proof.Defs
public import proofs.«01_k».proof.Proof.Gen.Kernel
public import proofs.«01_k».proof.Proof.Gen.Kernel.Launch
public import proofs.«01_k».proof.Proof.Run

@[expose] public section

set_option maxRecDepth 65536

noncomputable section

/-! The kernel as printed, at bits: the program with the mask's name, at the reading that gives the name its own bits. -/

namespace Cert.KIProof

open Idealize.ShloMosaic Idealize.SL.Sem

/-- The reading of the named constants at bits: a name is the bits that it was printed for. -/
abbrev bitsNamed : Named Bits where
  named _ _ {φ} bits := FloatOps.ofBits φ bits

/-- The two programs' host parts are the same. -/
theorem main_eq : (fun c => Cert.Kernel.main (F := Bits) c) = (fun c => Cert.KernelIdeal.main (F := Bits) c) := rfl

/-- The two programs' kernel bodies are the same. -/
theorem body_eq : @Cert.Kernel.cc0_body Bits _ _ = @Cert.KernelIdeal.cc0_body Bits _ bitsNamed _ := rfl

set_option maxHeartbeats 4000000 in
/-- The two tables of kernel bodies are the same. -/
theorem defs_eq : @Cert.Kernel.defs₀ Bits _ _ = @Cert.KernelIdeal.defs₀ Bits _ bitsNamed _ := by
  funext p l a
  cases p with
  | tc =>
    match l, a with
    | 0, (t, s) => exact (congrFun (congrFun (congrFun (congrFun (congrFun (congrFun (congrFun (congrFun (congrFun (congrFun (congrFun (congrFun (congrFun (congrFun (congrFun (congrFun (congrFun (congrFun (congrFun (congrFun (congrFun (congrFun (congrFun (congrFun body_eq _) _) _) _) _) _) _) _) _) _) _) _) _) _) _) _) _) _) _) _) _) _) _) _)
  | _ => rfl

/-- The two tables of all bodies are the same. -/
theorem alldefs_eq : @Cert.Kernel.defs Bits _ _ = @Cert.KernelIdeal.defs Bits _ bitsNamed _ :=
  congrArg (Pipeline.defs Cert.Kernel.pcfgs) defs_eq

/-- The printed kernel at bits ends at rest with its arguments unchanged, as the named one does. -/
theorem quiet_bits : Cert.quiescent_Kernel := fun m g _ => by
  have h := @run_main Bits _ bitsNamed m g
  rw [← alldefs_eq] at h
  exact (θ_run _ _ _).mono (fun r hr => ⟨fun c => (hr.1 c).2, hr.2⟩) h

/-- The named kernel ends at rest with its arguments unchanged. -/
theorem quiet_ideal : Cert.quiescent_KernelIdeal := fun m g _ =>
  (θ_run _ _ _).mono (fun r hr => ⟨fun c => (hr.1 c).2, hr.2⟩) (run_main m g)

end Cert.KIProof
end
-- ==== Proof.Ref.lean ====
module

public import proofs.«01_k».proof.Defs
public import proofs.«01_k».proof.Proof.Gen.ReferenceIdeal
public import Idealize.ShloMosaic.Lib.Claim
public import Idealize.ShloMosaic.Lib.Quiescent

@[expose] public section

set_option maxRecDepth 65536

noncomputable section

/-! The reference's run: what its result holds, as a term of its arguments in four named steps, and that it ends at rest. -/

namespace Cert.RefProof

open Cert.ReferenceIdeal Cert.ReferenceIdeal.Gen
open Idealize.ShloMosaic Idealize.ShloMosaic.TcCoe Idealize.ShloMosaic.StableHlo Idealize.SL.Sem

variable {F : FTy → Type} [FloatOps F]

/-- The operations of the query projection and the two block numbers with their comparison, in order. -/
abbrev opsA : List (HloOp τ sig (Elt F)) :=
  [ binary main_arg0 main_arg1 main_v0 (fun l r => Host.dotGeneral dot_S2x128x512_S512x1024_S2x128x1024_2_0_01_1_n_n none l r),
    unary main_v0 main_v1 (truncf .bf16 · bitsLt_bf16_f32),
    reshape main_v1 main_v2 (rfl : (.bf16 : EltTy) = .bf16) shapeCasts_S2x128x1024_S2x128x16x64,
    nullary main_v3 (iotaInDim S128 32 0),
    nullary main_c (constantI S_ 32 64#32),
    unary main_c main_call0_v0 id,
    unary main_call0_v0 main_call0_v1 (broadcastInDim S128 ![] bcast_S_S128),
    binary main_v3 main_call0_v1 main_call0_v2 Host.divsi,
    unary main_v3 main_call0_v3 signi,
    unary main_call0_v0 main_call0_v4 signi,
    unary main_call0_v4 main_call0_v5 (broadcastInDim S128 ![] bcast_S_S128),
    binary main_call0_v3 main_call0_v5 main_call0_v6 (cmpi .ne),
    unary main_call0_v0 main_call0_v7 (broadcastInDim S128 ![] bcast_S_S128),
    binary main_v3 main_call0_v7 main_call0_v8 Host.remsi,
    nullary main_call0_c (constantI S_ 32 0#32),
    unary main_call0_c main_call0_v9 (broadcastInDim S128 ![] bcast_S_S128),
    binary main_call0_v8 main_call0_v9 main_call0_v10 (cmpi .ne),
    binary main_call0_v6 main_call0_v10 main_call0_v11 andi,
    nullary main_call0_c_0 (constantI S_ 32 1#32),
    unary main_call0_c_0 main_call0_v12 (broadcastInDim S128 ![] bcast_S_S128),
    binary main_call0_v2 main_call0_v12 main_call0_v13 subi,
    ternary main_call0_v11 main_call0_v13 main_call0_v2 main_v4 select,
    unary main_v4 main_v5 (broadcastInDim S128x1 ![0] bcast_S128_S128x1_0),
    nullary main_v6 (iotaInDim S512 32 0),
    nullary main_c_0 (constantI S_ 32 64#32),
    unary main_c_0 main_call1_v0 id,
    unary main_call1_v0 main_call1_v1 (broadcastInDim S512 ![] bcast_S_S512),
    binary main_v6 main_call1_v1 main_call1_v2 Host.divsi,
    unary main_v6 main_call1_v3 signi,
    unary main_call1_v0 main_call1_v4 signi,
    unary main_call1_v4 main_call1_v5 (broadcastInDim S512 ![] bcast_S_S512),
    binary main_call1_v3 main_call1_v5 main_call1_v6 (cmpi .ne),
    unary main_call1_v0 main_call1_v7 (broadcastInDim S512 ![] bcast_S_S512),
    binary main_v6 main_call1_v7 main_call1_v8 Host.remsi,
    nullary main_call1_c (constantI S_ 32 0#32),
    unary main_call1_c main_call1_v9 (broadcastInDim S512 ![] bcast_S_S512),
    binary main_call1_v8 main_call1_v9 main_call1_v10 (cmpi .ne),
    binary main_call1_v6 main_call1_v10 main_call1_v11 andi,
    nullary main_call1_c_0 (constantI S_ 32 1#32),
    unary main_call1_c_0 main_call1_v12 (broadcastInDim S512 ![] bcast_S_S512),
    binary main_call1_v2 main_call1_v12 main_call1_v13 subi,
    ternary main_call1_v11 main_call1_v13 main_call1_v2 main_v7 select,
    unary main_v7 main_v8 (broadcastInDim S1x512 ![1] bcast_S512_S1x512_1),
    unary main_v8 main_v9 (broadcastInDim S128x512 ![0, 1] bcast_S1x512_S128x512_0_1),
    unary main_v5 main_v10 (broadcastInDim S128x512 ![0, 1] bcast_S128x1_S128x512_0_1),
    binary main_v9 main_v10 main_v11 (cmpi .sle) ]

/-- The operations of the masked scores, in order. -/
abbrev opsB : List (HloOp τ sig (Elt F)) :=
  [ binary main_v2 main_arg2 main_v12 (fun l r => Host.dotGeneral dot_S2x128x16x64_S2x512x16x64_S2x16x128x512_3_3_1_1_02_02 none l r),
    unary main_v12 main_v13 (truncf .bf16 · bitsLt_bf16_f32),
    unary main_v13 main_v14 (extf .f32 · bitsLt_bf16_f32),
    nullary main_cst (constant S_ .f32 0x3E000000#32),
    unary main_cst main_v15 (broadcastInDim S2x16x128x512 ![] bcast_S_S2x16x128x512),
    binary main_v14 main_v15 main_v16 (mulf),
    unary main_v11 main_v17 (broadcastInDim S1x1x128x512 ![2, 3] bcast_S128x512_S1x1x128x512_2_3),
    nullary main_cst_1 (constant S_ .f32 0xFF800000#32),
    unary main_cst_1 main_call2_v0 id,
    unary main_v17 main_call2_v1 (broadcastInDim S2x16x128x512 ![0, 1, 2, 3] bcast_S1x1x128x512_S2x16x128x512_0_1_2_3),
    unary main_call2_v0 main_call2_v2 (broadcastInDim S2x16x128x512 ![] bcast_S_S2x16x128x512),
    ternary main_call2_v1 main_v16 main_call2_v2 main_v18 select ]

/-- The operations of the weights, in order. -/
abbrev opsC : List (HloOp τ sig (Elt F)) :=
  [ nullary main_cst_2 (constant S_ .f32 0xFF800000#32),
    binary main_v18 main_cst_2 main_v19 (fun x v => Host.reduce FloatOps.maximumf x v reducesTo_S2x16x128x512_S2x16x128_d3 h_S_),
    unary main_v19 main_v20 (broadcastInDim S2x16x128x1 ![0, 1, 2] bcast_S2x16x128_S2x16x128x1_0_1_2),
    unary main_v20 main_v21 (broadcastInDim S2x16x128x512 ![0, 1, 2, 3] bcast_S2x16x128x1_S2x16x128x512_0_1_2_3),
    binary main_v18 main_v21 main_v22 (subf),
    unary main_v22 main_v23 (Host.exp),
    nullary main_c_3 (constantI S_ 1 0#1),
    binary main_v11 main_c_3 main_v24 (fun x v => Host.reduce IntOp.ori x v reducesTo_S128x512_S128_d1 h_S_),
    unary main_v24 main_v25 (broadcastInDim S1x1x128x1 ![2] bcast_S128_S1x1x128x1_2),
    nullary main_cst_4 (constant S_ .f32 0x00000000#32),
    binary main_v23 main_cst_4 main_v26 (fun x v => Host.reduceAdd x v reducesTo_S2x16x128x512_S2x16x128_d3 h_S_),
    unary main_v26 main_v27 (broadcastInDim S2x16x128x1 ![0, 1, 2] bcast_S2x16x128_S2x16x128x1_0_1_2),
    nullary main_cst_5 (constant S_ .f32 0x3F800000#32),
    unary main_cst_5 main_call3_v0 id,
    unary main_v25 main_call3_v1 (broadcastInDim S2x16x128x1 ![0, 1, 2, 3] bcast_S1x1x128x1_S2x16x128x1_0_1_2_3),
    unary main_call3_v0 main_call3_v2 (broadcastInDim S2x16x128x1 ![] bcast_S_S2x16x128x1),
    ternary main_call3_v1 main_v27 main_call3_v2 main_v28 select,
    unary main_v28 main_v29 (broadcastInDim S2x16x128x512 ![0, 1, 2, 3] bcast_S2x16x128x1_S2x16x128x512_0_1_2_3),
    binary main_v23 main_v29 main_v30 (Host.divf),
    unary main_v24 main_v31 (broadcastInDim S1x1x128x1 ![2] bcast_S128_S1x1x128x1_2),
    nullary main_cst_6 (constant S_ .f32 0x00000000#32),
    unary main_cst_6 main_call4_v0 id,
    unary main_v31 main_call4_v1 (broadcastInDim S2x16x128x512 ![0, 1, 2, 3] bcast_S1x1x128x1_S2x16x128x512_0_1_2_3),
    unary main_call4_v0 main_call4_v2 (broadcastInDim S2x16x128x512 ![] bcast_S_S2x16x128x512),
    ternary main_call4_v1 main_v30 main_call4_v2 main_v32 select ]

/-- The operations of the context and its projection, in order. -/
abbrev opsD : List (HloOp τ sig (Elt F)) :=
  [ unary main_arg3 main_v33 (extf .f32 · bitsLt_bf16_f32),
    binary main_v33 main_v32 main_v34 (fun l r => Host.dotGeneral dot_S2x512x16x64_S2x16x128x512_S2x16x64x128_1_3_3_2_02_01 none l r),
    unary main_v34 main_v35 (transpose S2x128x16x64 [0, 3, 1, 2] · transposes_S2x16x64x128_S2x128x16x64_0_3_1_2),
    reshape main_v35 main_v36 (rfl : (.f32 : EltTy) = .f32) shapeCasts_S2x128x16x64_S2x128x1024,
    unary main_arg4 main_v37 (extf .f32 · bitsLt_bf16_f32),
    binary main_v36 main_v37 main_v38 (fun l r => Host.dotGeneral dot_S2x128x1024_S1024x512_S2x128x512_2_0_01_1_n_n none l r) ]

set_option maxHeartbeats 4000000 in
/-- The reference is its four stretches of operations, one after the other. -/
theorem main_eq (c : Dev nD) : main (F := F) c = seq (opsA ++ (opsB ++ (opsC ++ opsD))) := rfl

/-- The block number of each of 128 positions: the floored quotient by 64, as it is computed. -/
def blk128 : IVec S128 32 :=
  let k : IVec S128 32 := broadcastInDim S128 ![] bcast_S_S128 (constantI S_ 32 64#32)
  let d := Host.divsi (iotaInDim S128 32 0) k
  select (andi (cmpi .ne (signi (iotaInDim S128 32 0)) (broadcastInDim S128 ![] bcast_S_S128 (signi (constantI S_ 32 64#32))))
      (cmpi .ne (Host.remsi (iotaInDim S128 32 0) k) (broadcastInDim S128 ![] bcast_S_S128 (constantI S_ 32 0#32))))
    (subi d (broadcastInDim S128 ![] bcast_S_S128 (constantI S_ 32 1#32))) d

/-- The same of 512 positions. -/
def blk512 : IVec S512 32 :=
  let k : IVec S512 32 := broadcastInDim S512 ![] bcast_S_S512 (constantI S_ 32 64#32)
  let d := Host.divsi (iotaInDim S512 32 0) k
  select (andi (cmpi .ne (signi (iotaInDim S512 32 0)) (broadcastInDim S512 ![] bcast_S_S512 (signi (constantI S_ 32 64#32))))
      (cmpi .ne (Host.remsi (iotaInDim S512 32 0) k) (broadcastInDim S512 ![] bcast_S_S512 (constantI S_ 32 0#32))))
    (subi d (broadcastInDim S512 ![] bcast_S_S512 (constantI S_ 32 1#32))) d

/-- The mask: the key's block is not past the query's. -/
def maskR : IVec S128x512 1 :=
  cmpi .sle (broadcastInDim S128x512 ![0, 1] bcast_S1x512_S128x512_0_1 (broadcastInDim S1x512 ![1] bcast_S512_S1x512_1 blk512))
    (broadcastInDim S128x512 ![0, 1] bcast_S128x1_S128x512_0_1 (broadcastInDim S128x1 ![0] bcast_S128_S128x1_0 blk128))

/-- The queries by heads. -/
def queR (x : FVec F S2x128x512 .bf16) (wq : FVec F S512x1024 .bf16) : FVec F S2x128x16x64 .bf16 :=
  shapeCast S2x128x16x64 (truncf .bf16 (Host.dotGeneral dot_S2x128x512_S512x1024_S2x128x1024_2_0_01_1_n_n none x wq) bitsLt_bf16_f32)
    shapeCasts_S2x128x1024_S2x128x16x64

/-- The masked scores. -/
def scoR (q : FVec F S2x128x16x64 .bf16) (k : FVec F S2x512x16x64 .bf16) (mk : IVec S128x512 1) : FVec F S2x16x128x512 .f32 :=
  select (broadcastInDim S2x16x128x512 ![0, 1, 2, 3] bcast_S1x1x128x512_S2x16x128x512_0_1_2_3
      (broadcastInDim S1x1x128x512 ![2, 3] bcast_S128x512_S1x1x128x512_2_3 mk))
    (mulf (extf .f32 (truncf .bf16 (Host.dotGeneral dot_S2x128x16x64_S2x512x16x64_S2x16x128x512_3_3_1_1_02_02 none q k) bitsLt_bf16_f32) bitsLt_bf16_f32)
      (broadcastInDim S2x16x128x512 ![] bcast_S_S2x16x128x512 (constant S_ .f32 0x3E000000#32)))
    (broadcastInDim S2x16x128x512 ![] bcast_S_S2x16x128x512 (constant S_ .f32 0xFF800000#32))

/-- The exponentials of the scores less their row's greatest. -/
def expR (s : FVec F S2x16x128x512 .f32) : FVec F S2x16x128x512 .f32 :=
  Host.exp (subf s (broadcastInDim S2x16x128x512 ![0, 1, 2, 3] bcast_S2x16x128x1_S2x16x128x512_0_1_2_3
    (broadcastInDim S2x16x128x1 ![0, 1, 2] bcast_S2x16x128_S2x16x128x1_0_1_2
      (Host.reduce FloatOps.maximumf s (constant S_ .f32 0xFF800000#32) reducesTo_S2x16x128x512_S2x16x128_d3 h_S_))))

/-- The rows that keep a key, spread over the four axes. -/
def keepR (mk : IVec S128x512 1) : IVec S1x1x128x1 1 :=
  broadcastInDim S1x1x128x1 ![2] bcast_S128_S1x1x128x1_2 (Host.reduce IntOp.ori mk (constantI S_ 1 0#1) reducesTo_S128x512_S128_d1 h_S_)

/-- The weights from the exponentials. -/
def weiR (e : FVec F S2x16x128x512 .f32) (mk : IVec S128x512 1) : FVec F S2x16x128x512 .f32 :=
  select (broadcastInDim S2x16x128x512 ![0, 1, 2, 3] bcast_S1x1x128x1_S2x16x128x512_0_1_2_3 (keepR mk))
    (Host.divf e (broadcastInDim S2x16x128x512 ![0, 1, 2, 3] bcast_S2x16x128x1_S2x16x128x512_0_1_2_3
      (select (broadcastInDim S2x16x128x1 ![0, 1, 2, 3] bcast_S1x1x128x1_S2x16x128x1_0_1_2_3 (keepR mk))
        (broadcastInDim S2x16x128x1 ![0, 1, 2] bcast_S2x16x128_S2x16x128x1_0_1_2
          (Host.reduceAdd e (constant S_ .f32 0x00000000#32) reducesTo_S2x16x128x512_S2x16x128_d3 h_S_))
        (broadcastInDim S2x16x128x1 ![] bcast_S_S2x16x128x1 (constant S_ .f32 0x3F800000#32)))))
    (broadcastInDim S2x16x128x512 ![] bcast_S_S2x16x128x512 (constant S_ .f32 0x00000000#32))

/-- The context, by rows. -/
def ctxR (w : FVec F S2x16x128x512 .f32) (v : FVec F S2x512x16x64 .bf16) : FVec F S2x128x1024 .f32 :=
  shapeCast S2x128x1024 (transpose S2x128x16x64 [0, 3, 1, 2]
    (Host.dotGeneral dot_S2x512x16x64_S2x16x128x512_S2x16x64x128_1_3_3_2_02_01 none (extf .f32 v bitsLt_bf16_f32) w)
    transposes_S2x16x64x128_S2x128x16x64_0_3_1_2) shapeCasts_S2x128x16x64_S2x128x1024

/-- The result of a context: its projection. -/
def proR (y : FVec F S2x128x1024 .f32) (wo : FVec F S1024x512 .bf16) : FVec F S2x128x512 .f32 :=
  Host.dotGeneral dot_S2x128x1024_S1024x512_S2x128x512_2_0_01_1_n_n none y (extf .f32 wo bitsLt_bf16_f32)

/-- The whole result. -/
def outR (x : FVec F S2x128x512 .bf16) (wq : FVec F S512x1024 .bf16) (k v : FVec F S2x512x16x64 .bf16) (wo : FVec F S1024x512 .bf16) :
    FVec F S2x128x512 .f32 :=
  proR (ctxR (weiR (expR (scoR (queR x wq) k maskR)) maskR) v) wo

/-- The first stretch leaves the queries; -/
theorem que_eq (V : Valuation τ sig (Elt F)) :
    after opsA V (main_v2 : DevRef τ sig) = queR (V (main_arg0 : DevRef τ sig)) (V (main_arg1 : DevRef τ sig)) := by
  after_results
  rfl

/-- and the mask. -/
theorem mask_eq (V : Valuation τ sig (Elt F)) : after opsA V (main_v11 : DevRef τ sig) = maskR := by
  after_results
  rfl

/-- The second leaves the scores. -/
theorem sco_eq (V : Valuation τ sig (Elt F)) :
    after opsB V (main_v18 : DevRef τ sig)
      = scoR (V (main_v2 : DevRef τ sig)) (V (main_arg2 : DevRef τ sig)) (V (main_v11 : DevRef τ sig)) := by
  after_results
  rfl

/-- The third leaves the weights. -/
theorem wei_eq (V : Valuation τ sig (Elt F)) :
    after opsC V (main_v32 : DevRef τ sig) = weiR (expR (V (main_v18 : DevRef τ sig))) (V (main_v11 : DevRef τ sig)) := by
  after_results
  rfl

/-- The last leaves the result. -/
theorem pro_eq (V : Valuation τ sig (Elt F)) :
    after opsD V (main_v38 : DevRef τ sig)
      = proR (ctxR (V (main_v32 : DevRef τ sig)) (V (main_arg3 : DevRef τ sig))) (V (main_arg4 : DevRef τ sig)) := by
  after_results
  rfl

/-- Two stretches run one after the other. -/
theorem after_two (a b : List (HloOp τ sig (Elt F))) (V : Valuation τ sig (Elt F)) : after (a ++ b) V = after b (after a V) := by
  induction a generalizing V with
  | nil => rfl
  | cons op a ih => exact ih _

/-- The result after all four stretches. -/
theorem out_eq (V : Valuation τ sig (Elt F)) :
    after (opsA ++ (opsB ++ (opsC ++ opsD))) V (main_v38 : DevRef τ sig)
      = outR (V (main_arg0 : DevRef τ sig)) (V (main_arg1 : DevRef τ sig)) (V (main_arg2 : DevRef τ sig)) (V (main_arg3 : DevRef τ sig))
          (V (main_arg4 : DevRef τ sig)) := by
  have a1 : ∀ W : Valuation τ sig (Elt F), after opsB W (main_v11 : DevRef τ sig) = W (main_v11 : DevRef τ sig) := fun W => by after_results
  have a2 : ∀ W : Valuation τ sig (Elt F), after opsA W (main_arg2 : DevRef τ sig) = W (main_arg2 : DevRef τ sig) := fun W => by after_results
  have a3 : ∀ W : Valuation τ sig (Elt F), after opsA W (main_arg3 : DevRef τ sig) = W (main_arg3 : DevRef τ sig) := fun W => by after_results
  have a4 : ∀ W : Valuation τ sig (Elt F), after opsA W (main_arg4 : DevRef τ sig) = W (main_arg4 : DevRef τ sig) := fun W => by after_results
  have b3 : ∀ W : Valuation τ sig (Elt F), after opsB W (main_arg3 : DevRef τ sig) = W (main_arg3 : DevRef τ sig) := fun W => by after_results
  have b4 : ∀ W : Valuation τ sig (Elt F), after opsB W (main_arg4 : DevRef τ sig) = W (main_arg4 : DevRef τ sig) := fun W => by after_results
  have c3 : ∀ W : Valuation τ sig (Elt F), after opsC W (main_arg3 : DevRef τ sig) = W (main_arg3 : DevRef τ sig) := fun W => by after_results
  have c4 : ∀ W : Valuation τ sig (Elt F), after opsC W (main_arg4 : DevRef τ sig) = W (main_arg4 : DevRef τ sig) := fun W => by after_results
  rw [after_two, after_two, after_two, pro_eq, c3, b3, a3, c4, b4, a4, wei_eq, a1, mask_eq, sco_eq, que_eq, mask_eq, a2]
  rfl

/-- No operation writes an argument. -/
theorem args_eq (V : Valuation τ sig (Elt F)) :
    after (opsA ++ (opsB ++ (opsC ++ opsD))) V (main_arg0 : DevRef τ sig) = V (main_arg0 : DevRef τ sig)
    ∧ after (opsA ++ (opsB ++ (opsC ++ opsD))) V (main_arg1 : DevRef τ sig) = V (main_arg1 : DevRef τ sig)
    ∧ after (opsA ++ (opsB ++ (opsC ++ opsD))) V (main_arg2 : DevRef τ sig) = V (main_arg2 : DevRef τ sig)
    ∧ after (opsA ++ (opsB ++ (opsC ++ opsD))) V (main_arg3 : DevRef τ sig) = V (main_arg3 : DevRef τ sig)
    ∧ after (opsA ++ (opsB ++ (opsC ++ opsD))) V (main_arg4 : DevRef τ sig) = V (main_arg4 : DevRef τ sig) := by
  refine ⟨?_, ?_, ?_, ?_, ?_⟩ <;> (rw [after_two, after_two, after_two]; after_results)

/-- Nothing is scoped. -/
theorem scopedRefs_eq : (Finset.univ.filter fun b : Ref sig .tc => b.isScoped) = ∅ := by decide
/-- The reference has no semaphores of its own. -/
theorem scopedSems_eq : (Finset.univ.filter fun sm : SemLoc sig => sm.isScoped .tc) = ∅ := by decide

/-- On its one device the reference runs to its result, with the arguments unchanged, and ends at rest. -/
theorem run_main (m : (ℓ : Loc nD τ sig) → Buf (Elt F) ℓ) (ρ : Dev nD → PrngReg) :
    θ_run defs (onTc (τ := τ) (main (F := F))) ⟨m, fun _ => 0, ρ⟩ fun r =>
      (∀ c : Dev nD, r.2.mem ((c.tc : Thread nD τ).loc main_v38)
          = outR (m ((c.tc : Thread nD τ).loc main_arg0)) (m ((c.tc : Thread nD τ).loc main_arg1)) (m ((c.tc : Thread nD τ).loc main_arg2))
              (m ((c.tc : Thread nD τ).loc main_arg3)) (m ((c.tc : Thread nD τ).loc main_arg4))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4))
      ∧ r.2.sem = fun _ => 0 := by
  have h := run_seq (Val := Elt F) scopedRefs_eq scopedSems_eq defs main (fun _ => opsA ++ (opsB ++ (opsC ++ opsD))) main_eq
    (fun _ => by simp) m ρ
  refine (θ_run defs _ _).mono (fun r h => ⟨fun c => ?_, sem_eq_zero_of_no_sems rfl r.2⟩) h
  obtain ⟨h0, h1, h2, h3, h4⟩ := args_eq (launchContents m c)
  exact ⟨(h c main_v38).trans (out_eq _), (h c main_arg0).trans h0, (h c main_arg1).trans h1, (h c main_arg2).trans h2,
    (h c main_arg3).trans h3, (h c main_arg4).trans h4⟩

end Cert.RefProof
end
-- ==== Proof.Soft.lean ====
module

public import proofs.«01_k».proof.Proof.Ref
public import Idealize.ShloMosaic.PureOps.Ideal

@[expose] public section

/-! # Softmax over keys the mask drops

A row of 512 scores whose last 384 are −∞ has the same softmax average as its first 128 alone. -/

noncomputable section

namespace Cert.Value

open Idealize.ShloMosaic

/-- The greatest of a family of scores, −∞ if there is none. -/
def top {n : ℕ} (s : Fin n → EReal) : EReal := Finset.fold max ⊥ s Finset.univ

/-- Each score is at most the greatest. -/
theorem le_top' {n : ℕ} (s : Fin n → EReal) (j : Fin n) : s j ≤ top s :=
  Finset.le_sup (f := s) (Finset.mem_univ j)

/-- The greatest is at most every bound of all the scores. -/
theorem top_le {n : ℕ} (s : Fin n → EReal) (M : EReal) (h : ∀ j, s j ≤ M) : top s ≤ M :=
  Finset.sup_le (f := s) fun j _ => h j

/-- A score's exponential relative to the greatest. -/
def rel {n : ℕ} (s : Fin n → EReal) (j : Fin n) : EReal := Ideal.exp (s j - top s)

/-- A score's weight. -/
def wt {n : ℕ} (s : Fin n → EReal) (j : Fin n) : EReal := Ideal.div (rel s j) (∑ i, rel s i)

/-- Exponentials are not negative. -/
theorem exp_nonneg' (x : EReal) : 0 ≤ Ideal.exp x := by
  induction x using EReal.rec with
  | bot => exact le_refl _
  | top => exact le_top
  | coe r => exact EReal.coe_nonneg.2 (Real.exp_pos r).le

/-- The exponential of a number other than −∞ is positive. -/
theorem exp_pos' (x : EReal) (hx : x ≠ ⊥) : 0 < Ideal.exp x := by
  induction x using EReal.rec with
  | bot => exact absurd rfl hx
  | top => exact EReal.zero_lt_top
  | coe r => exact EReal.coe_pos.2 (Real.exp_pos r)

/-- The softmax average over 512 keys is the one over the first 128 when the others' scores are −∞. -/
theorem soft (s : Fin 512 → EReal) (t : Fin 128 → EReal) (hst : ∀ j : Fin 128, s (Fin.castAdd 384 j) = t j)
    (hbot : ∀ j : Fin 384, s (Fin.natAdd 128 j) = ⊥) (htop : ∀ j, t j ≠ ⊤) (h0 : t 0 ≠ ⊥)
    (u : Fin 512 → EReal) (v : Fin 128 → EReal) (huv : ∀ j : Fin 128, u (Fin.castAdd 384 j) = v j) :
    ∑ j, u j * wt s j = ∑ j, wt t j * v j := by
  have split : ∀ f : Fin 512 → EReal, (∀ j : Fin 384, f (Fin.natAdd 128 j) = 0) →
      ∑ j, f j = ∑ j : Fin 128, f (Fin.castAdd 384 j) := by
    intro f hf
    rw [show (∑ j, f j) = _ from Fin.sum_univ_add (a := 128) (b := 384) f, Finset.sum_eq_zero (fun j _ => hf j), add_zero]
  have hM : top s = top t := by
    apply le_antisymm
    · apply top_le
      intro j
      rcases Nat.lt_or_ge j.val 128 with h | h
      · rw [show j = Fin.castAdd 384 ⟨j.val, h⟩ from rfl, hst]; exact le_top' t _
      · have hj : j = Fin.natAdd 128 (⟨j.val - 128, by have := j.isLt; omega⟩ : Fin 384) := Fin.ext (show j.val = 128 + (j.val - 128) by omega)
        rw [hj, hbot]; exact bot_le
    · apply top_le
      intro j
      rw [← hst]; exact le_top' s _
  have hMt : top t ≠ ⊤ := by
    have : top t < ⊤ := (Finset.sup_lt_iff bot_lt_top).2 fun j _ => lt_top_iff_ne_top.2 (htop j)
    exact this.ne
  have hMb : top t ≠ ⊥ := fun h => h0 (le_bot_iff.1 (h ▸ le_top' t 0))
  have hrel : ∀ j : Fin 128, rel s (Fin.castAdd 384 j) = rel t j := fun j => by unfold rel; rw [hst, hM]
  have hrel0 : ∀ j : Fin 384, rel s (Fin.natAdd 128 j) = 0 := fun j => by
    unfold rel; rw [hbot, EReal.bot_sub]; rfl
  have hsum : ∑ j, rel s j = ∑ j, rel t j := by
    rw [split _ hrel0]; exact Finset.sum_congr rfl fun j _ => hrel j
  have hne : ∑ j, rel t j ≠ 0 := by
    have h1 : rel t 0 ≤ ∑ j, rel t j := Finset.single_le_sum (f := rel t) (fun j _ => exp_nonneg' _) (Finset.mem_univ 0)
    have h2 : 0 < rel t 0 := by
      apply exp_pos'
      intro h
      rw [sub_eq_add_neg, EReal.add_eq_bot_iff] at h
      rcases h with h | h
      · exact h0 h
      · exact hMt (by simpa using h)
    exact (h2.trans_le h1).ne'
  have hwt : ∀ j : Fin 128, wt s (Fin.castAdd 384 j) = wt t j := fun j => by unfold wt; rw [hrel, hsum]
  have hwt0 : ∀ j : Fin 384, wt s (Fin.natAdd 128 j) = 0 := fun j => by
    unfold wt; rw [hrel0, hsum]; unfold Ideal.div; rw [if_neg hne, zero_mul]
  rw [split _ fun j => by rw [hwt0, mul_zero]]
  exact Finset.sum_congr rfl fun j _ => by rw [hwt, huv, mul_comm]

end Cert.Value
end
-- ==== Proof.At.lean ====
module

public import proofs.«01_k».proof.Proof.Run
public import proofs.«01_k».proof.Proof.Soft
public import Idealize.ShloMosaic.Lib.Pointwise

@[expose] public section

/-! # The kernel's and the reference's attention, index by index -/

noncomputable section

namespace Cert.Value

open Idealize.ShloMosaic Idealize.ShloMosaic.TcCoe
open Cert.RefProof (queR scoR expR keepR weiR ctxR proR outR maskR blk128 blk512)
open Cert.KernelIdeal.Gen Cert.KIProof Cert.KernelIdeal

/-- The score scale, 1/8. -/
def e8 : EReal := Ideal.ofBits FTy.f32 1040187392#32

/-- It is the real number 1/8. -/
theorem e8_eq : e8 = ((1 / 8 : ℝ) : EReal) := by
  simp [e8, Ideal.ofBits, Ideal.ieee, -EReal.coe_mul]; norm_num

/-- The word of the f32 number −∞ stands for −∞. -/
theorem minf_eq : Ideal.ofBits FTy.f32 4286578688#32 = ⊥ := by
  simp [Ideal.ofBits, Ideal.ieee]

/-- The kernel's mask value, taken as −∞. -/
theorem mask_eq : (Named.named κ "mask" 3463342888#32 : Idealize.ShloMosaic.Ideal FTy.f32) = ⊥ :=
  IdealRules.named_const.ideal_named_scalar _ _ _ _ rfl

/-- A row's masked scores: a dropped key's is −∞. -/
def sc {n : ℕ} (b : Fin n → BitVec 1) (q : Fin 64 → EReal) (k : Fin n → Fin 64 → EReal) (j : Fin n) : EReal :=
  Scalar.select (b j) ((∑ d, q d * k j d) * e8) ⊥

/-- One head of the kernel: the softmax average of the values. -/
theorem head_at (mk : IVec S128x128 1) (q : FVec Idealize.ShloMosaic.Ideal S128x64 .bf16) (k v : S1x1x1x128x64.Idx → EReal)
    (z : Fin 1) (i : Fin 128) (d : Fin 64) :
    k0_pay13 (F := Idealize.ShloMosaic.Ideal) mk q k v (ix3 z i d)
      = ∑ j, wt (sc (fun j => mk (ix2 i j)) (fun d => q (ix2 i d)) (fun j d => k (ix5 0 0 0 j d))) j * v (ix5 0 0 0 j d) := by
  pointwise [k0_pay13]
  rw [minf_eq, mask_eq]
  rfl

/-- The reference's scores, -/
theorem sco_at (q : S2x128x16x64.Idx → EReal) (k : Cert.ReferenceIdeal.S2x512x16x64.Idx → EReal) (mk : IVec Cert.ReferenceIdeal.S128x512 1)
    (b : Fin 2) (h : Fin 16) (i : Fin 128) (j : Fin 512) :
    scoR (F := Idealize.ShloMosaic.Ideal) q k mk (ix4 b h i j)
      = sc (fun j => mk (ix2 i j)) (fun d => q (ix4 b i h d)) (fun j d => k (ix4 b j h d)) j := by
  pointwise [scoR]
  rw [minf_eq]
  rfl

/-- exponentials, -/
theorem exp_at (s : Cert.ReferenceIdeal.S2x16x128x512.Idx → EReal) (b : Fin 2) (h : Fin 16) (i : Fin 128) (j : Fin 512) :
    expR (F := Idealize.ShloMosaic.Ideal) s (ix4 b h i j) = rel (fun j => s (ix4 b h i j)) j := by
  pointwise [expR]
  rw [minf_eq]
  rfl

/-- weights where every row keeps a key, -/
theorem wei_at (e : Cert.ReferenceIdeal.S2x16x128x512.Idx → EReal) (mk : IVec Cert.ReferenceIdeal.S128x512 1)
    (hk : ∀ i : Fin 128, Finset.fold IntOp.ori (0#1) (fun x => mk (ix2 i x)) Finset.univ = 1#1)
    (b : Fin 2) (h : Fin 16) (i : Fin 128) (j : Fin 512) :
    weiR (F := Idealize.ShloMosaic.Ideal) e mk (ix4 b h i j) = Ideal.div (e (ix4 b h i j)) (∑ x, e (ix4 b h i x)) := by
  pointwise [weiR, keepR]
  rw [hk]
  rfl

/-- and average of the values. -/
theorem ctx_at (w : Cert.ReferenceIdeal.S2x16x128x512.Idx → EReal) (v : Cert.ReferenceIdeal.S2x512x16x64.Idx → EReal)
    (b : Fin 2) (i : Fin 128) (n : Fin 1024) (h : Fin 16) (d : Fin 64) (hn : n.val = 64 * h.val + d.val) :
    ctxR (F := Idealize.ShloMosaic.Ideal) w v (ix3 b i n) = ∑ j, v (ix4 b j h d) * w (ix4 b h i j) := by
  pointwise [ctxR]
  have h1 : n.val / 64 = h.val := by omega
  have h2 : n.val % 64 = d.val := by omega
  simp only [h1, h2]

/-- The comparison of two blocks' numbers. -/
theorem sle_blk (a b : ℕ) (ha : a < 8) (hb : b < 8) :
    IntOp.cmpi .sle (BitVec.ofNat 32 a) (BitVec.ofNat 32 b) = if a ≤ b then 1#1 else 0#1 := by
  have h : ∀ x y : Fin 8, IntOp.cmpi .sle (BitVec.ofNat 32 x.val) (BitVec.ofNat 32 y.val) = if x.val ≤ y.val then 1#1 else 0#1 := by
    decide +kernel
  exact h ⟨a, ha⟩ ⟨b, hb⟩

/-- The kernel keeps a key whose block is not past the query's. -/
theorem mskK (i j : Fin 128) : msk (ix2 i j) = if j.val / 64 ≤ i.val / 64 then 1#1 else 0#1 := by
  pointwise [msk, k0_pay11, k0_pay8, k0_pay9, k0_pay10]
  have h : ∀ n : Fin 128, (Scalar.select
        (IntOp.andi
          (IntOp.cmpi CmpIPredicate.ne
            (IntOp.subi (BitVec.setWidth 32 (IntOp.cmpi CmpIPredicate.sgt (BitVec.ofNat 32 n.val) 0#32))
              (BitVec.setWidth 32 (IntOp.cmpi CmpIPredicate.slt (BitVec.ofNat 32 n.val) 0#32)))
            (Scalar.subi (Scalar.extui (Scalar.cmpi CmpIPredicate.sgt 64#32 0#32))
              (Scalar.extui (Scalar.cmpi CmpIPredicate.slt 64#32 0#32))))
          (IntOp.cmpi CmpIPredicate.ne (IntOp.remsi ArithUnit.vector (BitVec.ofNat 32 n.val) 64#32) 0#32))
        (IntOp.subi (IntOp.divsi ArithUnit.vector (BitVec.ofNat 32 n.val) 64#32) 1#32)
        (IntOp.divsi ArithUnit.vector (BitVec.ofNat 32 n.val) 64#32)) = BitVec.ofNat 32 (n.val / 64) := by decide +kernel
  rw [h i, h j, sle_blk _ _ (by omega) (by omega)]

/-- So does the reference. -/
theorem mskR (i : Fin 128) (j : Fin 512) : maskR (ix2 i j) = if j.val / 64 ≤ i.val / 64 then 1#1 else 0#1 := by
  pointwise [maskR, blk128, blk512]
  have h : ∀ n : Fin 512, (Scalar.select
        (IntOp.andi
          (IntOp.cmpi CmpIPredicate.ne
            (if BitVec.ofNat 32 n.val = 0 then 0 else if (BitVec.ofNat 32 n.val).msb = true then -1 else 1 : BitVec 32)
            (if 64#32 = 0 then 0 else if (64#32).msb = true then -1 else 1 : BitVec 32))
          (IntOp.cmpi CmpIPredicate.ne (IntOp.remsi ArithUnit.host (BitVec.ofNat 32 n.val) 64#32) 0#32))
        (IntOp.subi (IntOp.divsi ArithUnit.host (BitVec.ofNat 32 n.val) 64#32) 1#32)
        (IntOp.divsi ArithUnit.host (BitVec.ofNat 32 n.val) 64#32)) = BitVec.ofNat 32 (n.val / 64) := by decide +kernel
  exact (congrArg₂ (IntOp.cmpi .sle) (h j) (h ⟨i.val, by omega⟩)).trans (sle_blk _ _ (by omega) (by omega))

/-- Every row keeps its first key. -/
theorem keep_row (i : Fin 128) : Finset.fold IntOp.ori (0#1) (fun x => maskR (ix2 i x)) Finset.univ = 1#1 := by
  have h0 : maskR (ix2 i (0 : Fin 512)) = 1#1 := by rw [mskR]; exact if_pos (Nat.zero_le _)
  rw [← Finset.insert_erase (Finset.mem_univ (0 : Fin 512)), Finset.fold_insert (Finset.notMem_erase _ _), h0]
  generalize Finset.fold IntOp.ori (0#1) (fun x => maskR (ix2 i x)) (Finset.univ.erase 0) = y
  revert y
  decide

/-- The reference's context is the softmax average of the values. -/
theorem ctxR_at (q : S2x128x16x64.Idx → EReal) (k v : Cert.ReferenceIdeal.S2x512x16x64.Idx → EReal)
    (b : Fin 2) (i : Fin 128) (n : Fin 1024) (h : Fin 16) (d : Fin 64) (hn : n.val = 64 * h.val + d.val) :
    ctxR (F := Idealize.ShloMosaic.Ideal) (weiR (expR (scoR q k maskR)) maskR) v (ix3 b i n)
      = ∑ j, v (ix4 b j h d) * wt (sc (fun j => maskR (ix2 i j)) (fun d => q (ix4 b i h d)) (fun j d => k (ix4 b j h d))) j := by
  rw [ctx_at _ _ b i n h d hn]
  refine Finset.sum_congr rfl fun j _ => ?_
  rw [wei_at _ _ keep_row]
  simp only [exp_at, sco_at]
  rfl

/-- The reference's queries, -/
theorem que_at (x : S2x128x512.Idx → EReal) (wq : Cert.ReferenceIdeal.S512x1024.Idx → EReal) (b : Fin 2) (i : Fin 128) (h : Fin 16) (d : Fin 64) :
    queR (F := Idealize.ShloMosaic.Ideal) x wq (ix4 b i h d)
      = ∑ t, x (ix3 b i t) * wq (ix2 t ⟨64 * h.val + d.val, by omega⟩) := by
  pointwise [queR]
  refine Finset.sum_congr rfl fun t _ => ?_
  congr 3
  exact Fin.ext (by simp only []; omega)

/-- and its projection. -/
theorem pro_at (y : Cert.ReferenceIdeal.S2x128x1024.Idx → EReal) (wo : Cert.ReferenceIdeal.S1024x512.Idx → EReal) (b : Fin 2) (i : Fin 128) (n : Fin 512) :
    proR (F := Idealize.ShloMosaic.Ideal) y wo (ix3 b i n) = ∑ x, y (ix3 b i x) * wo (ix2 x n) := by
  pointwise [proR]

end Cert.Value
end
-- ==== Proof.Parts.lean ====
module

public import proofs.«01_k».proof.Proof.At

@[expose] public section

/-! # The kernel's result from the whole arrays -/

noncomputable section

namespace Cert.Value

open Idealize.ShloMosaic Idealize.ShloMosaic.TcCoe
open Cert.RefProof (queR scoR expR keepR weiR ctxR proR outR maskR blk128 blk512)
open Cert.KernelIdeal.Gen Cert.KIProof Cert.KernelIdeal

local notation "𝕀" => Idealize.ShloMosaic.Ideal

/-- A slice of 64 columns of the queries. -/
theorem slice_at (o : ℕ) (ho : o + 64 ≤ 256) (hs) (q : FVec 𝕀 S128x256 .bf16) :
    extractStridedSlice S128x64 ![0, o] q hs
      = fun x => q (ix2 (x 0) ⟨o + (x 1).val, by have : (x 1).val < 64 := (x 1).isLt; omega⟩) := by
  funext x
  unfold extractStridedSlice
  refine congrArg q (funext fun a => ?_)
  match a with
  | 0 => exact Fin.ext (Nat.zero_add _)
  | 1 => rfl

/-- The queries of head `h`. -/
def qh (q : FVec 𝕀 S128x256 .bf16) (h : Fin 4) : FVec 𝕀 S128x64 .bf16 :=
  fun x => q (ix2 (x 0) ⟨64 * h.val + (x 1).val, by have : (x 1).val < 64 := (x 1).isLt; omega⟩)

variable (m : (ℓ : Loc nD τ sig) → Buf (Elt 𝕀) ℓ)

/-- The heads of batch 0 are one computation. -/
theorem hd0_eq (c : Dev nD) (h : Fin 4) : hd0 m c h = k0_pay13 msk (qh (q0 m c) h) (kt m c 0 h) (vt m c 0 h) := by
  match h with
  | 0 => exact congrArg (fun q => k0_pay13 msk q _ _) (slice_at 0 (by decide) slices_S128x256_o0_0_S128x64 _)
  | 1 => exact congrArg (fun q => k0_pay13 msk q _ _) (slice_at 64 (by decide) slices_S128x256_o0_64_S128x64 _)
  | 2 => exact congrArg (fun q => k0_pay13 msk q _ _) (slice_at 128 (by decide) slices_S128x256_o0_128_S128x64 _)
  | 3 => exact congrArg (fun q => k0_pay13 msk q _ _) (slice_at 192 (by decide) slices_S128x256_o0_192_S128x64 _)

/-- So are the heads of batch 1. -/
theorem hd1_eq (c : Dev nD) (h : Fin 4) : hd1 m c h = k0_pay13 msk (qh (q1 m c) h) (kt m c 1 h) (vt m c 1 h) := by
  match h with
  | 0 => exact congrArg (fun q => k0_pay13 msk q _ _) (slice_at 0 (by decide) slices_S128x256_o0_0_S128x64 _)
  | 1 => exact congrArg (fun q => k0_pay13 msk q _ _) (slice_at 64 (by decide) slices_S128x256_o0_64_S128x64 _)
  | 2 => exact congrArg (fun q => k0_pay13 msk q _ _) (slice_at 128 (by decide) slices_S128x256_o0_128_S128x64 _)
  | 3 => exact congrArg (fun q => k0_pay13 msk q _ _) (slice_at 192 (by decide) slices_S128x256_o0_192_S128x64 _)

/-- Both batches' queries, -/
def qB (c : Dev nD) (b : Fin 2) : FVec 𝕀 S128x256 .bf16 := if b.val = 0 then q0 m c else q1 m c

/-- heads -/
def hdB (c : Dev nD) (b : Fin 2) : Fin 4 → S1x128x64.Idx → EReal := if b.val = 0 then hd0 m c else hd1 m c

/-- and partial results. -/
def pB (c : Dev nD) (b : Fin 2) : S128x512.Idx → EReal := if b.val = 0 then p0 m c else p1 m c

/-- A query is the sum of the products of the activations and the query weights. -/
theorem q_at (c : Dev nD) (b : Fin 2) (i : Fin 128) (n : Fin 256) :
    qB m c b (ix2 i n) = ∑ t, xC m c (ix3 b i t) * wqC m c (ix2 t n) := by
  match b with
  | 0 => show k0_pay6 (xC m c) (wqC m c) (ix2 i n) = _; pointwise [k0_pay6, k0_pay3, k0_pay4]
  | 1 => show k0_pay7 (xC m c) (wqC m c) (ix2 i n) = _; pointwise [k0_pay7, k0_pay3, k0_pay4]

/-- Every head of either batch is computed by one and the same function. -/
theorem hd_eq (c : Dev nD) (b : Fin 2) (h : Fin 4) :
    hdB m c b h = k0_pay13 msk (qh (qB m c b) h) (kt m c b h) (vt m c b h) := by
  match b with
  | 0 => exact hd0_eq m c h
  | 1 => exact hd1_eq m c h

/-- A partial result is the sum of the products of the contexts and the output weights. -/
theorem p_at (c : Dev nD) (b : Fin 2) (i : Fin 128) (e : Fin 512) :
    pB m c b (ix2 i e) = ∑ n, cat4 (hdB m c b) (ix3 0 i n) * woC m c (ix2 n e) := by
  match b with
  | 0 => show k0_pay22 (wo m c) (cat4 (hd0 m c)) (ix2 i e) = _; pointwise [k0_pay22, wo, k0_pay5]; rfl
  | 1 => show k0_pay33 (wo m c) (cat4 (hd1 m c)) (ix2 i e) = _; pointwise [k0_pay33, wo, k0_pay5]; rfl

/-- What a device sends is its partial result. -/
theorem stg_at (c : Dev nD) (b : Fin 2) (i : Fin 128) (e : Fin 512) : STG m c (ix3 b i e) = pB m c b (ix2 i e) := by
  match b with
  | 0 => show k0_pay23 (wo m c) (cat4 (hd0 m c)) (ix3 0 i e) = _; pointwise [k0_pay23]; rfl
  | 1 => show k0_pay34 (wo m c) (cat4 (hd1 m c)) (ix3 0 i e) = _; pointwise [k0_pay34]; rfl

/-- The result is the sum of the four devices' partial results, the device's own first. -/
theorem out_at (c : Dev nD) (b : Fin 2) (i : Fin 128) (e : Fin 512) :
    OUT m c (ix3 b i e) = pB m c b (ix2 i e) + pB m (fr 0 c) b (ix2 i e) + pB m (fr 1 c) b (ix2 i e) + pB m (fr 2 c) b (ix2 i e) := by
  have har : ∀ k : Fin 3, ar m c k b (ix4 0 0 i e) = pB m (fr k c) b (ix2 i e) := fun k => stg_at m (fr k c) b i e
  rw [← har 0, ← har 1, ← har 2]
  match b with
  | 0 =>
    show k0_pay40 (k0_pay39 (k0_pay38 (k0_pay37 (k0_pay35 (p0 m c)) (ar m c 0 0))) (ar m c 1 0)) (ar m c 2 0) (ix3 0 i e) = _
    generalize ar m c 0 0 = a0
    generalize ar m c 1 0 = a1
    generalize ar m c 2 0 = a2
    pointwise [k0_pay40, k0_pay39, k0_pay38, k0_pay37, k0_pay35]
    rfl
  | 1 =>
    show k0_pay44 (k0_pay43 (k0_pay42 (k0_pay41 (k0_pay36 (p1 m c)) (ar m c 0 1))) (ar m c 1 1)) (ar m c 2 1) (ix3 0 i e) = _
    generalize ar m c 0 1 = a0
    generalize ar m c 1 1 = a1
    generalize ar m c 2 1 = a2
    pointwise [k0_pay44, k0_pay43, k0_pay42, k0_pay41, k0_pay36]
    rfl

end Cert.Value
end
-- ==== Proof.Join.lean ====
module

public import proofs.«01_k».proof.Proof.Parts

@[expose] public section

/-! # The four devices' partial results are the reference's result -/

noncomputable section

namespace Cert.Value

open Idealize.ShloMosaic Idealize.ShloMosaic.TcCoe
open Cert.RefProof (queR scoR expR keepR weiR ctxR proR outR maskR blk128 blk512)
open Cert.KernelIdeal.Gen Cert.KIProof Cert.KernelIdeal

local notation "𝕀" => Idealize.ShloMosaic.Ideal

/-- A finite number. -/
def Fn (x : EReal) : Prop := ∃ r : ℝ, x = r

/-- A product of finite numbers is finite. -/
theorem Fn.mul {x y : EReal} (hx : Fn x) (hy : Fn y) : Fn (x * y) := by
  obtain ⟨a, rfl⟩ := hx
  obtain ⟨b, rfl⟩ := hy
  exact ⟨a * b, (EReal.coe_mul a b).symm⟩

/-- A sum of finite numbers is finite. -/
theorem Fn.sum {ι : Type} (s : Finset ι) (f : ι → EReal) (h : ∀ i, Fn (f i)) : Fn (∑ i ∈ s, f i) :=
  Finset.sum_induction f Fn (fun x y ⟨a, ha⟩ ⟨b, hb⟩ => ⟨a + b, by rw [ha, hb, EReal.coe_add]⟩) ⟨0, rfl⟩ fun i _ => h i

/-- A finite number is not +∞. -/
theorem Fn.ne_top {x : EReal} (hx : Fn x) : x ≠ ⊤ := by obtain ⟨a, rfl⟩ := hx; exact EReal.coe_ne_top a

/-- A finite number is not −∞. -/
theorem Fn.ne_bot {x : EReal} (hx : Fn x) : x ≠ ⊥ := by obtain ⟨a, rfl⟩ := hx; exact EReal.coe_ne_bot a

/-- What the devices hold of the whole arrays, and which of it is finite. -/
structure Agree (m : (ℓ : Loc nD τ sig) → Buf (Elt 𝕀) ℓ) (X : S2x128x512.Idx → EReal) (W : Cert.ReferenceIdeal.S512x1024.Idx → EReal)
    (K V : Cert.ReferenceIdeal.S2x512x16x64.Idx → EReal) (O : Cert.ReferenceIdeal.S1024x512.Idx → EReal) : Prop where
  x : ∀ c, xC m c = X
  w : ∀ (c : Dev nD) (t : Fin 512) (n : Fin 256), wqC m c (ix2 t n) = W (ix2 t ⟨256 * c.val + n.val, by have : c.val < 4 := c.isLt; omega⟩)
  k : ∀ (b : Fin 2) (h : Fin 16) (j : Fin 128) (d : Fin 64), kC m 0 (ix4 b h j d) = K (ix4 b (Fin.castAdd 384 j) h d)
  v : ∀ (b : Fin 2) (h : Fin 16) (j : Fin 128) (d : Fin 64), vC m 0 (ix4 b h j d) = V (ix4 b (Fin.castAdd 384 j) h d)
  o : ∀ (c : Dev nD) (n : Fin 256) (e : Fin 512), woC m c (ix2 n e) = O (ix2 ⟨256 * c.val + n.val, by have : c.val < 4 := c.isLt; omega⟩ e)
  fx : ∀ i, Fn (X i)
  fw : ∀ i, Fn (W i)
  fk : ∀ (b : Fin 2) (h : Fin 16) (j : Fin 128) (d : Fin 64), Fn (K (ix4 b (Fin.castAdd 384 j) h d))

variable {m : (ℓ : Loc nD τ sig) → Buf (Elt 𝕀) ℓ} {X : S2x128x512.Idx → EReal} {W : Cert.ReferenceIdeal.S512x1024.Idx → EReal}
  {K V : Cert.ReferenceIdeal.S2x512x16x64.Idx → EReal} {O : Cert.ReferenceIdeal.S1024x512.Idx → EReal}

/-- A device's queries are the reference's of its heads. -/
theorem Agree.que (A : Agree m X W K V O) (c : Dev nD) (b : Fin 2) (i : Fin 128) (h : Fin 4) (d : Fin 64) :
    qh (qB m c b) h (ix2 i d) = queR (F := 𝕀) X W (ix4 b i (hdIx c h) d) := by
  rw [que_at]
  show qB m c b (ix2 i _) = _
  rw [q_at]
  refine Finset.sum_congr rfl fun t _ => ?_
  rw [A.x, A.w]
  congr 3
  exact Fin.ext (show 256 * c.val + (64 * h.val + d.val) = 64 * (4 * c.val + h.val) + d.val by omega)

/-- The reference's queries are finite. -/
theorem Agree.que_fn (A : Agree m X W K V O) (b : Fin 2) (i : Fin 128) (h : Fin 16) (d : Fin 64) :
    Fn (queR (F := 𝕀) X W (ix4 b i h d)) := by
  rw [que_at]
  exact Fn.sum _ _ fun t => (A.fx _).mul (A.fw _)

/-- The average over the reference's 512 keys is the one over the first 128, whatever the queries, keys and values. -/
theorem avg (i : Fin 128) (q : Fin 64 → EReal) (k : Fin 512 → Fin 64 → EReal) (u : Fin 512 → EReal) (q' : Fin 64 → EReal)
    (k' : Fin 128 → Fin 64 → EReal) (v : Fin 128 → EReal) (hq : q' = q) (hk : ∀ j, k (Fin.castAdd 384 j) = k' j)
    (hu : ∀ j : Fin 128, u (Fin.castAdd 384 j) = v j) (fq : ∀ d, Fn (q d)) (fk : ∀ j d, Fn (k' j d)) :
    ∑ j, wt (sc (fun j => msk (ix2 i j)) q' k') j * v j = ∑ j, u j * wt (sc (fun j => maskR (ix2 i j)) q k) j := by
  subst hq
  have hfn : ∀ j : Fin 128, Fn ((∑ d, q' d * k' j d) * e8) := fun j =>
    (Fn.sum _ _ fun d => (fq d).mul (fk j d)).mul ⟨_, e8_eq⟩
  refine (soft _ _ (fun j => ?_) (fun j => ?_) (fun j => ?_) ?_ u v hu).symm
  · unfold sc
    beta_reduce
    rw [mskR, mskK, hk]
    rfl
  · unfold sc
    beta_reduce
    rw [mskR, if_neg (show ¬ (Fin.natAdd 128 j).val / 64 ≤ i.val / 64 by rw [Fin.val_natAdd]; omega)]
    rfl
  · unfold sc
    beta_reduce
    rw [mskK]
    split
    · exact (hfn j).ne_top
    · exact bot_ne_top
  · unfold sc
    beta_reduce
    rw [mskK, if_pos (show (0 : Fin 128).val / 64 ≤ i.val / 64 from Nat.zero_le _)]
    exact (hfn 0).ne_bot

/-- The keys of a head are the first 128 of the reference's, -/
theorem Agree.key (A : Agree m X W K V O) (c : Dev nD) (b : Fin 2) (h : Fin 4) (j : Fin 128) (d : Fin 64) :
    kt m c b h (ix5 0 0 0 j d) = K (ix4 b (Fin.castAdd 384 j) (hdIx c h) d) := A.k b (hdIx c h) j d

/-- and so are the values. -/
theorem Agree.val (A : Agree m X W K V O) (c : Dev nD) (b : Fin 2) (h : Fin 4) (j : Fin 128) (d : Fin 64) :
    vt m c b h (ix5 0 0 0 j d) = V (ix4 b (Fin.castAdd 384 j) (hdIx c h) d) := A.v b (hdIx c h) j d

/-- One head of a device is the reference's. -/
theorem Agree.head (A : Agree m X W K V O) (c : Dev nD) (b : Fin 2) (i : Fin 128) (h : Fin 4) (d : Fin 64) :
    hdB m c b h (ix3 0 i d) = ∑ j, V (ix4 b j (hdIx c h) d) * wt (sc (fun j => maskR (ix2 i j))
      (fun d => queR (F := 𝕀) X W (ix4 b i (hdIx c h) d)) (fun j d => K (ix4 b j (hdIx c h) d))) j := by
  rw [hd_eq, head_at]
  refine avg i _ _ _ _ _ _ (funext fun d => A.que c b i h d) (fun j => funext fun d => (A.key c b h j d).symm)
    (fun j => (A.val c b h j d).symm) (fun d => A.que_fn b i _ d) (fun j d => ?_)
  rw [A.key]
  exact A.fk _ _ _ _

/-- Column `64 h + d` of four heads side by side is column `d` of head `h`. -/
theorem cat4_at (w : Fin 4 → S1x128x64.Idx → EReal) (i : Fin 128) (n : Fin 256) (h : Fin 4) (d : Fin 64) (hn : n.val = 64 * h.val + d.val) :
    cat4 w (ix3 0 i n) = w h (ix3 0 i d) := by
  have e : h = ⟨n.val / 64, by omega⟩ := Fin.ext (by show h.val = n.val / 64; omega)
  have e' : d = ⟨n.val % 64, by omega⟩ := Fin.ext (by show d.val = n.val % 64; omega)
  exact (congrArg₂ (fun a b => w a (ix3 0 i b)) e e').symm

/-- Each of the 256 columns is a column of one of four heads. -/
theorem split64 (n : Fin 256) : ∃ (h : Fin 4) (d : Fin 64), n.val = 64 * h.val + d.val :=
  ⟨⟨n.val / 64, by omega⟩, ⟨n.val % 64, by omega⟩, (Nat.div_add_mod n.val 64).symm⟩

/-- A device's context is the reference's, at the columns of its heads. -/
theorem Agree.ctx (A : Agree m X W K V O) (c : Dev nD) (b : Fin 2) (i : Fin 128) (n : Fin 256) (n' : Fin 1024) (hn' : n'.val = 256 * c.val + n.val) :
    cat4 (hdB m c b) (ix3 0 i n) = ctxR (F := 𝕀) (weiR (expR (scoR (queR X W) K maskR)) maskR) V (ix3 b i n') := by
  obtain ⟨h, d, hn⟩ := split64 n
  have e1 := cat4_at (hdB m c b) i n h d hn
  have e2 := A.head c b i h d
  have e3 : n'.val = 64 * (hdIx c h).val + d.val := by
    show n'.val = 64 * (4 * c.val + h.val) + d.val
    omega
  rw [e1, e2]
  exact (ctxR_at (queR (F := 𝕀) X W) K V b i n' (hdIx c h) d e3).symm

/-- A sum over 1024 columns is one over four devices' 256. -/
theorem sum_dev (f : Fin 1024 → EReal) :
    ∑ n, f n = ∑ c : Fin 4, ∑ n : Fin 256, f ⟨256 * c.val + n.val, by omega⟩ := by
  rw [← Fintype.sum_prod_type' (f := fun (c : Fin 4) (n : Fin 256) => f ⟨256 * c.val + n.val, by omega⟩)]
  refine (Fintype.sum_equiv (finProdFinEquiv (m := 4) (n := 256)) _ _ fun p => ?_).symm
  refine congrArg f (Fin.ext ?_)
  show 256 * p.1.val + p.2.val = p.2.val + 256 * p.1.val
  omega

/-- The partial results of the four devices, from any device on, add up to the same. -/
theorem sum_ring (g : Dev nD → EReal) (c : Dev nD) : g c + g (fr 0 c) + g (fr 1 c) + g (fr 2 c) = ∑ c : Fin 4, g c := by
  rw [Fin.sum_univ_four]
  match c with
  | 0 => show g 0 + g 3 + g 2 + g 1 = _; ac_rfl
  | 1 => show g 1 + g 0 + g 3 + g 2 = _; ac_rfl
  | 2 => show g 2 + g 1 + g 0 + g 3 = _; ac_rfl
  | 3 => show g 3 + g 2 + g 1 + g 0 = _; ac_rfl

/-- Each device's result is the reference's. -/
theorem Agree.out (A : Agree m X W K V O) (c : Dev nD) : OUT m c = outR (F := 𝕀) X W K V O := by
  funext x
  obtain ⟨b, i, e, rfl⟩ : ∃ (b : Fin 2) (i : Fin 128) (e : Fin 512), x = ix3 b i e := ⟨x 0, x 1, x 2, eq_ix3 x⟩
  rw [out_at, sum_ring (fun c => pB m c b (ix2 i e)) c]
  show _ = proR (F := 𝕀) (ctxR (weiR (expR (scoR (queR X W) K maskR)) maskR) V) O (ix3 b i e)
  rw [pro_at, sum_dev]
  refine Finset.sum_congr rfl fun c _ => ?_
  rw [p_at]
  refine Finset.sum_congr rfl fun n _ => ?_
  rw [A.o, A.ctx c b i n ⟨256 * c.val + n.val, by omega⟩ rfl]

end Cert.Value
end
-- ==== Proof.Blocks.lean ====
module

public import proofs.«01_k».proof.Defs
public import proofs.«01_k».proof.Proof.Join
public import Idealize.ShloMosaic.Lib.ReduceAll
public import Idealize.ShloMosaic.Lib.Claim

@[expose] public section

/-! # What the devices hold, from the arguments -/

noncomputable section

namespace Cert.Value

open Idealize.ShloMosaic Idealize.ShloMosaic.TcCoe
open Cert.KernelIdeal.Gen Cert.KIProof Cert.KernelIdeal

local notation "𝕀" => Idealize.ShloMosaic.Ideal

variable (m : (ℓ : Loc nD τ sig) → Buf (Elt 𝕀) ℓ)

/-- The block of the first operand is all of it; -/
theorem xC_eq (c : Dev nD) : xC m c = m ((c : Thread nD τ).loc main_arg0) := by
  funext x
  have hV : V m c (Pipeline.arrRef spec0 0) = m ((c : Thread nD τ).loc main_arg0) := V_main_arg0 m c
  show V m c (Pipeline.arrRef spec0 0) _ = _
  rw [hV]
  refine congrArg (m ((c : Thread nD τ).loc main_arg0)) (funext fun a => Fin.ext ?_)
  show win0_0.index t0_0 a * win0_0.size a + 1 * (x a).val = (x a).val
  have h : ∀ a, win0_0.index t0_0 a * win0_0.size a = 0 := by decide +kernel
  rw [h a, Nat.zero_add, Nat.one_mul]

/-- the second's; -/
theorem wqC_eq (c : Dev nD) : wqC m c = m ((c : Thread nD τ).loc main_arg1) := by
  funext x
  have hV : V m c (Pipeline.arrRef spec0 1) = m ((c : Thread nD τ).loc main_arg1) := V_main_arg1 m c
  show V m c (Pipeline.arrRef spec0 1) _ = _
  rw [hV]
  refine congrArg (m ((c : Thread nD τ).loc main_arg1)) (funext fun a => Fin.ext ?_)
  show win0_1.index t0_0 a * win0_1.size a + 1 * (x a).val = (x a).val
  have h : ∀ a, win0_1.index t0_0 a * win0_1.size a = 0 := by decide +kernel
  rw [h a, Nat.zero_add, Nat.one_mul]

/-- the fifth's; -/
theorem woC_eq (c : Dev nD) : woC m c = m ((c : Thread nD τ).loc main_arg4) := by
  funext x
  have hV : V m c (Pipeline.arrRef spec0 4) = m ((c : Thread nD τ).loc main_arg4) := V_main_arg4 m c
  show V m c (Pipeline.arrRef spec0 4) _ = _
  rw [hV]
  refine congrArg (m ((c : Thread nD τ).loc main_arg4)) (funext fun a => Fin.ext ?_)
  show win0_4.index t0_0 a * win0_4.size a + 1 * (x a).val = (x a).val
  have h : ∀ a, win0_4.index t0_0 a * win0_4.size a = 0 := by decide +kernel
  rw [h a, Nat.zero_add, Nat.one_mul]

/-- the keys' is the third argument with its two middle axes exchanged; -/
theorem kC_eq (c : Dev nD) (b : Fin 2) (h : Fin 16) (j : Fin 128) (d : Fin 64) :
    kC m c (ix4 b h j d) = m ((c : Thread nD τ).loc main_arg2) (ix4 b j h d) := by
  have hV : V m c main_v1 = transpose S2x16x128x64 [0, 2, 1, 3] (m ((c : Thread nD τ).loc main_arg2)) transposes_S2x128x16x64_S2x16x128x64_0_2_1_3 := by
    entry_read
    rfl
  have e : kC m c (ix4 b h j d) = V m c main_v1 (ix4 b h j d) := by
    show V m c main_v1 _ = _
    refine congrArg (V m c main_v1) (funext fun a => Fin.ext ?_)
    show win0_2.index t0_0 a * win0_2.size a + 1 * (ix4 b h j d a).val = (ix4 b h j d a).val
    have h : ∀ a, win0_2.index t0_0 a * win0_2.size a = 0 := by decide +kernel
    rw [h a, Nat.zero_add, Nat.one_mul]
  rw [e, hV]
  pointwise

/-- the values' likewise the fourth. -/
theorem vC_eq (c : Dev nD) (b : Fin 2) (h : Fin 16) (j : Fin 128) (d : Fin 64) :
    vC m c (ix4 b h j d) = m ((c : Thread nD τ).loc main_arg3) (ix4 b j h d) := by
  have hV : V m c main_v2 = transpose S2x16x128x64 [0, 2, 1, 3] (m ((c : Thread nD τ).loc main_arg3)) transposes_S2x128x16x64_S2x16x128x64_0_2_1_3 := by
    entry_read
    rfl
  have e : vC m c (ix4 b h j d) = V m c main_v2 (ix4 b h j d) := by
    show V m c main_v2 _ = _
    refine congrArg (V m c main_v2) (funext fun a => Fin.ext ?_)
    show win0_3.index t0_0 a * win0_3.size a + 1 * (ix4 b h j d a).val = (ix4 b h j d a).val
    have h : ∀ a, win0_3.index t0_0 a * win0_3.size a = 0 := by decide +kernel
    rw [h a, Nat.zero_add, Nat.one_mul]
  rw [e, hV]
  pointwise

/-- The side conditions of the precondition over one device's shapes. -/
instance preFacts : Cert.Pre_finite_KernelIdeal.Facts where
  bcast_S_S2x128x512 := by decide
  reducesTo_S2x128x512_S_d0_1_2 := by decide
  h_S_ := by decide
  bcast_S_S512x256 := by decide
  reducesTo_S512x256_S_d0_1 := by decide
  bcast_S_S2x128x16x64 := by decide
  reducesTo_S2x128x16x64_S_d0_1_2_3 := by decide

/-- The word of the bf16 number +∞ stands for +∞. -/
theorem inf_eq : Ideal.ofBits FTy.bf16 0x7F80#16 = ⊤ := by
  simp [Ideal.ofBits, Ideal.ieee]

/-- A number less than +∞ in magnitude is finite. -/
theorem fn_of (x : EReal) (h : Ideal.cmp .olt (max x (-x)) (Ideal.ofBits FTy.bf16 0x7F80#16) = 1#1) : Fn x := by
  rw [inf_eq] at h
  induction x using EReal.rec with
  | bot => simp [Ideal.cmp] at h
  | top => simp [Ideal.cmp] at h
  | coe r => exact ⟨r, rfl⟩

/-- The precondition says that three of the arrays are finite. -/
theorem fn_facts (x : FVec 𝕀 Cert.Pre_finite_KernelIdeal.S2x128x512 .bf16) (w : FVec 𝕀 Cert.Pre_finite_KernelIdeal.S512x256 .bf16)
    (k v : FVec 𝕀 Cert.Pre_finite_KernelIdeal.S2x128x16x64 .bf16) (o : FVec 𝕀 Cert.Pre_finite_KernelIdeal.S256x512 .bf16)
    (h : Cert.Pre_finite_KernelIdeal.fn (F := 𝕀) x w k v o = fun _ => 1#1) :
    (∀ i, Fn (x i)) ∧ (∀ i, Fn (w i)) ∧ ∀ i, Fn (k i) := by
  have h0 := congrFun h (fun a => a.elim0)
  dsimp only [Cert.Pre_finite_KernelIdeal.fn] at h0
  obtain ⟨h1, hk⟩ := IntOp.andi_eq_one.1 h0
  obtain ⟨hx, hw⟩ := IntOp.andi_eq_one.1 h1
  haveI : Subsingleton Cert.Pre_finite_KernelIdeal.S_.Idx := ⟨fun _ _ => funext fun a => a.elim0⟩
  exact ⟨fun i => fn_of _ (Host.reduce_andi_all _ _ _ _ _ hx i), fun i => fn_of _ (Host.reduce_andi_all _ _ _ _ _ hw i),
    fun i => fn_of _ (Host.reduce_andi_all _ _ _ _ _ hk i)⟩

end Cert.Value
end
-- ==== Proof.Algebra.lean ====
module

public import proofs.«01_k».proof.Defs
public import proofs.«01_k».proof.Proof.Twin
public import proofs.«01_k».proof.Proof.Blocks

@[expose] public section

noncomputable section

namespace Cert.Value

open Idealize.ShloMosaic Idealize.ShloMosaic.TcCoe Idealize.SL.Sem
open Cert.KIProof (OUT)

/-- What the arguments hold, element by element, and which of it is finite. -/
theorem agree_of (m : (ℓ : Loc Cert.KernelIdeal.nD Cert.KernelIdeal.τ Cert.KernelIdeal.sig) → Buf (Elt Ideal) ℓ)
    (X : Cert.KernelIdeal.S2x128x512.Idx → EReal) (W : Cert.ReferenceIdeal.S512x1024.Idx → EReal)
    (K V : Cert.ReferenceIdeal.S2x512x16x64.Idx → EReal) (O : Cert.ReferenceIdeal.S1024x512.Idx → EReal)
    (hx : ∀ c : Dev Cert.KernelIdeal.nD, m ((c.tc : Thread Cert.KernelIdeal.nD Cert.KernelIdeal.τ).loc Cert.KernelIdeal.main_arg0) = X)
    (hw : ∀ c : Dev Cert.KernelIdeal.nD, m ((c.tc : Thread Cert.KernelIdeal.nD Cert.KernelIdeal.τ).loc Cert.KernelIdeal.main_arg1)
      = Layout.block ⟨2, ![512, 256]⟩ ⟨2, ![512, 1024]⟩ 1 4 c W)
    (hk : m (((0 : Dev Cert.KernelIdeal.nD).tc : Thread Cert.KernelIdeal.nD Cert.KernelIdeal.τ).loc Cert.KernelIdeal.main_arg2)
      = Layout.block ⟨4, ![2, 128, 16, 64]⟩ ⟨4, ![2, 512, 16, 64]⟩ 1 4 (0 : Fin 4) K)
    (hv : m (((0 : Dev Cert.KernelIdeal.nD).tc : Thread Cert.KernelIdeal.nD Cert.KernelIdeal.τ).loc Cert.KernelIdeal.main_arg3)
      = Layout.block ⟨4, ![2, 128, 16, 64]⟩ ⟨4, ![2, 512, 16, 64]⟩ 1 4 (0 : Fin 4) V)
    (ho : ∀ c : Dev Cert.KernelIdeal.nD, m ((c.tc : Thread Cert.KernelIdeal.nD Cert.KernelIdeal.τ).loc Cert.KernelIdeal.main_arg4)
      = Layout.block ⟨2, ![256, 512]⟩ ⟨2, ![1024, 512]⟩ 0 4 c O)
    (fx : ∀ i : Cert.KernelIdeal.S2x128x512.Idx, Fn (m (((0 : Dev Cert.KernelIdeal.nD).tc : Thread Cert.KernelIdeal.nD Cert.KernelIdeal.τ).loc Cert.KernelIdeal.main_arg0) i))
    (fw : ∀ (c : Dev Cert.KernelIdeal.nD) (i : Cert.KernelIdeal.S512x256.Idx), Fn (m ((c.tc : Thread Cert.KernelIdeal.nD Cert.KernelIdeal.τ).loc Cert.KernelIdeal.main_arg1) i))
    (fk : ∀ i : Cert.KernelIdeal.S2x128x16x64.Idx, Fn (m (((0 : Dev Cert.KernelIdeal.nD).tc : Thread Cert.KernelIdeal.nD Cert.KernelIdeal.τ).loc Cert.KernelIdeal.main_arg2) i)) :
    Agree m X W K V O := by
  have kAt : ∀ (A : Cert.ReferenceIdeal.S2x512x16x64.Idx → EReal) (b : Fin 2) (h : Fin 16) (j : Fin 128) (d : Fin 64),
      Layout.block ⟨4, ![2, 128, 16, 64]⟩ ⟨4, ![2, 512, 16, 64]⟩ 1 4 (0 : Fin 4) A (by decide) (ix4 b j h d) = A (ix4 b (Fin.castAdd 384 j) h d) := by
    intro A b h j d
    refine congrArg A (funext fun a => Fin.ext ?_)
    match a with
    | 0 => rfl
    | 1 => exact (show 0 * 128 + j.val = j.val by omega)
    | 2 => rfl
    | 3 => rfl
  have wAt : ∀ (c : Dev Cert.KernelIdeal.nD) (t : Fin 512) (n : Fin 256) (hn),
      Layout.block ⟨2, ![512, 256]⟩ ⟨2, ![512, 1024]⟩ 1 4 c W (by decide) (ix2 t n) = W (ix2 t ⟨256 * c.val + n.val, hn⟩) := by
    intro c t n hn
    refine congrArg W (funext fun a => Fin.ext ?_)
    match a with
    | 0 => rfl
    | 1 => exact (show c.val * 256 + n.val = 256 * c.val + n.val by omega)
  have oAt : ∀ (c : Dev Cert.KernelIdeal.nD) (n : Fin 256) (e : Fin 512) (hn),
      Layout.block ⟨2, ![256, 512]⟩ ⟨2, ![1024, 512]⟩ 0 4 c O (by decide) (ix2 n e) = O (ix2 ⟨256 * c.val + n.val, hn⟩ e) := by
    intro c n e hn
    refine congrArg O (funext fun a => Fin.ext ?_)
    match a with
    | 0 => exact (show c.val * 256 + n.val = 256 * c.val + n.val by omega)
    | 1 => rfl
  refine ⟨fun c => ?_, fun c t n => ?_, fun b h j d => ?_, fun b h j d => ?_, fun c n e => ?_, fun i => ?_, fun i => ?_, fun b h j d => ?_⟩
  · rw [xC_eq]; exact hx c
  · rw [wqC_eq]; exact (congrFun (hw c) _).trans (wAt c t n _)
  · rw [kC_eq]; exact (congrFun hk _).trans (kAt K b h j d)
  · rw [vC_eq]; exact (congrFun hv _).trans (kAt V b h j d)
  · rw [woC_eq]; exact (congrFun (ho c) _).trans (oAt c n e _)
  · exact (congrFun (hx 0) i) ▸ fx i
  · obtain ⟨t, n, rfl⟩ : ∃ (t : Fin 512) (n : Fin 1024), i = ix2 t n := ⟨i 0, i 1, eq_ix2 i⟩
    have hq : n.val / 256 < 4 := by omega
    have h := fw ⟨n.val / 256, hq⟩ (ix2 t ⟨n.val % 256, Nat.mod_lt _ (by decide)⟩)
    have e := (congrFun (hw ⟨n.val / 256, hq⟩) (ix2 t ⟨n.val % 256, Nat.mod_lt _ (by decide)⟩)).trans
      (wAt ⟨n.val / 256, hq⟩ t ⟨n.val % 256, Nat.mod_lt _ (by decide)⟩ (by show 256 * (n.val / 256) + n.val % 256 < 1024; omega))
    have en : (⟨256 * (n.val / 256) + n.val % 256, by omega⟩ : Fin 1024) = n := Fin.ext (Nat.div_add_mod n.val 256)
    rw [← en]
    exact e ▸ h
  · exact ((congrFun hk (ix4 b j h d)).trans (kAt K b h j d)) ▸ fk (ix4 b j h d)

/-- Each device's result is the reference's. -/
theorem out_value (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal_finite_KernelIdeal m)
    (hagree : ∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![512, 256]⟩ ⟨2, ![512, 1024]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨4, ![2, 128, 16, 64]⟩ ⟨4, ![2, 512, 16, 64]⟩ 1 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![2, 128, 16, 64]⟩ ⟨4, ![2, 512, 16, 64]⟩ 1 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![256, 512]⟩ ⟨2, ![1024, 512]⟩ 0 4 c (m' (((0 : Dev Cert.ReferenceIdeal.nD).tc : Thread Cert.ReferenceIdeal.nD Cert.ReferenceIdeal.τ).loc Cert.ReferenceIdeal.main_arg4)))
    (c : Dev Cert.KernelIdeal.nD) :
    OUT m c = Cert.RefProof.outR (F := Ideal)
      (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2))
      (m' (((0 : Dev Cert.ReferenceIdeal.nD).tc : Thread Cert.ReferenceIdeal.nD Cert.ReferenceIdeal.τ).loc Cert.ReferenceIdeal.main_arg3))
      (m' (((0 : Dev Cert.ReferenceIdeal.nD).tc : Thread Cert.ReferenceIdeal.nD Cert.ReferenceIdeal.τ).loc Cert.ReferenceIdeal.main_arg4)) := by
  generalize m' (((0 : Dev Cert.ReferenceIdeal.nD).tc : Thread Cert.ReferenceIdeal.nD Cert.ReferenceIdeal.τ).loc Cert.ReferenceIdeal.main_arg0) = X at hagree ⊢
  generalize m' (((0 : Dev Cert.ReferenceIdeal.nD).tc : Thread Cert.ReferenceIdeal.nD Cert.ReferenceIdeal.τ).loc Cert.ReferenceIdeal.main_arg1) = W at hagree ⊢
  generalize m' (((0 : Dev Cert.ReferenceIdeal.nD).tc : Thread Cert.ReferenceIdeal.nD Cert.ReferenceIdeal.τ).loc Cert.ReferenceIdeal.main_arg2) = K at hagree ⊢
  generalize m' (((0 : Dev Cert.ReferenceIdeal.nD).tc : Thread Cert.ReferenceIdeal.nD Cert.ReferenceIdeal.τ).loc Cert.ReferenceIdeal.main_arg3) = V at hagree ⊢
  generalize m' (((0 : Dev Cert.ReferenceIdeal.nD).tc : Thread Cert.ReferenceIdeal.nD Cert.ReferenceIdeal.τ).loc Cert.ReferenceIdeal.main_arg4) = O at hagree ⊢
  have hf := fun c => fn_facts _ _ _ _ _ (hpre c)
  exact Agree.out (agree_of m X W K V O (fun c => (hagree c).1) (fun c => (hagree c).2.1) (hagree 0).2.2.1 (hagree 0).2.2.2.1
    (fun c => (hagree c).2.2.2.2) (hf 0).1 (fun c => (hf c).2.1) (hf 0).2.2) c

end Cert.Value
end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Twin
public import proofs.«01_k».proof.Proof.Ref
public import proofs.«01_k».proof.Proof.Algebra

@[expose] public section

noncomputable section

namespace Cert.Proof

open Idealize.ShloMosaic Idealize.SL.Sem

/-- The side conditions of the precondition over the reference's shapes. -/
instance preFactsR : Cert.Pre_finite_ReferenceIdeal.Facts where
  bcast_S_S2x128x512 := by decide
  reducesTo_S2x128x512_S_d0_1_2 := by decide
  h_S_ := by decide
  bcast_S_S512x1024 := by decide
  reducesTo_S512x1024_S_d0_1 := by decide
  bcast_S_S2x512x16x64 := by decide
  reducesTo_S2x512x16x64_S_d0_1_2_3 := by decide

/-- The reference ends at rest with its arguments unchanged. -/
theorem quiet_ref : Cert.quiescent_ReferenceIdeal := fun m g _ =>
  (θ_run _ _ _).mono (fun _ hr => ⟨fun c => (hr.1 c).2, hr.2⟩) (Cert.RefProof.run_main m g)

/-- The mask's word is minus infinity among the ideal values. -/
theorem mask_named : Cert.preserves_Kernel_KernelIdeal :=
  IdealRules.named_const.statement Cert.KernelIdeal.κ "mask" .f32 0xCE6E6B28#32 ⊥ rfl

/-- Every device ends with the reference's result. -/
theorem same : Cert.algebraic_KernelIdeal_ReferenceIdeal_pre_finite_KernelIdeal := fun m g m' g' hpre hagree =>
  ⟨_, (θ_run _ _ _).mono (fun _ hr c => ⟨(hr.1 c).1.trans (Cert.Value.out_value m m' hpre hagree c), (hr.1 c).2⟩)
      (Cert.KIProof.run_main m g),
    (θ_run _ _ _).mono (fun _ hr => hr.1 0) (Cert.RefProof.run_main m' g')⟩

/-- Everything claimed. -/
theorem claim : Cert.Claim :=
  ⟨Cert.Kernel.Gen.facts, Cert.KernelIdeal.Gen.facts, Cert.ReferenceIdeal.Gen.facts, Cert.Value.preFacts, preFactsR,
    Cert.KIProof.quiet_bits, Cert.KIProof.quiet_ideal, fun m g _ => Cert.KIProof.quiet_ideal m g trivial, quiet_ref,
    fun m g _ => quiet_ref m g trivial, mask_named, same⟩

end Cert.Proof

end
